-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_idx_in_rows : Cert.Pre_idx_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_rows : Cert.Pre_idx_in_rows.Facts] (m : (ℓ : Loc Cert.Reference.nD Cert.Reference.τ Cert.Reference.sig) → Buf (Elt Bits) ℓ) : Prop :=
  ∀ c : Dev Cert.Reference.nD,
    (Cert.Pre_idx_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_tiles_in_range : Cert.Pre_tiles_in_range.Facts] (m : (ℓ : Loc Cert.Kernel2.nD Cert.Kernel2.τ Cert.Kernel2.sig) → Buf (Elt Bits) ℓ) : Prop :=
  ∀ c : Dev Cert.Kernel2.nD,
    (Cert.Pre_tiles_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tiles_in_range : Cert.Pre_tiles_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_tiles_in_range : Cert.Pre_tiles_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_idx_in_rows : Cert.Pre_idx_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_rows : Cert.Pre_idx_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_tiles_in_range : Cert.Pre_tiles_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tiles_in_range : Cert.Pre_tiles_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_tiles_in_range : Cert.Pre_tiles_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal_on_rows_in_use [hKernel2Ideal : Cert.Kernel2Ideal.Facts] [hReference2Ideal : Cert.Reference2Ideal.Facts] [hPre_tiles_in_range : Cert.Pre_tiles_in_range.Facts] [hOn_rows_in_use : Cert.On_rows_in_use.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![40960, 512]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 i = 1#1 → r.2.mem ((c.tc : Thread Cert.Kernel2Ideal.nD Cert.Kernel2Ideal.τ).loc Cert.Kernel2Ideal.main_v0_0) i = v0 c i)
          ∧ (∀ i : (⟨2, ![40960, 512]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 i = 1#1 → r.2.mem ((c.tc : Thread Cert.Kernel2Ideal.nD Cert.Kernel2Ideal.τ).loc Cert.Kernel2Ideal.main_v0_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![40960, 512]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 i = 1#1 → r.2.mem ((c.tc : Thread Cert.Reference2Ideal.nD Cert.Reference2Ideal.τ).loc Cert.Reference2Ideal.main_v44) i = v0 c i)
          ∧ (∀ i : (⟨2, ![40960, 512]⟩ : Shape).Idx, (Cert.On_rows_in_use.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 i = 1#1 → r.2.mem ((c.tc : Thread Cert.Reference2Ideal.nD Cert.Reference2Ideal.τ).loc Cert.Reference2Ideal.main_v47) i = v1 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)) (v4 : (c : Dev Cert.Kernel4Ideal.nD) → Buf (Elt Ideal) ((c.tc : Thread Cert.Kernel4Ideal.nD Cert.Kernel4Ideal.τ).loc Cert.Kernel4Ideal.main_v20_4)) (v5 : (c : Dev Cert.Kernel4Ideal.nD) → Buf (Elt Ideal) ((c.tc : Thread Cert.Kernel4Ideal.nD Cert.Kernel4Ideal.τ).loc Cert.Kernel4Ideal.main_v20_5)) (v6 : (c : Dev Cert.Kernel4Ideal.nD) → Buf (Elt Ideal) ((c.tc : Thread Cert.Kernel4Ideal.nD Cert.Kernel4Ideal.τ).loc Cert.Kernel4Ideal.main_v20_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_v20_4) = v4 c
          ∧ r.2.mem ((c.tc : Thread Cert.Kernel4Ideal.nD Cert.Kernel4Ideal.τ).loc Cert.Kernel4Ideal.main_v20_5) = v5 c
          ∧ r.2.mem ((c.tc : Thread Cert.Kernel4Ideal.nD Cert.Kernel4Ideal.τ).loc Cert.Kernel4Ideal.main_v20_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_v83) = v2 c
          ∧ r.2.mem ((c.tc : Thread Cert.Reference4Ideal.nD Cert.Reference4Ideal.τ).loc Cert.Reference4Ideal.main_v84) = v3 c
          ∧ r.2.mem ((c.tc : Thread Cert.Reference4Ideal.nD Cert.Reference4Ideal.τ).loc Cert.Reference4Ideal.main_v86) = v4 c
          ∧ r.2.mem ((c.tc : Thread Cert.Reference4Ideal.nD Cert.Reference4Ideal.τ).loc Cert.Reference4Ideal.main_v88) = v5 c
          ∧ r.2.mem ((c.tc : Thread Cert.Reference4Ideal.nD Cert.Reference4Ideal.τ).loc Cert.Reference4Ideal.main_v100) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v27_0)) (v1 : (c : Dev Cert.Kernel5Ideal.nD) → Buf (Elt Ideal) ((c.tc : Thread Cert.Kernel5Ideal.nD Cert.Kernel5Ideal.τ).loc Cert.Kernel5Ideal.main_v27_1)) (v2 : (c : Dev Cert.Kernel5Ideal.nD) → Buf (Elt Ideal) ((c.tc : Thread Cert.Kernel5Ideal.nD Cert.Kernel5Ideal.τ).loc Cert.Kernel5Ideal.main_v27_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v27_0) = v0 c
          ∧ r.2.mem ((c.tc : Thread Cert.Kernel5Ideal.nD Cert.Kernel5Ideal.τ).loc Cert.Kernel5Ideal.main_v27_1) = v1 c
          ∧ r.2.mem ((c.tc : Thread Cert.Kernel5Ideal.nD Cert.Kernel5Ideal.τ).loc Cert.Kernel5Ideal.main_v27_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)) (v2 : (c : Dev Cert.Kernel6Ideal.nD) → Buf (Elt Ideal) ((c.tc : Thread Cert.Kernel6Ideal.nD Cert.Kernel6Ideal.τ).loc Cert.Kernel6Ideal.main_v27_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_v27_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_idx_in_rows : Cert.Pre_idx_in_rows.Facts) (hPre_tiles_in_range : Cert.Pre_tiles_in_range.Facts) (hOn_rows_in_use : Cert.On_rows_in_use.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_ReferenceIdeal (hReferenceIdeal := hReferenceIdeal) (hPre_idx_in_rows := hPre_idx_in_rows)
    ∧ quiescent_Reference (hReference := hReference) (hPre_idx_in_rows := hPre_idx_in_rows)
    ∧ quiescent_Kernel2 (hKernel2 := hKernel2) (hPre_tiles_in_range := hPre_tiles_in_range)
    ∧ quiescent_Kernel2Ideal (hKernel2Ideal := hKernel2Ideal) (hPre_tiles_in_range := hPre_tiles_in_range)
    ∧ quiescent_Reference2Ideal (hReference2Ideal := hReference2Ideal) (hPre_tiles_in_range := hPre_tiles_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_idx_in_rows := hPre_idx_in_rows)
    ∧ bitexact_Kernel_Reference (hKernel := hKernel) (hReference := hReference) (hPre_idx_in_rows := hPre_idx_in_rows)
    ∧ preserves_Kernel2_Kernel2Ideal
    ∧ algebraic_Kernel2Ideal_Reference2Ideal_on_rows_in_use (hKernel2Ideal := hKernel2Ideal) (hReference2Ideal := hReference2Ideal) (hPre_tiles_in_range := hPre_tiles_in_range) (hOn_rows_in_use := hOn_rows_in_use)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== On_rows_in_use.lean ====
abbrev S80 : Shape := ⟨1, ![80]⟩
abbrev S1 : Shape := ⟨1, ![1]⟩
abbrev S40960x256 : Shape := ⟨2, ![40960, 256]⟩
abbrev S16x1024x512 : Shape := ⟨3, ![16, 1024, 512]⟩
abbrev S16x512x1024 : Shape := ⟨3, ![16, 512, 1024]⟩
abbrev S40960x512 : Shape := ⟨2, ![40960, 512]⟩
abbrev S_ : Shape := ⟨0, ![]⟩
abbrev S1x1 : Shape := ⟨2, ![1, 1]⟩

class Facts : Prop where
  bcast_S_S1 : S_.BroadcastsInDim S1 (![] : Fin 0 → Fin S1.rank)
  bcast_S1_S1x1_1 : S1.BroadcastsInDim S1x1 (![1] : Fin 1 → Fin S1x1.rank)
  bcast_S1x1_S40960x512_0_1 : S1x1.BroadcastsInDim S40960x512 (![0, 1] : Fin 2 → Fin S40960x512.rank)

variable [Facts]

def fn {F : FTy → Type} [FloatOps F] (main_arg0 : IVec S80 32) (main_arg1 : IVec S1 32) (main_arg2 : IVec S40960x256 32) (main_arg3 : IVec S40960x256 32) (main_arg4 : FVec F S16x1024x512 .f32) (main_arg5 : FVec F S16x1024x512 .f32) (main_arg6 : FVec F S16x512x1024 .f32) : IVec S40960x512 1 × IVec S40960x512 1 :=
  let main_v0 : IVec S40960x512 32 := iotaInDim S40960x512 32 0
  let main_c : IVec S_ 32 := constantI S_ 32 512#32
  let main_v1 : IVec S1 32 := broadcastInDim S1 ![] bcast_S_S1 main_c
  let main_v2 : IVec S1 32 := muli main_arg1 main_v1
  let main_v3 : IVec S1x1 32 := broadcastInDim S1x1 ![1] bcast_S1_S1x1_1 main_v2
  let main_v4 : IVec S40960x512 32 := broadcastInDim S40960x512 ![0, 1] bcast_S1x1_S40960x512_0_1 main_v3
  let main_v5 : IVec S40960x512 1 := cmpi .slt main_v0 main_v4
  (main_v5, main_v5)
-- ==== Pre_idx_in_rows.lean ====
abbrev S40960x256 : Shape := ⟨2, ![40960, 256]⟩
abbrev S32768 : Shape := ⟨1, ![32768]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : IVec S40960x256 32) (main_arg1 : IVec S32768 32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 40960#32
  let main_v2 : IVec S32768 32 := broadcastInDim S32768 ![] bcast_S_S32768 main_c_0
  let main_v3 : IVec S32768 1 := cmpi .slt main_arg1 main_v2
  let main_v4 : IVec S32768 1 := andi main_v1 main_v3
  main_v4
-- ==== Pre_tiles_in_range.lean ====
abbrev S80 : Shape := ⟨1, ![80]⟩
abbrev S1 : Shape := ⟨1, ![1]⟩
abbrev S40960x256 : Shape := ⟨2, ![40960, 256]⟩
abbrev S16x1024x512 : Shape := ⟨3, ![16, 1024, 512]⟩
abbrev S16x512x1024 : Shape := ⟨3, ![16, 512, 1024]⟩
abbrev S_ : Shape := ⟨0, ![]⟩

class Facts : Prop where
  bcast_S_S80 : S_.BroadcastsInDim S80 (![] : Fin 0 → Fin S80.rank)
  bcast_S_S1 : S_.BroadcastsInDim S1 (![] : Fin 0 → Fin S1.rank)
  bcast_S1_S80_0 : S1.BroadcastsInDim S80 (![0] : Fin 1 → Fin S80.rank)

variable [Facts]

def fn {F : FTy → Type} [FloatOps F] (main_arg0 : IVec S80 32) (main_arg1 : IVec S1 32) (main_arg2 : IVec S40960x256 32) (main_arg3 : IVec S40960x256 32) (main_arg4 : FVec F S16x1024x512 .f32) (main_arg5 : FVec F S16x1024x512 .f32) (main_arg6 : FVec F S16x512x1024 .f32) : IVec S80 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 16#32
  let main_v2 : IVec S80 32 := broadcastInDim S80 ![] bcast_S_S80 main_c_0
  let main_v3 : IVec S80 1 := cmpi .slt main_arg0 main_v2
  let main_v4 : IVec S80 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S80 1 := broadcastInDim S80 ![0] bcast_S1_S80_0 main_v6
  let main_v8 : IVec S80 1 := andi main_v4 main_v7
  let main_c_2 : IVec S_ 32 := constantI S_ 32 80#32
  let main_v9 : IVec S1 32 := broadcastInDim S1 ![] bcast_S_S1 main_c_2
  let main_v10 : IVec S1 1 := cmpi .sle main_arg1 main_v9
  let main_v11 : IVec S80 1 := broadcastInDim S80 ![0] bcast_S1_S80_0 main_v10
  let main_v12 : IVec S80 1 := andi main_v8 main_v11
  main_v12
-- ==== Kernel.lean ====
abbrev S40960x256 : Shape := ⟨2, ![40960, 256]⟩
abbrev S32768 : Shape := ⟨1, ![32768]⟩
abbrev S1x32768 : Shape := ⟨2, ![1, 32768]⟩
abbrev S32768x256 : Shape := ⟨2, ![32768, 256]⟩
abbrev S2x1x128 : Shape := ⟨3, ![2, 1, 128]⟩
abbrev S2 : Shape := ⟨1, ![2]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S128x2x128 : Shape := ⟨3, ![128, 2, 128]⟩
abbrev S128 : Shape := ⟨1, ![128]⟩
abbrev S40960x2x128 : Shape := ⟨3, ![40960, 2, 128]⟩

abbrev nBuf : Table → Nat
  | .hbm => 4
  | .local .scVector .vmem => 2
  | _ => 0

abbrev bufTy : (tb : Table) → Fin (nBuf tb) → BufTy
  | .hbm, ⟨0, _⟩ => ⟨S40960x256, .i32⟩
  | .hbm, ⟨1, _⟩ => ⟨S32768, .i32⟩
  | .hbm, ⟨2, _⟩ => ⟨S1x32768, .i32⟩
  | .hbm, ⟨3, _⟩ => ⟨S32768x256, .i32⟩
  | .local .scVector .vmem, ⟨0, _⟩ => ⟨S2x1x128, .i32⟩
  | .local .scVector .vmem, ⟨1, _⟩ => ⟨S2x128x256, .i32⟩
  | _, _ => ⟨S40960x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x256.size a ≤ S2x128x256.size a) ∧
  (∀ (hinb : ∀ a, (k0_off10 arg8_r0) a + S1x128x256.size a ≤ S2x128x256.size a), (Rect.unit (s := S2x128x256) (k0_off10 arg8_r0) S1x128x256.size hinb).LeadingBlock)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2.1
theorem k0_off10_leadingi32 : ∀ (arg8_r0 : BitVec 32) (k0_hw2 : k0_chk2 arg8_r0), (Rect.unit (s := S2x128x256) (k0_off10 arg8_r0) S1x128x256.size (k0_off10_inb arg8_r0 k0_hw2)).LeadingBlock := fun arg8_r0 k0_hw2 => k0_hw2.2 (k0_off10_inb arg8_r0 k0_hw2)

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S32768x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S32768x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S32768x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S32768x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x256.size a ≤ S32768x256.size a)
theorem k0_off19_inb : ∀ (i : grid0.Coords) (v33_4_r0 : BitVec 32) (k0_hw5 : k0_chk5 i v33_4_r0), ∀ a, (k0_off19 i v33_4_r0) a + S128x256.size a ≤ S32768x256.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S40960x256 : Shape := ⟨2, ![40960, 256]⟩
abbrev S32768 : Shape := ⟨1, ![32768]⟩
abbrev S_ : Shape := ⟨0, ![]⟩
abbrev S32768x1 : Shape := ⟨2, ![32768, 1]⟩
abbrev S32768x256 : Shape := ⟨2, ![32768, 256]⟩

abbrev nBuf : Space → Nat
  | .hbm => 11
  | .vmem => 0
  | .smem => 0
  | _ => 0

abbrev bufTy : (tb : Table) → Fin (tcTables nBuf tb) → BufTy
  | .hbm, ⟨0, _⟩ => ⟨S40960x256, .i32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i1⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S32768x1, .i32⟩
  | .hbm, ⟨10, _⟩ => ⟨S32768x256, .i32⟩
  | _, _ => ⟨S40960x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S80 : Shape := ⟨1, ![80]⟩
abbrev S1 : Shape := ⟨1, ![1]⟩
abbrev S40960x256 : Shape := ⟨2, ![40960, 256]⟩
abbrev S16x1024x512 : Shape := ⟨3, ![16, 1024, 512]⟩
abbrev S16x512x1024 : Shape := ⟨3, ![16, 512, 1024]⟩
abbrev S40960x512 : Shape := ⟨2, ![40960, 512]⟩
abbrev S512x256 : Shape := ⟨2, ![512, 256]⟩
abbrev S1x1024x512 : Shape := ⟨3, ![1, 1024, 512]⟩
abbrev S1x512x1024 : Shape := ⟨3, ![1, 512, 1024]⟩
abbrev S512x512 : Shape := ⟨2, ![512, 512]⟩
abbrev S1024x512 : Shape := ⟨2, ![1024, 512]⟩
abbrev S512x1024 : Shape := ⟨2, ![512, 1024]⟩

abbrev nBuf : Space → Nat
  | .hbm => 7
  | .vmem => 17
  | .smem => 2
  | _ => 0

abbrev bufTy : (tb : Table) → Fin (tcTables nBuf tb) → BufTy
  | .hbm, ⟨0, _⟩ => ⟨S40960x256, .i32⟩
  | .hbm, ⟨1, _⟩ => ⟨S40960x256, .i32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S40960x512, .bf16⟩
  | .hbm, ⟨6, _⟩ => ⟨S40960x512, .bf16⟩
  | .local _ .vmem, ⟨0, _⟩ => ⟨S512x256, .i32⟩
  | .local _ .vmem, ⟨1, _⟩ => ⟨S512x256, .i32⟩
  | .local _ .vmem, ⟨2, _⟩ => ⟨S512x256, .i32⟩
  | .local _ .vmem, ⟨3, _⟩ => ⟨S512x256, .i32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1x512x1024, .f32⟩
  | .local _ .vmem, ⟨9, _⟩ => ⟨S1x512x1024, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1024x512, .bf16⟩
  | .local _ .vmem, ⟨15, _⟩ => ⟨S1024x512, .bf16⟩
  | .local _ .vmem, ⟨16, _⟩ => ⟨S512x1024, .bf16⟩
  | .local _ .smem, ⟨0, _⟩ => ⟨S80, .i32⟩
  | .local _ .smem, ⟨1, _⟩ => ⟨S1, .i32⟩
  | _, _ => ⟨S40960x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0_0 : Ref sig .tc := ⟨.hbm, 5, rfl⟩
abbrev main_v0_1 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![80], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S80 : Shape := ⟨1, ![80]⟩
abbrev S1 : Shape := ⟨1, ![1]⟩
abbrev S40960x256 : Shape := ⟨2, ![40960, 256]⟩
abbrev S16x1024x512 : Shape := ⟨3, ![16, 1024, 512]⟩
abbrev S16x512x1024 : Shape := ⟨3, ![16, 512, 1024]⟩
abbrev S_ : Shape := ⟨0, ![]⟩
abbrev S40960x1024 : Shape := ⟨2, ![40960, 1024]⟩
abbrev S80x512x1024 : Shape := ⟨3, ![80, 512, 1024]⟩
abbrev S80x1 : Shape := ⟨2, ![80, 1]⟩
abbrev S80x1024x512 : Shape := ⟨3, ![80, 1024, 512]⟩
abbrev S80x512x512 : Shape := ⟨3, ![80, 512, 512]⟩
abbrev S40960x512 : Shape := ⟨2, ![40960, 512]⟩

abbrev nBuf : Space → Nat
  | .hbm => 73
  | .vmem => 0
  | .smem => 0
  | _ => 0

abbrev bufTy : (tb : Table) → Fin (tcTables nBuf tb) → BufTy
  | .hbm, ⟨0, _⟩ => ⟨S80, .i32⟩
  | .hbm, ⟨1, _⟩ => ⟨S1, .i32⟩
  | .hbm, ⟨2, _⟩ => ⟨S40960x256, .i32⟩
  | .hbm, ⟨3, _⟩ => ⟨S40960x256, .i32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S_, .i32⟩
  | .hbm, ⟨8, _⟩ => ⟨S40960x256, .i32⟩
  | .hbm, ⟨9, _⟩ => ⟨S40960x256, .i32⟩
  | .hbm, ⟨10, _⟩ => ⟨S40960x256, .f32⟩
  | .hbm, ⟨11, _⟩ => ⟨S_, .i32⟩
  | .hbm, ⟨12, _⟩ => ⟨S40960x256, .i32⟩
  | .hbm, ⟨13, _⟩ => ⟨S40960x256, .i32⟩
  | .hbm, ⟨14, _⟩ => ⟨S40960x256, .f32⟩
  | .hbm, ⟨15, _⟩ => ⟨S_, .i32⟩
  | .hbm, ⟨16, _⟩ => ⟨S40960x256, .i32⟩
  | .hbm, ⟨17, _⟩ => ⟨S40960x256, .i32⟩
  | .hbm, ⟨18, _⟩ => ⟨S40960x256, .f32⟩
  | .hbm, ⟨19, _⟩ => ⟨S_, .i32⟩
  | .hbm, ⟨20, _⟩ => ⟨S40960x256, .i32⟩
  | .hbm, ⟨21, _⟩ => ⟨S40960x256, .i32⟩
  | .hbm, ⟨22, _⟩ => ⟨S40960x256, .f32⟩
  | .hbm, ⟨23, _⟩ => ⟨S40960x1024, .f32⟩
  | .hbm, ⟨24, _⟩ => ⟨S80x512x1024, .f32⟩
  | .hbm, ⟨25, _⟩ => ⟨S_, .i32⟩
  | .hbm, ⟨26, _⟩ => ⟨S80, .i32⟩
  | .hbm, ⟨27, _⟩ => ⟨S80, .i1⟩
  | .hbm, ⟨28, _⟩ => ⟨S_, .i32⟩
  | .hbm, ⟨29, _⟩ => ⟨S80, .i32⟩
  | .hbm, ⟨30, _⟩ => ⟨S80, .i32⟩
  | .hbm, ⟨31, _⟩ => ⟨S80, .i32⟩
  | .hbm, ⟨32, _⟩ => ⟨S80x1, .i32⟩
  | .hbm, ⟨33, _⟩ => ⟨S80x1024x512, .f32⟩
  | .hbm, ⟨34, _⟩ => ⟨S80x512x512, .f32⟩
  | .hbm, ⟨35, _⟩ => ⟨S80x512x512, .f32⟩
  | .hbm, ⟨36, _⟩ => ⟨S80x512x512, .f32⟩
  | .hbm, ⟨37, _⟩ => ⟨S_, .f32⟩
  | .hbm, ⟨38, _⟩ => ⟨S80x512x512, .f32⟩
  | .hbm, ⟨39, _⟩ => ⟨S80x512x512, .f32⟩
  | .hbm, ⟨40, _⟩ => ⟨S_, .f32⟩
  | .hbm, ⟨41, _⟩ => ⟨S80x512x512, .f32⟩
  | .hbm, ⟨42, _⟩ => ⟨S80x512x512, .f32⟩
  | .hbm, ⟨43, _⟩ => ⟨S80x512x512, .f32⟩
  | .hbm, ⟨44, _⟩ => ⟨S_, .i32⟩
  | .hbm, ⟨45, _⟩ => ⟨S80, .i32⟩
  | .hbm, ⟨46, _⟩ => ⟨S80, .i1⟩
  | .hbm, ⟨47, _⟩ => ⟨S_, .i32⟩
  | .hbm, ⟨48, _⟩ => ⟨S80, .i32⟩
  | .hbm, ⟨49, _⟩ => ⟨S80, .i32⟩
  | .hbm, ⟨50, _⟩ => ⟨S80, .i32⟩
  | .hbm, ⟨51, _⟩ => ⟨S80x1, .i32⟩
  | .hbm, ⟨52, _⟩ => ⟨S80x1024x512, .f32⟩
  | .hbm, ⟨53, _⟩ => ⟨S80x512x512, .f32⟩
  | .hbm, ⟨54, _⟩ => ⟨S80x512x512, .f32⟩
  | .hbm, ⟨55, _⟩ => ⟨S_, .i32⟩
  | .hbm, ⟨56, _⟩ => ⟨S80, .i32⟩
  | .hbm, ⟨57, _⟩ => ⟨S80, .i1⟩
  | .hbm, ⟨58, _⟩ => ⟨S_, .i32⟩
  | .hbm, ⟨59, _⟩ => ⟨S80, .i32⟩
  | .hbm, ⟨60, _⟩ => ⟨S80, .i32⟩
  | .hbm, ⟨61, _⟩ => ⟨S80, .i32⟩
  | .hbm, ⟨62, _⟩ => ⟨S80x1, .i32⟩
  | .hbm, ⟨63, _⟩ => ⟨S80x512x1024, .f32⟩
  | .hbm, ⟨64, _⟩ => ⟨S80x512x1024, .f32⟩
  | .hbm, ⟨65, _⟩ => ⟨S40960x1024, .f32⟩
  | .hbm, ⟨66, _⟩ => ⟨S40960x1024, .bf16⟩
  | .hbm, ⟨67, _⟩ => ⟨S40960x256, .bf16⟩
  | .hbm, ⟨68, _⟩ => ⟨S40960x256, .bf16⟩
  | .hbm, ⟨69, _⟩ => ⟨S40960x512, .bf16⟩
  | .hbm, ⟨70, _⟩ => ⟨S40960x256, .bf16⟩
  | .hbm, ⟨71, _⟩ => ⟨S40960x256, .bf16⟩
  | .hbm, ⟨72, _⟩ => ⟨S40960x512, .bf16⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== Kernel3.lean ====
abbrev S16384x1024 : Shape := ⟨2, ![16384, 1024]⟩
abbrev S32768x256 : Shape := ⟨2, ![32768, 256]⟩
abbrev S16384x128 : Shape := ⟨2, ![16384, 128]⟩
abbrev S32768x1024 : Shape := ⟨2, ![32768, 1024]⟩
abbrev S512x1024 : Shape := ⟨2, ![512, 1024]⟩
abbrev S512x256 : Shape := ⟨2, ![512, 256]⟩
abbrev S512x128 : Shape := ⟨2, ![512, 128]⟩
abbrev S512x1 : Shape := ⟨2, ![512, 1]⟩

abbrev nBuf : Space → Nat
  | .hbm => 10
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S32768x256, .i32⟩
  | .hbm, ⟨2, _⟩ => ⟨S32768x256, .i32⟩
  | .hbm, ⟨3, _⟩ => ⟨S16384x128, .f32⟩
  | .hbm, ⟨4, _⟩ => ⟨S16384x1024, .f32⟩
  | .hbm, ⟨5, _⟩ => ⟨S32768x256, .i32⟩
  | .hbm, ⟨6, _⟩ => ⟨S32768x256, .i32⟩
  | .hbm, ⟨7, _⟩ => ⟨S16384x128, .f32⟩
  | .hbm, ⟨8, _⟩ => ⟨S32768x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .i32⟩
  | .local _ .vmem, ⟨3, _⟩ => ⟨S512x256, .i32⟩
  | .local _ .vmem, ⟨4, _⟩ => ⟨S512x256, .i32⟩
  | .local _ .vmem, ⟨5, _⟩ => ⟨S512x256, .i32⟩
  | .local _ .vmem, ⟨6, _⟩ => ⟨S512x256, .i32⟩
  | .local _ .vmem, ⟨7, _⟩ => ⟨S512x256, .i32⟩
  | .local _ .vmem, ⟨8, _⟩ => ⟨S512x256, .i32⟩
  | .local _ .vmem, ⟨9, _⟩ => ⟨S512x256, .i32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x256, .i32⟩
  | .local _ .vmem, ⟨17, _⟩ => ⟨S512x256, .i32⟩
  | .local _ .vmem, ⟨18, _⟩ => ⟨S512x256, .i32⟩
  | .local _ .vmem, ⟨19, _⟩ => ⟨S512x256, .i32⟩
  | .local _ .vmem, ⟨20, _⟩ => ⟨S512x256, .i32⟩
  | .local _ .vmem, ⟨21, _⟩ => ⟨S512x256, .i32⟩
  | .local _ .vmem, ⟨22, _⟩ => ⟨S512x256, .i32⟩
  | .local _ .vmem, ⟨23, _⟩ => ⟨S512x256, .i32⟩
  | .local _ .vmem, ⟨24, _⟩ => ⟨S512x128, .f32⟩
  | .local _ .vmem, ⟨25, _⟩ => ⟨S512x128, .f32⟩
  | .local _ .vmem, ⟨26, _⟩ => ⟨S512x1024, .f32⟩
  | .local _ .vmem, ⟨27, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference3Ideal.lean ====
abbrev S16384x1024 : Shape := ⟨2, ![16384, 1024]⟩
abbrev S32768x256 : Shape := ⟨2, ![32768, 256]⟩
abbrev S16384x128 : Shape := ⟨2, ![16384, 128]⟩
abbrev S_ : Shape := ⟨0, ![]⟩
abbrev S32768x1024 : Shape := ⟨2, ![32768, 1024]⟩
abbrev S2x16384x1024 : Shape := ⟨3, ![2, 16384, 1024]⟩
abbrev S16384x2 : Shape := ⟨2, ![16384, 2]⟩
abbrev S16384x1 : Shape := ⟨2, ![16384, 1]⟩
abbrev S1x16384x1024 : Shape := ⟨3, ![1, 16384, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32768x256, .i32⟩
  | .hbm, ⟨2, _⟩ => ⟨S32768x256, .i32⟩
  | .hbm, ⟨3, _⟩ => ⟨S16384x128, .f32⟩
  | .hbm, ⟨4, _⟩ => ⟨S16384x1024, .f32⟩
  | .hbm, ⟨5, _⟩ => ⟨S32768x256, .i32⟩
  | .hbm, ⟨6, _⟩ => ⟨S32768x256, .i32⟩
  | .hbm, ⟨7, _⟩ => ⟨S16384x128, .f32⟩
  | .hbm, ⟨8, _⟩ => ⟨S_, .i32⟩
  | .hbm, ⟨9, _⟩ => ⟨S32768x256, .i32⟩
  | .hbm, ⟨10, _⟩ => ⟨S32768x256, .i32⟩
  | .hbm, ⟨11, _⟩ => ⟨S32768x256, .f32⟩
  | .hbm, ⟨12, _⟩ => ⟨S_, .i32⟩
  | .hbm, ⟨13, _⟩ => ⟨S32768x256, .i32⟩
  | .hbm, ⟨14, _⟩ => ⟨S32768x256, .i32⟩
  | .hbm, ⟨15, _⟩ => ⟨S32768x256, .f32⟩
  | .hbm, ⟨16, _⟩ => ⟨S_, .i32⟩
  | .hbm, ⟨17, _⟩ => ⟨S32768x256, .i32⟩
  | .hbm, ⟨18, _⟩ => ⟨S32768x256, .i32⟩
  | .hbm, ⟨19, _⟩ => ⟨S32768x256, .f32⟩
  | .hbm, ⟨20, _⟩ => ⟨S_, .i32⟩
  | .hbm, ⟨21, _⟩ => ⟨S32768x256, .i32⟩
  | .hbm, ⟨22, _⟩ => ⟨S32768x256, .i32⟩
  | .hbm, ⟨23, _⟩ => ⟨S32768x256, .f32⟩
  | .hbm, ⟨24, _⟩ => ⟨S32768x1024, .f32⟩
  | .hbm, ⟨25, _⟩ => ⟨S2x16384x1024, .f32⟩
  | .hbm, ⟨26, _⟩ => ⟨S16384x2, .f32⟩
  | .hbm, ⟨27, _⟩ => ⟨S16384x1, .f32⟩
  | .hbm, ⟨28, _⟩ => ⟨S1x16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1, .f32⟩
  | .hbm, ⟨33, _⟩ => ⟨S1x16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .i32⟩
  | .hbm, ⟨40, _⟩ => ⟨S32768x256, .i32⟩
  | .hbm, ⟨41, _⟩ => ⟨S32768x256, .i32⟩
  | .hbm, ⟨42, _⟩ => ⟨S32768x256, .f32⟩
  | .hbm, ⟨43, _⟩ => ⟨S_, .i32⟩
  | .hbm, ⟨44, _⟩ => ⟨S32768x256, .i32⟩
  | .hbm, ⟨45, _⟩ => ⟨S32768x256, .i32⟩
  | .hbm, ⟨46, _⟩ => ⟨S32768x256, .f32⟩
  | .hbm, ⟨47, _⟩ => ⟨S_, .i32⟩
  | .hbm, ⟨48, _⟩ => ⟨S32768x256, .i32⟩
  | .hbm, ⟨49, _⟩ => ⟨S32768x256, .i32⟩
  | .hbm, ⟨50, _⟩ => ⟨S32768x256, .f32⟩
  | .hbm, ⟨51, _⟩ => ⟨S_, .i32⟩
  | .hbm, ⟨52, _⟩ => ⟨S32768x256, .i32⟩
  | .hbm, ⟨53, _⟩ => ⟨S32768x256, .i32⟩
  | .hbm, ⟨54, _⟩ => ⟨S32768x256, .f32⟩
  | .hbm, ⟨55, _⟩ => ⟨S32768x1024, .f32⟩
  | .hbm, ⟨56, _⟩ => ⟨S2x16384x1024, .f32⟩
  | .hbm, ⟨57, _⟩ => ⟨S16384x2, .f32⟩
  | .hbm, ⟨58, _⟩ => ⟨S16384x1, .f32⟩
  | .hbm, ⟨59, _⟩ => ⟨S1x16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1, .f32⟩
  | .hbm, ⟨64, _⟩ => ⟨S1x16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S32768x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel4.lean ====
abbrev S8x4096x1024 : Shape := ⟨3, ![8, 4096, 1024]⟩
abbrev S1x1024 : Shape := ⟨2, ![1, 1024]⟩
abbrev S1x1024x4112 : Shape := ⟨3, ![1, 1024, 4112]⟩
abbrev S1x2048 : Shape := ⟨2, ![1, 2048]⟩
abbrev S1x7x768 : Shape := ⟨3, ![1, 7, 768]⟩
abbrev S1x768 : Shape := ⟨2, ![1, 768]⟩
abbrev S32768x1024 : Shape := ⟨2, ![32768, 1024]⟩
abbrev S1024x4112 : Shape := ⟨2, ![1024, 4112]⟩
abbrev S1024x512 : Shape := ⟨2, ![1024, 512]⟩
abbrev S1024x128 : Shape := ⟨2, ![1024, 128]⟩
abbrev S1024x768 : Shape := ⟨2, ![1024, 768]⟩
abbrev S1024x16 : Shape := ⟨2, ![1024, 16]⟩
abbrev S1024x2048 : Shape := ⟨2, ![1024, 2048]⟩
abbrev S_ : Shape := ⟨0, ![]⟩
abbrev S1024x3456 : Shape := ⟨2, ![1024, 3456]⟩
abbrev S7x768 : Shape := ⟨2, ![7, 768]⟩
abbrev S8x768 : Shape := ⟨2, ![8, 768]⟩
abbrev S1024 : Shape := ⟨1, ![1024]⟩
abbrev S2048 : Shape := ⟨1, ![2048]⟩
abbrev S768 : Shape := ⟨1, ![768]⟩
abbrev S32768x512 : Shape := ⟨2, ![32768, 512]⟩
abbrev S2x32768x64 : Shape := ⟨3, ![2, 32768, 64]⟩
abbrev S32768x768 : Shape := ⟨2, ![32768, 768]⟩
abbrev S32768x128 : Shape := ⟨2, ![32768, 128]⟩
abbrev S32768x2048 : Shape := ⟨2, ![32768, 2048]⟩
abbrev S512x1024 : Shape := ⟨2, ![512, 1024]⟩
abbrev S8x1024 : Shape := ⟨2, ![8, 1024]⟩
abbrev S512x512 : Shape := ⟨2, ![512, 512]⟩
abbrev S2x512x64 : Shape := ⟨3, ![2, 512, 64]⟩
abbrev S512x768 : Shape := ⟨2, ![512, 768]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S528x1024 : Shape := ⟨2, ![528, 1024]⟩
abbrev S528x768 : Shape := ⟨2, ![528, 768]⟩
abbrev S512x3456 : Shape := ⟨2, ![512, 3456]⟩
abbrev S512x64 : Shape := ⟨2, ![512, 64]⟩
abbrev S1x512x64 : Shape := ⟨3, ![1, 512, 64]⟩

abbrev nBuf : Space → Nat
  | .hbm => 37
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x4112, .f32⟩
  | .hbm, ⟨3, _⟩ => ⟨S1x2048, .f32⟩
  | .hbm, ⟨4, _⟩ => ⟨S1x7x768, .f32⟩
  | .hbm, ⟨5, _⟩ => ⟨S1x768, .f32⟩
  | .hbm, ⟨6, _⟩ => ⟨S32768x1024, .f32⟩
  | .hbm, ⟨7, _⟩ => ⟨S1024x4112, .f32⟩
  | .hbm, ⟨8, _⟩ => ⟨S1024x4112, .bf16⟩
  | .hbm, ⟨9, _⟩ => ⟨S1024x512, .bf16⟩
  | .hbm, ⟨10, _⟩ => ⟨S1024x128, .bf16⟩
  | .hbm, ⟨11, _⟩ => ⟨S1024x128, .bf16⟩
  | .hbm, ⟨12, _⟩ => ⟨S1024x512, .bf16⟩
  | .hbm, ⟨13, _⟩ => ⟨S1024x768, .bf16⟩
  | .hbm, ⟨14, _⟩ => ⟨S1024x16, .bf16⟩
  | .hbm, ⟨15, _⟩ => ⟨S1024x2048, .bf16⟩
  | .hbm, ⟨16, _⟩ => ⟨S_, .i32⟩
  | .hbm, ⟨17, _⟩ => ⟨S_, .bf16⟩
  | .hbm, ⟨18, _⟩ => ⟨S1024x128, .bf16⟩
  | .hbm, ⟨19, _⟩ => ⟨S1024x3456, .bf16⟩
  | .hbm, ⟨20, _⟩ => ⟨S7x768, .f32⟩
  | .hbm, ⟨21, _⟩ => ⟨S_, .i32⟩
  | .hbm, ⟨22, _⟩ => ⟨S_, .f32⟩
  | .hbm, ⟨23, _⟩ => ⟨S8x768, .f32⟩
  | .hbm, ⟨24, _⟩ => ⟨S1024, .f32⟩
  | .hbm, ⟨25, _⟩ => ⟨S1x1024, .f32⟩
  | .hbm, ⟨26, _⟩ => ⟨S2048, .f32⟩
  | .hbm, ⟨27, _⟩ => ⟨S1x2048, .f32⟩
  | .hbm, ⟨28, _⟩ => ⟨S768, .f32⟩
  | .hbm, ⟨29, _⟩ => ⟨S1x768, .f32⟩
  | .hbm, ⟨30, _⟩ => ⟨S32768x512, .f32⟩
  | .hbm, ⟨31, _⟩ => ⟨S2x32768x64, .f32⟩
  | .hbm, ⟨32, _⟩ => ⟨S2x32768x64, .bf16⟩
  | .hbm, ⟨33, _⟩ => ⟨S32768x512, .f32⟩
  | .hbm, ⟨34, _⟩ => ⟨S32768x768, .f32⟩
  | .hbm, ⟨35, _⟩ => ⟨S32768x128, .f32⟩
  | .hbm, ⟨36, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x3456, .bf16⟩
  | .local _ .vmem, ⟨8, _⟩ => ⟨S1024x768, .bf16⟩
  | .local _ .vmem, ⟨9, _⟩ => ⟨S1x2048, .f32⟩
  | .local _ .vmem, ⟨10, _⟩ => ⟨S8x768, .f32⟩
  | .local _ .vmem, ⟨11, _⟩ => ⟨S1x768, .f32⟩
  | .local _ .vmem, ⟨12, _⟩ => ⟨S512x512, .f32⟩
  | .local _ .vmem, ⟨13, _⟩ => ⟨S512x512, .f32⟩
  | .local _ .vmem, ⟨14, _⟩ => ⟨S2x512x64, .f32⟩
  | .local _ .vmem, ⟨15, _⟩ => ⟨S2x512x64, .f32⟩
  | .local _ .vmem, ⟨16, _⟩ => ⟨S2x512x64, .bf16⟩
  | .local _ .vmem, ⟨17, _⟩ => ⟨S2x512x64, .bf16⟩
  | .local _ .vmem, ⟨18, _⟩ => ⟨S512x512, .f32⟩
  | .local _ .vmem, ⟨19, _⟩ => ⟨S512x512, .f32⟩
  | .local _ .vmem, ⟨20, _⟩ => ⟨S512x768, .f32⟩
  | .local _ .vmem, ⟨21, _⟩ => ⟨S512x768, .f32⟩
  | .local _ .vmem, ⟨22, _⟩ => ⟨S512x128, .f32⟩
  | .local _ .vmem, ⟨23, _⟩ => ⟨S512x128, .f32⟩
  | .local _ .vmem, ⟨24, _⟩ => ⟨S512x2048, .bf16⟩
  | .local _ .vmem, ⟨25, _⟩ => ⟨S512x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S8x4096x1024 : Shape := ⟨3, ![8, 4096, 1024]⟩
abbrev S1x1024 : Shape := ⟨2, ![1, 1024]⟩
abbrev S1x1024x4112 : Shape := ⟨3, ![1, 1024, 4112]⟩
abbrev S1x2048 : Shape := ⟨2, ![1, 2048]⟩
abbrev S1x7x768 : Shape := ⟨3, ![1, 7, 768]⟩
abbrev S1x768 : Shape := ⟨2, ![1, 768]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x4112 : Shape := ⟨2, ![1024, 4112]⟩
abbrev S8x4096x4112 : Shape := ⟨3, ![8, 4096, 4112]⟩
abbrev S8x4096x512 : Shape := ⟨3, ![8, 4096, 512]⟩
abbrev S8x4096x128 : Shape := ⟨3, ![8, 4096, 128]⟩
abbrev S8x4096x768 : Shape := ⟨3, ![8, 4096, 768]⟩
abbrev S8x4096x16 : Shape := ⟨3, ![8, 4096, 16]⟩
abbrev S8x4096x2048 : Shape := ⟨3, ![8, 4096, 2048]⟩
abbrev S8x4102x768 : Shape := ⟨3, ![8, 4102, 768]⟩
abbrev S1x1x768 : Shape := ⟨3, ![1, 1, 768]⟩
abbrev S768 : Shape := ⟨1, ![768]⟩
abbrev S32768x512 : Shape := ⟨2, ![32768, 512]⟩
abbrev S32768x2x64 : Shape := ⟨3, ![32768, 2, 64]⟩
abbrev S2x32768x64 : Shape := ⟨3, ![2, 32768, 64]⟩
abbrev S32768x768 : Shape := ⟨2, ![32768, 768]⟩
abbrev S32768x16 : Shape := ⟨2, ![32768, 16]⟩
abbrev S32768x128 : Shape := ⟨2, ![32768, 128]⟩
abbrev S2048 : Shape := ⟨1, ![2048]⟩
abbrev S1x1x2048 : Shape := ⟨3, ![1, 1, 2048]⟩
abbrev S32768x2048 : Shape := ⟨2, ![32768, 2048]⟩

abbrev nBuf : Space → Nat
  | .hbm => 125
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x4112, .f32⟩
  | .hbm, ⟨3, _⟩ => ⟨S1x2048, .f32⟩
  | .hbm, ⟨4, _⟩ => ⟨S1x7x768, .f32⟩
  | .hbm, ⟨5, _⟩ => ⟨S1x768, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1024x4112, .f32⟩
  | .hbm, ⟨24, _⟩ => ⟨S8x4096x4112, .f32⟩
  | .hbm, ⟨25, _⟩ => ⟨S8x4096x512, .f32⟩
  | .hbm, ⟨26, _⟩ => ⟨S8x4096x128, .f32⟩
  | .hbm, ⟨27, _⟩ => ⟨S8x4096x128, .f32⟩
  | .hbm, ⟨28, _⟩ => ⟨S8x4096x512, .f32⟩
  | .hbm, ⟨29, _⟩ => ⟨S8x4096x768, .f32⟩
  | .hbm, ⟨30, _⟩ => ⟨S8x4096x16, .f32⟩
  | .hbm, ⟨31, _⟩ => ⟨S8x4096x2048, .f32⟩
  | .hbm, ⟨32, _⟩ => ⟨S_, .i32⟩
  | .hbm, ⟨33, _⟩ => ⟨S_, .f32⟩
  | .hbm, ⟨34, _⟩ => ⟨S8x4102x768, .f32⟩
  | .hbm, ⟨35, _⟩ => ⟨S8x4096x768, .f32⟩
  | .hbm, ⟨36, _⟩ => ⟨S1x1x768, .f32⟩
  | .hbm, ⟨37, _⟩ => ⟨S768, .f32⟩
  | .hbm, ⟨38, _⟩ => ⟨S1x1x768, .f32⟩
  | .hbm, ⟨39, _⟩ => ⟨S8x4096x768, .f32⟩
  | .hbm, ⟨40, _⟩ => ⟨S8x4096x768, .f32⟩
  | .hbm, ⟨41, _⟩ => ⟨S_, .f32⟩
  | .hbm, ⟨42, _⟩ => ⟨S8x4096x768, .f32⟩
  | .hbm, ⟨43, _⟩ => ⟨S8x4096x768, .f32⟩
  | .hbm, ⟨44, _⟩ => ⟨S8x4096x768, .f32⟩
  | .hbm, ⟨45, _⟩ => ⟨S1x1x768, .f32⟩
  | .hbm, ⟨46, _⟩ => ⟨S768, .f32⟩
  | .hbm, ⟨47, _⟩ => ⟨S1x1x768, .f32⟩
  | .hbm, ⟨48, _⟩ => ⟨S8x4096x768, .f32⟩
  | .hbm, ⟨49, _⟩ => ⟨S8x4096x768, .f32⟩
  | .hbm, ⟨50, _⟩ => ⟨S8x4096x768, .f32⟩
  | .hbm, ⟨51, _⟩ => ⟨S8x4096x768, .f32⟩
  | .hbm, ⟨52, _⟩ => ⟨S1x1x768, .f32⟩
  | .hbm, ⟨53, _⟩ => ⟨S768, .f32⟩
  | .hbm, ⟨54, _⟩ => ⟨S1x1x768, .f32⟩
  | .hbm, ⟨55, _⟩ => ⟨S8x4096x768, .f32⟩
  | .hbm, ⟨56, _⟩ => ⟨S8x4096x768, .f32⟩
  | .hbm, ⟨57, _⟩ => ⟨S8x4096x768, .f32⟩
  | .hbm, ⟨58, _⟩ => ⟨S8x4096x768, .f32⟩
  | .hbm, ⟨59, _⟩ => ⟨S1x1x768, .f32⟩
  | .hbm, ⟨60, _⟩ => ⟨S768, .f32⟩
  | .hbm, ⟨61, _⟩ => ⟨S1x1x768, .f32⟩
  | .hbm, ⟨62, _⟩ => ⟨S8x4096x768, .f32⟩
  | .hbm, ⟨63, _⟩ => ⟨S8x4096x768, .f32⟩
  | .hbm, ⟨64, _⟩ => ⟨S8x4096x768, .f32⟩
  | .hbm, ⟨65, _⟩ => ⟨S8x4096x768, .f32⟩
  | .hbm, ⟨66, _⟩ => ⟨S1x1x768, .f32⟩
  | .hbm, ⟨67, _⟩ => ⟨S768, .f32⟩
  | .hbm, ⟨68, _⟩ => ⟨S1x1x768, .f32⟩
  | .hbm, ⟨69, _⟩ => ⟨S8x4096x768, .f32⟩
  | .hbm, ⟨70, _⟩ => ⟨S8x4096x768, .f32⟩
  | .hbm, ⟨71, _⟩ => ⟨S8x4096x768, .f32⟩
  | .hbm, ⟨72, _⟩ => ⟨S8x4096x768, .f32⟩
  | .hbm, ⟨73, _⟩ => ⟨S1x1x768, .f32⟩
  | .hbm, ⟨74, _⟩ => ⟨S768, .f32⟩
  | .hbm, ⟨75, _⟩ => ⟨S1x1x768, .f32⟩
  | .hbm, ⟨76, _⟩ => ⟨S8x4096x768, .f32⟩
  | .hbm, ⟨77, _⟩ => ⟨S8x4096x768, .f32⟩
  | .hbm, ⟨78, _⟩ => ⟨S8x4096x768, .f32⟩
  | .hbm, ⟨79, _⟩ => ⟨S8x4096x768, .f32⟩
  | .hbm, ⟨80, _⟩ => ⟨S1x1x768, .f32⟩
  | .hbm, ⟨81, _⟩ => ⟨S768, .f32⟩
  | .hbm, ⟨82, _⟩ => ⟨S1x1x768, .f32⟩
  | .hbm, ⟨83, _⟩ => ⟨S8x4096x768, .f32⟩
  | .hbm, ⟨84, _⟩ => ⟨S8x4096x768, .f32⟩
  | .hbm, ⟨85, _⟩ => ⟨S8x4096x768, .f32⟩
  | .hbm, ⟨86, _⟩ => ⟨S768, .f32⟩
  | .hbm, ⟨87, _⟩ => ⟨S1x1x768, .f32⟩
  | .hbm, ⟨88, _⟩ => ⟨S8x4096x768, .f32⟩
  | .hbm, ⟨89, _⟩ => ⟨S8x4096x768, .f32⟩
  | .hbm, ⟨90, _⟩ => ⟨S32768x512, .f32⟩
  | .hbm, ⟨91, _⟩ => ⟨S32768x2x64, .f32⟩
  | .hbm, ⟨92, _⟩ => ⟨S2x32768x64, .f32⟩
  | .hbm, ⟨93, _⟩ => ⟨S32768x2x64, .f32⟩
  | .hbm, ⟨94, _⟩ => ⟨S2x32768x64, .f32⟩
  | .hbm, ⟨95, _⟩ => ⟨S2x32768x64, .bf16⟩
  | .hbm, ⟨96, _⟩ => ⟨S32768x512, .f32⟩
  | .hbm, ⟨97, _⟩ => ⟨S8x4096x768, .f32⟩
  | .hbm, ⟨98, _⟩ => ⟨S8x4096x768, .f32⟩
  | .hbm, ⟨99, _⟩ => ⟨S_, .f32⟩
  | .hbm, ⟨100, _⟩ => ⟨S8x4096x768, .f32⟩
  | .hbm, ⟨101, _⟩ => ⟨S8x4096x768, .f32⟩
  | .hbm, ⟨102, _⟩ => ⟨S_, .f32⟩
  | .hbm, ⟨103, _⟩ => ⟨S8x4096x768, .f32⟩
  | .hbm, ⟨104, _⟩ => ⟨S8x4096x768, .f32⟩
  | .hbm, ⟨105, _⟩ => ⟨S8x4096x768, .f32⟩
  | .hbm, ⟨106, _⟩ => ⟨S32768x768, .f32⟩
  | .hbm, ⟨107, _⟩ => ⟨S32768x16, .f32⟩
  | .hbm, ⟨108, _⟩ => ⟨S_, .i32⟩
  | .hbm, ⟨109, _⟩ => ⟨S_, .f32⟩
  | .hbm, ⟨110, _⟩ => ⟨S32768x128, .f32⟩
  | .hbm, ⟨111, _⟩ => ⟨S2048, .f32⟩
  | .hbm, ⟨112, _⟩ => ⟨S1x1x2048, .f32⟩
  | .hbm, ⟨113, _⟩ => ⟨S8x4096x2048, .f32⟩
  | .hbm, ⟨114, _⟩ => ⟨S8x4096x2048, .f32⟩
  | .hbm, ⟨115, _⟩ => ⟨S8x4096x2048, .f32⟩
  | .hbm, ⟨116, _⟩ => ⟨S8x4096x2048, .f32⟩
  | .hbm, ⟨117, _⟩ => ⟨S_, .f32⟩
  | .hbm, ⟨118, _⟩ => ⟨S8x4096x2048, .f32⟩
  | .hbm, ⟨119, _⟩ => ⟨S8x4096x2048, .f32⟩
  | .hbm, ⟨120, _⟩ => ⟨S_, .f32⟩
  | .hbm, ⟨121, _⟩ => ⟨S8x4096x2048, .f32⟩
  | .hbm, ⟨122, _⟩ => ⟨S8x4096x2048, .f32⟩
  | .hbm, ⟨123, _⟩ => ⟨S32768x2048, .f32⟩
  | .hbm, ⟨124, _⟩ => ⟨S32768x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_c_3 : Ref sig .tc := ⟨.hbm, 108, rfl⟩
abbrev main_call2_v0 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_4 : Ref sig .tc := ⟨.hbm, 117, rfl⟩
abbrev main_v95 : Ref sig .tc := ⟨.hbm, 118, rfl⟩
abbrev main_v96 : Ref sig .tc := ⟨.hbm, 119, rfl⟩
abbrev main_cst_5 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x4096x512 : Shape := ⟨3, ![8, 4096, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1024x16 : Shape := ⟨2, ![1024, 16]⟩
abbrev S1024x4 : Shape := ⟨2, ![1024, 4]⟩
abbrev S1024x20 : Shape := ⟨2, ![1024, 20]⟩
abbrev S_ : Shape := ⟨0, ![]⟩
abbrev S1024x128 : Shape := ⟨2, ![1024, 128]⟩
abbrev S16 : Shape := ⟨1, ![16]⟩
abbrev S4 : Shape := ⟨1, ![4]⟩
abbrev S20 : Shape := ⟨1, ![20]⟩
abbrev S128 : Shape := ⟨1, ![128]⟩
abbrev S1x128 : Shape := ⟨2, ![1, 128]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S32768x1024 : Shape := ⟨2, ![32768, 1024]⟩
abbrev S32768x512 : Shape := ⟨2, ![32768, 512]⟩
abbrev S128x128 : Shape := ⟨2, ![128, 128]⟩
abbrev S16384x1024 : Shape := ⟨2, ![16384, 1024]⟩
abbrev S16384x512 : Shape := ⟨2, ![16384, 512]⟩
abbrev S16384x128 : Shape := ⟨2, ![16384, 128]⟩
abbrev S8x16384 : Shape := ⟨2, ![8, 16384]⟩
abbrev S8x128 : Shape := ⟨2, ![8, 128]⟩
abbrev S1024x512 : Shape := ⟨2, ![1024, 512]⟩
abbrev S1024x2048 : Shape := ⟨2, ![1024, 2048]⟩
abbrev S8x1024 : Shape := ⟨2, ![8, 1024]⟩
abbrev S128x2048 : Shape := ⟨2, ![128, 2048]⟩
abbrev S128x1024 : Shape := ⟨2, ![128, 1024]⟩
abbrev S128x512 : Shape := ⟨2, ![128, 512]⟩
abbrev S128x1 : Shape := ⟨2, ![128, 1]⟩
abbrev S128x256 : Shape := ⟨2, ![128, 256]⟩

abbrev nBuf : Space → Nat
  | .hbm => 58
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S32768x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4, .f32⟩
  | .hbm, ⟨9, _⟩ => ⟨S1x4, .f32⟩
  | .hbm, ⟨10, _⟩ => ⟨S1x1024x16, .f32⟩
  | .hbm, ⟨11, _⟩ => ⟨S1x16, .f32⟩
  | .hbm, ⟨12, _⟩ => ⟨S1024x16, .f32⟩
  | .hbm, ⟨13, _⟩ => ⟨S1024x4, .f32⟩
  | .hbm, ⟨14, _⟩ => ⟨S1024x20, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S16, .f32⟩
  | .hbm, ⟨23, _⟩ => ⟨S4, .f32⟩
  | .hbm, ⟨24, _⟩ => ⟨S20, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S512x1024, .f32⟩
  | .hbm, ⟨30, _⟩ => ⟨S512x1024, .bf16⟩
  | .hbm, ⟨31, _⟩ => ⟨S512x1024, .f32⟩
  | .hbm, ⟨32, _⟩ => ⟨S512x1024, .bf16⟩
  | .hbm, ⟨33, _⟩ => ⟨S1024x1024, .f32⟩
  | .hbm, ⟨34, _⟩ => ⟨S1024x1024, .bf16⟩
  | .hbm, ⟨35, _⟩ => ⟨S1024, .f32⟩
  | .hbm, ⟨36, _⟩ => ⟨S1x1024, .f32⟩
  | .hbm, ⟨37, _⟩ => ⟨S1024x256, .bf16⟩
  | .hbm, ⟨38, _⟩ => ⟨S32768x1024, .f32⟩
  | .hbm, ⟨39, _⟩ => ⟨S32768x512, .bf16⟩
  | .hbm, ⟨40, _⟩ => ⟨S32768x512, .bf16⟩
  | .hbm, ⟨41, _⟩ => ⟨S_, .bf16⟩
  | .hbm, ⟨42, _⟩ => ⟨S128x128, .bf16⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S_, .bf16⟩
  | .hbm, ⟨50, _⟩ => ⟨S128x128, .bf16⟩
  | .hbm, ⟨51, _⟩ => ⟨S128x128, .bf16⟩
  | .hbm, ⟨52, _⟩ => ⟨S16384x1024, .f32⟩
  | .hbm, ⟨53, _⟩ => ⟨S16384x512, .bf16⟩
  | .hbm, ⟨54, _⟩ => ⟨S16384x512, .bf16⟩
  | .hbm, ⟨55, _⟩ => ⟨S16384x128, .f32⟩
  | .hbm, ⟨56, _⟩ => ⟨S8x16384, .f32⟩
  | .hbm, ⟨57, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x256, .bf16⟩
  | .local _ .vmem, ⟨13, _⟩ => ⟨S1x128, .f32⟩
  | .local _ .vmem, ⟨14, _⟩ => ⟨S128x128, .bf16⟩
  | .local _ .vmem, ⟨15, _⟩ => ⟨S1024x1024, .f32⟩
  | .local _ .vmem, ⟨16, _⟩ => ⟨S1024x1024, .f32⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x128, .f32⟩
  | .local _ .vmem, ⟨22, _⟩ => ⟨S1024x128, .f32⟩
  | .local _ .vmem, ⟨23, _⟩ => ⟨S8x1024, .f32⟩
  | .local _ .vmem, ⟨24, _⟩ => ⟨S8x1024, .f32⟩
  | .local _ .vmem, ⟨25, _⟩ => ⟨S8x128, .f32⟩
  | .local _ .vmem, ⟨26, _⟩ => ⟨S1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_cst : Ref sig .tc := ⟨.hbm, 49, rfl⟩
abbrev main_call2_v5 : Ref sig .tc := ⟨.hbm, 50, rfl⟩
abbrev main_v26 : Ref sig .tc := ⟨.hbm, 51, rfl⟩
abbrev main_v27_0 : Ref sig .tc := ⟨.hbm, 52, rfl⟩
abbrev main_v27_1 : Ref sig .tc := ⟨.hbm, 53, rfl⟩
abbrev main_v27_2 : Ref sig .tc := ⟨.hbm, 54, rfl⟩
abbrev main_v27_3 : Ref sig .tc := ⟨.hbm, 55, rfl⟩
abbrev main_v27_4 : Ref sig .tc := ⟨.hbm, 56, rfl⟩
abbrev main_v27_5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference5Ideal.lean ====
abbrev S8x4096x1024 : Shape := ⟨3, ![8, 4096, 1024]⟩
abbrev S8x4096x512 : Shape := ⟨3, ![8, 4096, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S8x4096x2048 : Shape := ⟨3, ![8, 4096, 2048]⟩
abbrev S512x1024 : Shape := ⟨2, ![512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S32768x1024 : Shape := ⟨2, ![32768, 1024]⟩
abbrev S16384x1024 : Shape := ⟨2, ![16384, 1024]⟩
abbrev S16384x256 : Shape := ⟨2, ![16384, 256]⟩
abbrev S16384x512 : Shape := ⟨2, ![16384, 512]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S32768x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4, .f32⟩
  | .hbm, ⟨9, _⟩ => ⟨S1x4, .f32⟩
  | .hbm, ⟨10, _⟩ => ⟨S1x1024x16, .f32⟩
  | .hbm, ⟨11, _⟩ => ⟨S1x16, .f32⟩
  | .hbm, ⟨12, _⟩ => ⟨S32768x2048, .f32⟩
  | .hbm, ⟨13, _⟩ => ⟨S8x4096x2048, .f32⟩
  | .hbm, ⟨14, _⟩ => ⟨S8x4096x1024, .f32⟩
  | .hbm, ⟨15, _⟩ => ⟨S8x4096x1024, .f32⟩
  | .hbm, ⟨16, _⟩ => ⟨S8x4096x512, .f32⟩
  | .hbm, ⟨17, _⟩ => ⟨S512x1024, .f32⟩
  | .hbm, ⟨18, _⟩ => ⟨S8x4096x1024, .f32⟩
  | .hbm, ⟨19, _⟩ => ⟨S8x4096x1024, .f32⟩
  | .hbm, ⟨20, _⟩ => ⟨S8x4096x512, .f32⟩
  | .hbm, ⟨21, _⟩ => ⟨S512x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S1024x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S8x4096x1024, .f32⟩
  | .hbm, ⟨40, _⟩ => ⟨S8x4096x1024, .f32⟩
  | .hbm, ⟨41, _⟩ => ⟨S1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S32768x1024, .f32⟩
  | .hbm, ⟨46, _⟩ => ⟨S32768x1024, .f32⟩
  | .hbm, ⟨47, _⟩ => ⟨S32768x1024, .bf16⟩
  | .hbm, ⟨48, _⟩ => ⟨S16384x1024, .f32⟩
  | .hbm, ⟨49, _⟩ => ⟨S16384x256, .bf16⟩
  | .hbm, ⟨50, _⟩ => ⟨S16384x256, .bf16⟩
  | .hbm, ⟨51, _⟩ => ⟨S16384x512, .bf16⟩
  | .hbm, ⟨52, _⟩ => ⟨S16384x256, .bf16⟩
  | .hbm, ⟨53, _⟩ => ⟨S16384x256, .bf16⟩
  | .hbm, ⟨54, _⟩ => ⟨S16384x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x4096x512 : Shape := ⟨3, ![8, 4096, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1024x16 : Shape := ⟨2, ![1024, 16]⟩
abbrev S1024x4 : Shape := ⟨2, ![1024, 4]⟩
abbrev S1024x20 : Shape := ⟨2, ![1024, 20]⟩
abbrev S_ : Shape := ⟨0, ![]⟩
abbrev S1024x128 : Shape := ⟨2, ![1024, 128]⟩
abbrev S16 : Shape := ⟨1, ![16]⟩
abbrev S4 : Shape := ⟨1, ![4]⟩
abbrev S20 : Shape := ⟨1, ![20]⟩
abbrev S128 : Shape := ⟨1, ![128]⟩
abbrev S1x128 : Shape := ⟨2, ![1, 128]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S32768x1024 : Shape := ⟨2, ![32768, 1024]⟩
abbrev S32768x512 : Shape := ⟨2, ![32768, 512]⟩
abbrev S128x128 : Shape := ⟨2, ![128, 128]⟩
abbrev S16384x1024 : Shape := ⟨2, ![16384, 1024]⟩
abbrev S16384x512 : Shape := ⟨2, ![16384, 512]⟩
abbrev S16384x128 : Shape := ⟨2, ![16384, 128]⟩
abbrev S8x16384 : Shape := ⟨2, ![8, 16384]⟩
abbrev S8x128 : Shape := ⟨2, ![8, 128]⟩
abbrev S1024x512 : Shape := ⟨2, ![1024, 512]⟩
abbrev S1024x2048 : Shape := ⟨2, ![1024, 2048]⟩
abbrev S8x1024 : Shape := ⟨2, ![8, 1024]⟩
abbrev S128x2048 : Shape := ⟨2, ![128, 2048]⟩
abbrev S128x1024 : Shape := ⟨2, ![128, 1024]⟩
abbrev S128x512 : Shape := ⟨2, ![128, 512]⟩
abbrev S128x1 : Shape := ⟨2, ![128, 1]⟩
abbrev S128x256 : Shape := ⟨2, ![128, 256]⟩

abbrev nBuf : Space → Nat
  | .hbm => 58
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S32768x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4, .f32⟩
  | .hbm, ⟨9, _⟩ => ⟨S1x4, .f32⟩
  | .hbm, ⟨10, _⟩ => ⟨S1x1024x16, .f32⟩
  | .hbm, ⟨11, _⟩ => ⟨S1x16, .f32⟩
  | .hbm, ⟨12, _⟩ => ⟨S1024x16, .f32⟩
  | .hbm, ⟨13, _⟩ => ⟨S1024x4, .f32⟩
  | .hbm, ⟨14, _⟩ => ⟨S1024x20, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S16, .f32⟩
  | .hbm, ⟨23, _⟩ => ⟨S4, .f32⟩
  | .hbm, ⟨24, _⟩ => ⟨S20, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S512x1024, .f32⟩
  | .hbm, ⟨30, _⟩ => ⟨S512x1024, .bf16⟩
  | .hbm, ⟨31, _⟩ => ⟨S512x1024, .f32⟩
  | .hbm, ⟨32, _⟩ => ⟨S512x1024, .bf16⟩
  | .hbm, ⟨33, _⟩ => ⟨S1024x1024, .f32⟩
  | .hbm, ⟨34, _⟩ => ⟨S1024x1024, .bf16⟩
  | .hbm, ⟨35, _⟩ => ⟨S1024, .f32⟩
  | .hbm, ⟨36, _⟩ => ⟨S1x1024, .f32⟩
  | .hbm, ⟨37, _⟩ => ⟨S1024x256, .bf16⟩
  | .hbm, ⟨38, _⟩ => ⟨S32768x1024, .f32⟩
  | .hbm, ⟨39, _⟩ => ⟨S32768x512, .bf16⟩
  | .hbm, ⟨40, _⟩ => ⟨S32768x512, .bf16⟩
  | .hbm, ⟨41, _⟩ => ⟨S_, .bf16⟩
  | .hbm, ⟨42, _⟩ => ⟨S128x128, .bf16⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S_, .bf16⟩
  | .hbm, ⟨50, _⟩ => ⟨S128x128, .bf16⟩
  | .hbm, ⟨51, _⟩ => ⟨S128x128, .bf16⟩
  | .hbm, ⟨52, _⟩ => ⟨S16384x1024, .f32⟩
  | .hbm, ⟨53, _⟩ => ⟨S16384x512, .bf16⟩
  | .hbm, ⟨54, _⟩ => ⟨S16384x512, .bf16⟩
  | .hbm, ⟨55, _⟩ => ⟨S16384x128, .f32⟩
  | .hbm, ⟨56, _⟩ => ⟨S8x16384, .f32⟩
  | .hbm, ⟨57, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x256, .bf16⟩
  | .local _ .vmem, ⟨13, _⟩ => ⟨S1x128, .f32⟩
  | .local _ .vmem, ⟨14, _⟩ => ⟨S128x128, .bf16⟩
  | .local _ .vmem, ⟨15, _⟩ => ⟨S1024x1024, .f32⟩
  | .local _ .vmem, ⟨16, _⟩ => ⟨S1024x1024, .f32⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x128, .f32⟩
  | .local _ .vmem, ⟨22, _⟩ => ⟨S1024x128, .f32⟩
  | .local _ .vmem, ⟨23, _⟩ => ⟨S8x1024, .f32⟩
  | .local _ .vmem, ⟨24, _⟩ => ⟨S8x1024, .f32⟩
  | .local _ .vmem, ⟨25, _⟩ => ⟨S8x128, .f32⟩
  | .local _ .vmem, ⟨26, _⟩ => ⟨S1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_cst : Ref sig .tc := ⟨.hbm, 49, rfl⟩
abbrev main_call2_v5 : Ref sig .tc := ⟨.hbm, 50, rfl⟩
abbrev main_v26 : Ref sig .tc := ⟨.hbm, 51, rfl⟩
abbrev main_v27_0 : Ref sig .tc := ⟨.hbm, 52, rfl⟩
abbrev main_v27_1 : Ref sig .tc := ⟨.hbm, 53, rfl⟩
abbrev main_v27_2 : Ref sig .tc := ⟨.hbm, 54, rfl⟩
abbrev main_v27_3 : Ref sig .tc := ⟨.hbm, 55, rfl⟩
abbrev main_v27_4 : Ref sig .tc := ⟨.hbm, 56, rfl⟩
abbrev main_v27_5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference6Ideal.lean ====
abbrev S8x4096x1024 : Shape := ⟨3, ![8, 4096, 1024]⟩
abbrev S8x4096x512 : Shape := ⟨3, ![8, 4096, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S8x4096x2048 : Shape := ⟨3, ![8, 4096, 2048]⟩
abbrev S512x1024 : Shape := ⟨2, ![512, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S32768x1024 : Shape := ⟨2, ![32768, 1024]⟩
abbrev S16384x1024 : Shape := ⟨2, ![16384, 1024]⟩
abbrev S16384x256 : Shape := ⟨2, ![16384, 256]⟩
abbrev S16384x512 : Shape := ⟨2, ![16384, 512]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S32768x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4, .f32⟩
  | .hbm, ⟨9, _⟩ => ⟨S1x4, .f32⟩
  | .hbm, ⟨10, _⟩ => ⟨S1x1024x16, .f32⟩
  | .hbm, ⟨11, _⟩ => ⟨S1x16, .f32⟩
  | .hbm, ⟨12, _⟩ => ⟨S32768x2048, .f32⟩
  | .hbm, ⟨13, _⟩ => ⟨S8x4096x2048, .f32⟩
  | .hbm, ⟨14, _⟩ => ⟨S8x4096x1024, .f32⟩
  | .hbm, ⟨15, _⟩ => ⟨S8x4096x1024, .f32⟩
  | .hbm, ⟨16, _⟩ => ⟨S8x4096x512, .f32⟩
  | .hbm, ⟨17, _⟩ => ⟨S512x1024, .f32⟩
  | .hbm, ⟨18, _⟩ => ⟨S8x4096x1024, .f32⟩
  | .hbm, ⟨19, _⟩ => ⟨S8x4096x1024, .f32⟩
  | .hbm, ⟨20, _⟩ => ⟨S8x4096x512, .f32⟩
  | .hbm, ⟨21, _⟩ => ⟨S512x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S1024x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1, .f32⟩
  | .hbm, ⟨39, _⟩ => ⟨S8x4096x1024, .f32⟩
  | .hbm, ⟨40, _⟩ => ⟨S8x4096x1024, .f32⟩
  | .hbm, ⟨41, _⟩ => ⟨S1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S32768x1024, .f32⟩
  | .hbm, ⟨46, _⟩ => ⟨S32768x1024, .f32⟩
  | .hbm, ⟨47, _⟩ => ⟨S32768x1024, .bf16⟩
  | .hbm, ⟨48, _⟩ => ⟨S16384x1024, .f32⟩
  | .hbm, ⟨49, _⟩ => ⟨S16384x256, .bf16⟩
  | .hbm, ⟨50, _⟩ => ⟨S16384x256, .bf16⟩
  | .hbm, ⟨51, _⟩ => ⟨S16384x512, .bf16⟩
  | .hbm, ⟨52, _⟩ => ⟨S16384x256, .bf16⟩
  | .hbm, ⟨53, _⟩ => ⟨S16384x256, .bf16⟩
  | .hbm, ⟨54, _⟩ => ⟨S16384x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Words.lean ====
/-
  The words the gather's loop computes. A vector subcore walks eight windows of 128 rows; the loop carries five words
  (the windows fetched, waited for, gathered, written and the pipeline's own position), which before trip `t` are
  `carry t`. Here: each slice's offsets at those words, each condition's value, and the side conditions the printed
  body assumes of them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic

/-- Subcore `(c, s)`'s coordinates. -/
def at32 (c : Fin 2) (s : Fin 16) : grid0.Coords :=
  fun | 0 => c | 1 => s | ⟨_ + 2, h⟩ => absurd h (Nat.not_lt.2 (Nat.le_add_left _ _))

theorem eq_at32 (i : grid0.Coords) : i = at32 (i 0) (i 1) := by
  funext a
  match a with
  | 0 => rfl
  | 1 => rfl

/-- The first of the subcore's eight windows. -/
abbrev win0 (i : grid0.Coords) : ℕ := 128 * (i 0).val + 8 * (i 1).val

theorem trips_eq : k0_t1_loop.trips = 8 := by decide

abbrev Carry : Type := BitVec 32 × BitVec 32 × BitVec 32 × BitVec 32 × BitVec 32

abbrev c6 (t : ℕ) : BitVec 32 := BitVec.ofNat 32 (min (t + 1) 8)
abbrev c7 (t : ℕ) : BitVec 32 := BitVec.ofNat 32 t
abbrev c9 (t : ℕ) : BitVec 32 := BitVec.ofNat 32 (t - 1)
abbrev c10 (t : ℕ) : BitVec 32 := BitVec.ofNat 32 (t % 8)

/-- What the loop carries into trip `t`. -/
abbrev carry (t : ℕ) : Carry := (c6 t, c7 t, c7 t, c9 t, c10 t)

/-! ### The words of trip `t`, as the body computes them from the carried ones -/

abbrev base (i : grid0.Coords) : BitVec 32 :=
  Scalar.muli (Scalar.addi (Scalar.addi 0#32 (Scalar.muli (BitVec.ofNat 32 (i 1).val) 1#32)) (Scalar.muli (BitVec.ofNat 32 (i 0).val) 16#32)) 8#32
abbrev w5 (t : Fin k0_t1_loop.trips) : BitVec 32 := Scf.iv 0#32 1#32 t
abbrev w64 (t : Fin k0_t1_loop.trips) : BitVec 1 := Scalar.cmpi .eq (w5 t) 0#32
abbrev w65 (t : Fin k0_t1_loop.trips) : BitVec 1 := Scalar.cmpi .eq (w5 t) 7#32
abbrev w66 (i : grid0.Coords) (t : Fin k0_t1_loop.trips) : BitVec 32 := Scalar.addi (c10 t) (base i)
abbrev w68 (t : Fin k0_t1_loop.trips) : BitVec 32 := Scalar.select 1#1 (Scalar.subi (c10 t) 1#32) (c10 t)
abbrev w71 (i : grid0.Coords) (t : Fin k0_t1_loop.trips) : BitVec 32 :=
  Scalar.addi (Scalar.select (Scalar.cmpi .eq (w68 t) 4294967295#32) 7#32 (w68 t)) (base i)
abbrev w73 (t : Fin k0_t1_loop.trips) : BitVec 32 := Scalar.select 1#1 (Scalar.addi (c10 t) 1#32) (c10 t)
abbrev w75 (t : Fin k0_t1_loop.trips) : BitVec 32 := Scalar.select (Scalar.cmpi .eq (w73 t) 8#32) 0#32 (w73 t)
abbrev w76 (i : grid0.Coords) (t : Fin k0_t1_loop.trips) : BitVec 32 := Scalar.addi (w75 t) (base i)
abbrev w91 (i : grid0.Coords) (t : Fin k0_t1_loop.trips) : BitVec 32 :=
  Scalar.select (Scalar.andi (Scalar.andi (Scalar.cmpi .ne (w66 i t) (w76 i t)) (Scalar.xori (Scalar.cmpi .sge (w5 t) 7#32) 1#1)) 1#1)
    (Scalar.addi (c6 t) 1#32) (c6 t)
abbrev w96 (i : grid0.Coords) (t : Fin k0_t1_loop.trips) : BitVec 1 := Scalar.cmpi .ne (w66 i t) (w71 i t)
abbrev w121 (i : grid0.Coords) (t : Fin k0_t1_loop.trips) : BitVec 32 :=
  Scalar.select (Scalar.andi (Scalar.ori (Scalar.cmpi .ne (w66 i t) (w76 i t)) (w65 t)) 1#1) (Scalar.addi (c7 t) 1#32) (c7 t)
abbrev w135 (i : grid0.Coords) (t : Fin k0_t1_loop.trips) : BitVec 32 :=
  Scalar.select (Scalar.andi (Scalar.andi (Scalar.cmpi .ne (w66 i t) (w71 i t)) (Scalar.xori (w64 t) 1#1)) 1#1) (Scalar.addi (c9 t) 1#32) (c9 t)
abbrev w139 (i : grid0.Coords) (t : Fin k0_t1_loop.trips) : BitVec 32 :=
  Scalar.select (Scalar.ori (Scalar.cmpi .ne (w66 i t) (w76 i t)) (w65 t)) (Scalar.addi (c7 t) 1#32) (c7 t)

section
variable (i : grid0.Coords) (t : Fin k0_t1_loop.trips)

theorem all32 {p : grid0.Coords → Fin k0_t1_loop.trips → Prop} (h : ∀ (c : Fin 2) (s : Fin 16) (t : Fin k0_t1_loop.trips), p (at32 c s) t) :
    p i t := by rw [eq_at32 i]; exact h _ _ t

theorem off4_eq : k0_off4 (c6 t) = ![(min (t.val + 1) 8) % 2, 0, 0] := by revert t; decide
theorem off6_eq : k0_off6 (c6 t) = ![(min (t.val + 1) 8) % 2] := by revert t; decide
theorem off7_eq : k0_off7 (c7 t) = ![t.val % 2, 0, 0] := by revert t; decide
theorem off9_eq : k0_off9 (c7 t) = ![t.val % 2] := by revert t; decide
theorem off10_eq : k0_off10 (c7 t) = ![t.val % 2, 0, 0] := by revert t; decide
theorem off11_eq : k0_off11 (c7 t) = ![t.val % 2, 0, 0] := by revert t; decide
theorem off12_eq : k0_off12 (c7 t) = ![t.val % 2, 0, 0] := by revert t; decide
theorem off14_eq : k0_off14 (c7 t) = ![t.val % 2] := by revert t; decide
theorem off15_eq : k0_off15 (c9 t) = ![(t.val - 1) % 2, 0, 0] := by revert t; decide
theorem off17_eq : k0_off17 (c9 t) = ![(t.val - 1) % 2] := by revert t; decide
theorem off1_eq' : k0_off1 = ![0, 0, 0] := by decide
theorem off3_eq' : k0_off3 = ![0] := by decide

theorem off5_eq (h : t.val < 7) : k0_off5 i (c10 t) = ![0, 128 * (win0 i + (t.val + 1))] :=
  all32 (p := fun i t => t.val < 7 → k0_off5 i (c10 t) = ![0, 128 * (win0 i + (t.val + 1))]) i t (by decide +kernel) h
theorem off2_eq' : k0_off2 i = ![0, 128 * (win0 i + 0)] := by
  rw [eq_at32 i]
  exact (show ∀ (c : Fin 2) (s : Fin 16), k0_off2 (at32 c s) = ![0, 128 * (win0 (at32 c s) + 0)] by decide +kernel) (i 0) (i 1)
theorem off13_eq : k0_off13 i (c10 t) = ![128 * (win0 i + t.val), 0] :=
  all32 (p := fun i t => k0_off13 i (c10 t) = ![128 * (win0 i + t.val), 0]) i t (by decide +kernel)
theorem off16_eq (h : 0 < t.val) : k0_off16 i (c10 t) = ![128 * (win0 i + (t.val - 1)), 0] :=
  all32 (p := fun i t => 0 < t.val → k0_off16 i (c10 t) = ![128 * (win0 i + (t.val - 1)), 0]) i t (by decide +kernel) h

theorem cond1_eq : k0_cond1 i t (c10 t) = if t.val < 7 then 1#1 else 0#1 :=
  all32 (p := fun i t => k0_cond1 i t (c10 t) = if t.val < 7 then 1#1 else 0#1) i t (by decide +kernel)
theorem cond2_eq : k0_cond2 i t (c10 t) = 1#1 :=
  all32 (p := fun i t => k0_cond2 i t (c10 t) = 1#1) i t (by decide +kernel)
theorem cond5_eq : k0_cond5 i t (c10 t) = 1#1 :=
  all32 (p := fun i t => k0_cond5 i t (c10 t) = 1#1) i t (by decide +kernel)
theorem cond7_eq : k0_cond7 i t (c10 t) = if 0 < t.val then 1#1 else 0#1 :=
  all32 (p := fun i t => k0_cond7 i t (c10 t) = if 0 < t.val then 1#1 else 0#1) i t (by decide +kernel)

/-- What a trip yields is what the next is carried. -/
theorem carry_next : (w91 i t, w139 i t, w121 i t, w135 i t, w75 t) = carry (t.val + 1) :=
  all32 (p := fun i t => (w91 i t, w139 i t, w121 i t, w135 i t, w75 t) = carry (t.val + 1)) i t (by decide +kernel)

theorem chk3 : k0_chk3 (c7 t) := by revert t; decide +kernel
theorem chk2 : k0_chk2 (c7 t) := by revert t; decide +kernel
theorem chk1 : k0_chk1 i t (c6 t) (c7 t) (c7 t) (c9 t) (c10 t) :=
  all32 (p := fun i t => k0_chk1 i t (c6 t) (c7 t) (c7 t) (c9 t) (c10 t)) i t (by decide +kernel)
theorem chk4 : k0_chk4 (c9 8) := by decide +kernel
theorem chk5 : k0_chk5 i (c10 8) := by
  rw [eq_at32 i]
  exact (show ∀ (c : Fin 2) (s : Fin 16), k0_chk5 (at32 c s) (c10 8) by decide +kernel) (i 0) (i 1)
theorem off20_eq : k0_off20 (c9 8) = ![1] := by decide
theorem off21_eq : k0_off21 (c9 8) = ![1, 0, 0] := by decide
theorem off19_eq : k0_off19 i (c10 8) = ![128 * (win0 i + 7), 0] := by
  rw [eq_at32 i]
  exact (show ∀ (c : Fin 2) (s : Fin 16), k0_off19 (at32 c s) (c10 8) = ![128 * (win0 (at32 c s) + 7), 0] by decide +kernel) (i 0) (i 1)

end

end Cert.Proof.Gather

end
-- ==== Proof.Views.lean ====
/-
  The memory the gather's vector subcores address, as views: the two slots of the fetched positions and of the gathered
  rows, window `w` of the positions (128 of them) and block `w` of the result (128 rows). And what one window's trip
  computes: the block written from the slot the rows were gathered into holds, at row `r`, the table's row named by
  position `r` (`block_value`).
-/
module

public import proofs.«01_k».proof.Proof.Words

@[expose] public section

noncomputable section

namespace Cert.Proof.Gather

open Cert.KernelIdeal Cert.KernelIdeal.Gen
open Idealize.ShloMosaic
open Idealize.ShloMosaic.SparseCore (S V T)

variable {F : FTy → Type} [FloatOps F]

/-! ## The buffers -/

abbrev tLoc (d : Dev nD) : Loc nD τ sig := (SparseCore.T d).loc main_arg0
abbrev jLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

abbrev tM : Memref sig .scVector .hbm S40960x256 .i32 := Memref.whole main_arg0_scv
abbrev iM : Memref sig .scVector .hbm S1x32768 .i32 := Memref.whole main_v0_scv
abbrev oM : Memref sig .scVector .hbm S32768x256 .i32 := Memref.whole main_v1_scv
abbrev isM : Memref sig .scVector .vmem S2x1x128 .i32 := Memref.whole cc0_scoped0
abbrev osM : Memref sig .scVector .vmem S2x128x256 .i32 := Memref.whole cc0_scoped2

theorem inb_slotI (n : Fin 2) : ∀ a, (![n.val, 0, 0] : Fin 3 → ℕ) a + S1x1x128.size a ≤ S2x1x128.size a := by revert n; decide
theorem inb_slotO (n : Fin 2) : ∀ a, (![n.val, 0, 0] : Fin 3 → ℕ) a + S1x128x256.size a ≤ S2x128x256.size a := by revert n; decide
theorem inb_sem (n : Fin 2) : ∀ a, (![n.val] : Fin 1 → ℕ) a + S1.size a ≤ S2.size a := by revert n; decide
theorem inb_win (w : Fin 256) : ∀ a, (![0, 128 * w.val] : Fin 2 → ℕ) a + S1x128.size a ≤ S1x32768.size a := by revert w; decide
theorem inb_blk (w : Fin 256) : ∀ a, (![128 * w.val, 0] : Fin 2 → ℕ) a + S128x256.size a ≤ S32768x256.size a := by revert w; decide

/-- Slot `n` of the fetched positions. -/
abbrev slotI (n : Fin 2) : Memref sig .scVector .vmem S1x128 .i32 :=
  (isM.slice (Rect.unit (s := S2x1x128) ![n.val, 0, 0] S1x1x128.size (inb_slotI n)) (fun _ => rfl)).squeeze S1x128 squeezes_S1x1x128_S1x128
/-- Slot `n` of the gathered rows. -/
abbrev slotO (n : Fin 2) : Memref sig .scVector .vmem S128x256 .i32 :=
  (osM.slice (Rect.unit (s := S2x128x256) ![n.val, 0, 0] S1x128x256.size (inb_slotO n)) (fun _ => rfl)).squeeze S128x256 squeezes_S1x128x256_S128x256
/-- Window `w` of the positions. -/
abbrev winM (w : Fin 256) : Memref sig .scVector .hbm S1x128 .i32 :=
  iM.slice (Rect.unit (s := S1x32768) ![0, 128 * w.val] S1x128.size (inb_win w)) (fun _ => rfl)
/-- Block `w` of the result. -/
abbrev blkM (w : Fin 256) : Memref sig .scVector .hbm S128x256 .i32 :=
  oM.slice (Rect.unit (s := S32768x256) ![128 * w.val, 0] S128x256.size (inb_blk w)) (fun _ => rfl)
/-- The semaphores of slot `n`. -/
abbrev semI (n : Fin 2) : DmaSem sig :=
  ((cc0_scoped1.slice (Rect.unit (s := S2) ![n.val] S1.size (inb_sem n))).squeeze S_ squeezes_S1_S_).sem
abbrev semO (n : Fin 2) : DmaSem sig :=
  ((cc0_scoped3.slice (Rect.unit (s := S2) ![n.val] S1.size (inb_sem n))).squeeze S_ squeezes_S1_S_).sem

/-- The rows' destination, the positions and the table, as the gather addresses them. -/
abbrev gDst (n : Fin 2) : Memref sig .scVector .vmem S128x2x128 .i32 :=
  (slotO n).reshape S128x2x128 reshapes_S128x256_S128x2x128.1 reshapes_S128x256_S128x2x128.2
    ((View.contiguous_reshape _ _).mpr ((Memref.isWhole_whole cc0_scoped2).contiguous.slice _
      (show (Rect.unit (s := S2x128x256) ![n.val, 0, 0] S1x128x256.size (inb_slotO n)).LeadingBlock by revert n; decide)))
abbrev gOffs (n : Fin 2) : Memref sig .scVector .vmem S128 .i32 :=
  ((slotI n).slice (Rect.unit (s := S1x128) ![0, 0] S1x128.size inb_S1x128_S1x128_0_0) (fun _ => rfl)).squeeze S128 squeezes_S1x128_S128
abbrev gSrc : Memref sig .scVector .hbm S40960x2x128 .i32 :=
  (tM.reshape S40960x2x128 reshapes_S40960x256_S40960x2x128.1 reshapes_S40960x256_S40960x2x128.2 (Memref.isWhole_whole main_arg0_scv).contiguous).slice
    (Rect.unit (s := S40960x2x128) ![0, 0, 0] S40960x2x128.size inb_S40960x2x128_S40960x2x128_0_0_0) (fun _ => rfl)

/-! ## What the call computes -/

/-- The row of the table a word names. -/
def rowOf (w : BitVec 32) : Fin 40960 := ⟨w.toNat % 40960, Nat.mod_lt _ (by decide)⟩

/-- The gathered rows: at row `r`, the table's row named by position `r`. -/
def gathered (tb : S40960x256.Idx → BitVec 32) (ix : S1x32768.Idx → BitVec 32) : S32768x256.Idx → BitVec 32 :=
  fun x => tb (Shape.pair (d := S40960x256.size) (rowOf (ix (Shape.pair (d := S1x32768.size) (0 : Fin 1) (x 0)))) (x 1))

omit [FloatOps F]

theorem emb_blk (w : Fin 256) (y : S128x256.Idx) :
    (((blkM w).view.emb y : S32768x256.Idx) 0).val = 128 * w.val + (y 0).val ∧ (((blkM w).view.emb y : S32768x256.Idx) 1).val = (y 1).val :=
  ⟨by show 128 * w.val + 1 * (y 0).val = _; omega, by show 0 + 1 * (y 1).val = _; omega⟩

theorem emb_offs (w : Fin 256) (n : Fin 2) (z : S128.Idx) (y : S1x128.Idx) (hy : ((Rect.unit (s := S1x128) ![0, 0] S1x128.size inb_S1x128_S1x128_0_0).emb (Shape.reshapeEquiv squeezes_S1x128_S128.numel_eq z) : S1x128.Idx) = y) :
    (y 0).val = 0 ∧ (y 1).val = (z 0).val := by
  subst hy
  have h := Shape.rowMajor_reshapeEquiv squeezes_S1x128_S128.numel_eq z
  rw [Shape.rowMajor_val_two, Shape.rowMajor_val_one] at h
  have h0 := (Shape.reshapeEquiv squeezes_S1x128_S128.numel_eq z 0).isLt
  have h1 := (Shape.reshapeEquiv squeezes_S1x128_S128.numel_eq z 1).isLt
  have e0 : S1x128.size 0 = 1 := rfl
  have e1 : S1x128.size 1 = 128 := rfl
  refine ⟨?_, ?_⟩
  · show 0 + 1 * (Shape.reshapeEquiv squeezes_S1x128_S128.numel_eq z 0).val = 0
    omega
  · show 0 + 1 * (Shape.reshapeEquiv squeezes_S1x128_S128.numel_eq z 1).val = (z 0).val
    change _ * 128 + _ = _ at h
    omega

/-- Slot `n` holds window `w` of the positions. -/
def Fetched (n : Fin 2) (w : Fin 256) (ix : S1x32768.Idx → BitVec 32) (f : S2x1x128.Idx → BitVec 32) : Prop :=
  (slotI n).view.read (Elt F) f = (winM w).view.read (Elt F) ix

/-- The offsets the gather reads: position `128 w + z`. -/
theorem offs_read {n : Fin 2} {w : Fin 256} {ix : S1x32768.Idx → BitVec 32} {f : S2x1x128.Idx → BitVec 32} (h : Fetched (F := F) n w ix f) (z : S128.Idx)
    (hz : 128 * w.val + (z 0).val < 32768) :
    (gOffs n).view.read (Elt F) f z = ix (Shape.pair (d := S1x32768.size) (0 : Fin 1) ⟨128 * w.val + (z 0).val, hz⟩) := by
  have e : (gOffs n).view.read (Elt F) f z = (slotI n).view.read (Elt F) f
      ((Rect.unit (s := S1x128) ![0, 0] S1x128.size inb_S1x128_S1x128_0_0).emb (Shape.reshapeEquiv squeezes_S1x128_S128.numel_eq z)) := rfl
  obtain ⟨h0, h1⟩ := emb_offs w n z _ rfl
  rw [e, h]
  generalize (Rect.unit (s := S1x128) ![0, 0] S1x128.size inb_S1x128_S1x128_0_0).emb (Shape.reshapeEquiv squeezes_S1x128_S128.numel_eq z) = y at h0 h1 ⊢
  show ix ((winM w).view.emb y) = _
  congr 1
  funext a
  match a with
  | 0 => exact Fin.ext (by show 0 + 1 * (y 0).val = 0; omega)
  | 1 => exact Fin.ext (by show 128 * w.val + 1 * (y 1).val = 128 * w.val + (z 0).val; omega)

/-- Reading through the slot what was written through its reshaped view. -/
theorem slot_read_written (n : Fin 2) (f : S2x128x256.Idx → BitVec 32) (p : S128x2x128.Idx → BitVec 32) (y : S128x256.Idx) (z : S128x2x128.Idx)
    (hz : Shape.reshapeEquiv reshapes_S128x256_S128x2x128.1 z = y) :
    (slotO n).view.read (Elt F) ((gDst n).view.write (Elt F) f p Finset.univ) y = p z := by
  subst hz
  exact View.read_write_of_mem (v := (gDst n).view) (Val := Elt F) f p (Finset.mem_univ z)

/-- The block written back from the slot the rows of window `w` were gathered into. -/
theorem block_value {n : Fin 2} {w : Fin 256} {ix : S1x32768.Idx → BitVec 32} {f : S2x1x128.Idx → BitVec 32} (h : Fetched (F := F) n w ix f)
    (tb : S40960x256.Idx → BitVec 32) (fo : S2x128x256.Idx → BitVec 32) (old : S32768x256.Idx → BitVec 32)
    (hn : S128.numel = S128x2x128.size gathers_S40960x2x128_S128x2x128.axis')
    (hin : ∀ x, ((gOffs n).view.read (Elt F) f x).toNat < S40960x2x128.size gathers_S40960x2x128_S128x2x128.axis) :
    ∀ x ∈ (blkM w).view.set, (blkM w).view.write (Elt F) old ((slotO n).view.read (Elt F) ((gDst n).view.write (Elt F) fo
        (SparseCore.gatherPayload (F := F) (e := .i32) gathers_S40960x2x128_S128x2x128 (gSrc.view.read (Elt F) tb)
          (SparseCore.rows (F := F) ((gOffs n).view.read (Elt F) f) hn hin)) Finset.univ)) Finset.univ x = gathered tb ix x := by
  intro x hx
  obtain ⟨y, -, rfl⟩ := Finset.mem_map.mp hx
  obtain ⟨e0, e1⟩ := emb_blk w y
  rw [View.write_emb_of_mem _ _ (Finset.mem_univ y)]
  obtain ⟨z, hz⟩ := (Shape.reshapeEquiv reshapes_S128x256_S128x2x128.1).surjective y
  rw [slot_read_written (F := F) n fo _ y z hz]
  have hp := Shape.rowMajor_reshapeEquiv reshapes_S128x256_S128x2x128.1 z
  rw [hz, Shape.rowMajor_val_two, Shape.rowMajor_val_three] at hp
  have hy1 : (y 1).val < 256 := (y 1).isLt
  have hy0 : (y 0).val < 128 := (y 0).isLt
  have hz0 : (z 0).val < 128 := (z 0).isLt
  have hz1 : (z 1).val < 2 := (z 1).isLt
  have hz2 : (z 2).val < 128 := (z 2).isLt
  change (y 0).val * 256 + (y 1).val = ((z 0).val * 2 + (z 1).val) * 128 + (z 2).val at hp
  have hw := w.isLt
  -- the index the gather reads the table at
  let r := SparseCore.rows (F := F) ((gOffs n).view.read (Elt F) f) hn hin
  have hrow : (r (z gathers_S40960x2x128_S128x2x128.axis')).val = (ix (Shape.pair (d := S1x32768.size) (0 : Fin 1) ⟨128 * w.val + (y 0).val, by
      show _ < 32768; omega⟩)).toNat := by
    show ((gOffs n).view.read (Elt F) f (S128.rowMajor.symm ((z 0).cast hn.symm))).toNat = _
    have hk : (S128.rowMajor.symm ((z 0).cast hn.symm) 0).val = (z 0).val := by
      have := S128.rowMajor.apply_symm_apply ((z 0).cast hn.symm)
      have := congrArg Fin.val this
      rw [Shape.rowMajor_val_one] at this
      exact this
    rw [offs_read (F := F) h _ (by rw [hk]; omega)]
    have : (z 0).val = (y 0).val := by omega
    simp only [hk, this]
  have hlt : (r (z gathers_S40960x2x128_S128x2x128.axis')).val < 40960 := (r _).isLt
  obtain ⟨u, hu⟩ : ∃ u, (Rect.unit (s := S40960x2x128) ![0, 0, 0] S40960x2x128.size inb_S40960x2x128_S40960x2x128_0_0_0).emb
      (gathers_S40960x2x128_S128x2x128.idx r z) = u := ⟨_, rfl⟩
  have hu0 : (u 0).val = (r (z gathers_S40960x2x128_S128x2x128.axis')).val := by
    rw [← hu, ← Shape.Gathers.idx_axis gathers_S40960x2x128_S128x2x128 r z]
    show 0 + 1 * (gathers_S40960x2x128_S128x2x128.idx r z 0).val = (gathers_S40960x2x128_S128x2x128.idx r z 0).val
    omega
  have hu1 : (u 1).val = (z 1).val := by
    rw [← hu]
    have := Shape.Gathers.idx_of_ne gathers_S40960x2x128_S128x2x128 r z 1 (by decide)
    show 0 + 1 * (gathers_S40960x2x128_S128x2x128.idx r z 1).val = (z 1).val
    rw [this]; show 0 + 1 * (z 1).val = _; omega
  have hu2 : (u 2).val = (z 2).val := by
    rw [← hu]
    have := Shape.Gathers.idx_of_ne gathers_S40960x2x128_S128x2x128 r z 2 (by decide)
    show 0 + 1 * (gathers_S40960x2x128_S128x2x128.idx r z 2).val = (z 2).val
    rw [this]; show 0 + 1 * (z 2).val = _; omega
  show tb (Shape.reshapeEquiv reshapes_S40960x256_S40960x2x128.1 ((Rect.unit (s := S40960x2x128) ![0, 0, 0] S40960x2x128.size
      inb_S40960x2x128_S40960x2x128_0_0_0).emb (gathers_S40960x2x128_S128x2x128.idx r z))) = _
  rw [hu]
  have hT := Shape.rowMajor_reshapeEquiv reshapes_S40960x256_S40960x2x128.1 u
  rw [Shape.rowMajor_val_two, Shape.rowMajor_val_three] at hT
  generalize Shape.reshapeEquiv reshapes_S40960x256_S40960x2x128.1 u = v at hT ⊢
  change (v 0).val * 256 + (v 1).val = ((u 0).val * 2 + (u 1).val) * 128 + (u 2).val at hT
  have hv1 : (v 1).val < 256 := (v 1).isLt
  have hx0 : ((blkM w).view.emb y : S32768x256.Idx) 0 = (⟨128 * w.val + (y 0).val, by show _ < 32768; omega⟩ : Fin 32768) := Fin.ext e0
  unfold gathered
  rw [hx0]
  congr 1
  funext a
  match a with
  | 0 =>
    apply Fin.ext
    show (v 0).val = _ % 40960
    exact (show (v 0).val = (r (z gathers_S40960x2x128_S128x2x128.axis')).val by omega).trans
      ((Nat.mod_eq_of_lt hlt).symm.trans (congrArg (· % 40960) hrow))
  | 1 =>
    apply Fin.ext
    show (v 1).val = (((blkM w).view.emb y : S32768x256.Idx) 1).val
    rw [e1]; omega

end Cert.Proof.Gather

end
-- ==== Proof.Steps.lean ====
/-
  The gather's four steps as rules over its resources: the fetch of a window of positions into a slot, the gather of the
  rows it names, the write of the rows to the window's block of the result, and the waits for the first and the last.
  A slot is `iFree`/`oFree` (at some contents, its semaphore at zero) or in flight (`iFly`/`oFly`), its delivery stated by
  what it brings.
-/
module

public import proofs.«01_k».proof.Proof.Views

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0

/-! ## A subcore's resources -/

section Tile

variable (d : Dev nD) (L : grid0.Coords) (q : PosShare TreeShare) (tb : Buf (Elt F) (tLoc d)) (ix : Buf (Elt F) (iLoc d))

/-- The half of the subcore's share of the positions that fetches into slot `n` read. -/
def half (n : Fin 2) : PosShare TreeShare := if n = 0 then q.left else q.right

abbrev iPts (n : Fin 2) : sProp 𝕄 := iLoc d ↦{half q n} ix
abbrev slotIPts (n : Fin 2) (f : Buf (Elt F) ((V d (cV L) (jV L)).loc cc0_scoped0)) : sProp 𝕄 :=
  (V d (cV L) (jV L)).loc cc0_scoped0 ↦[(slotI n).view.set]{fullShare} f
abbrev slotOPts (n : Fin 2) (f : Buf (Elt F) ((V d (cV L) (jV L)).loc cc0_scoped2)) : sProp 𝕄 :=
  (V d (cV L) (jV L)).loc cc0_scoped2 ↦[(slotO n).view.set]{fullShare} f
abbrev blkPts (w : Fin 256) (f : Buf (Elt F) (oLoc d)) : sProp 𝕄 := oLoc d ↦[(blkM w).view.set]{fullShare} f

abbrev outBuf : Buf (Elt F) (oLoc d) := gathered tb ix

def iFree (n : Fin 2) : sProp 𝕄 := iprop(iPts d q ix n ∗ (∃ f, slotIPts d L n f) ∗ semVal (V d (cV L) (jV L), .dma (semI n)) 0)
def iGot (n : Fin 2) (w : Fin 256) : sProp 𝕄 := iprop(iPts d q ix n ∗ ∃ f, ⌜Fetched (F := F) n w ix f⌝ ∗ slotIPts d L n f)
def iFly (n : Fin 2) (w : Fin 256) : sProp 𝕄 :=
  Transfers.Flight countersEmb (V d (cV L) (jV L)) (.dma (semI n)) (default : HIx 1) (slotI 0).view.dmaCredit (iGot d L q ix n w)
def oFree (n : Fin 2) : sProp 𝕄 := iprop((∃ f, slotOPts d L n f) ∗ semVal (V d (cV L) (jV L), .dma (semO n)) 0)
def oGot (n : Fin 2) (w : Fin 256) : sProp 𝕄 := iprop(blkPts d w (outBuf d tb ix) ∗ ∃ f, slotOPts (F := F) d L n f)
def oFly (n : Fin 2) (w : Fin 256) : sProp 𝕄 :=
  Transfers.Flight countersEmb (V d (cV L) (jV L)) (.dma (semO n)) (default : HIx 1) (blkM 0).view.dmaCredit (oGot d L tb ix n w)

/-- What the subcore owes, its waits so far recorded at the kernels' index. -/
def Owed (O : CellTallies nD τ sig (HIx 1)) (W : Waits sig (HIx 1)) : sProp 𝕄 :=
  iprop(∃ W', ⌜∀ p ∈ W', p ∈ W ∨ p.2 = none⌝ ∗ owes (V d (cV L) (jV L)) O W')
abbrev MW (O : CellTallies nD τ sig (HIx 1)) : sProp 𝕄 := Transfers.MayWaits (V d (cV L) (jV L)) (default : HIx 1) O

variable [FloatOps F]

abbrev WP {α : Type} (p : Prog (TpuEff nD τ sig (Elt F) Λ₀ (.scVector (cV L) (jV L))) α) (Q : α → sProp 𝕄) : sProp 𝕄 :=
  wp frame (wpE (defs₀ (F := F)) 𝒱₀ (V d (cV L) (jV L)) none) Set.univ p Q

/-- The fetch of window `w` into slot `n`. -/
theorem wp_fetch {α : Type} (n : Fin 2) (w : Fin 256) {o1 : Fin 3 → ℕ} {o2 : Fin 2 → ℕ} {o3 : Fin 1 → ℕ} (h1 : o1 = ![n.val, 0, 0]) (h2 : o2 = ![0, 128 * w.val]) (h3 : o3 = ![n.val])
    {b1 : ∀ a, o1 a + S1x1x128.size a ≤ S2x1x128.size a} {b2 : ∀ a, o2 a + S1x128.size a ≤ S1x32768.size a} {b3 : ∀ a, o3 a + S1.size a ≤ S2.size a}
    {e1 e2 e3} {k : PUnit → Prog (TpuEff nD τ sig (Elt F) Λ₀ (.scVector (cV L) (jV L))) α} {Q : α → sProp 𝕄} :
    iFree d L q ix n ⊢ iprop((iFly d L q ix n w -∗ WP d L (k ⟨⟩) Q)
      -∗ WP d L (.op (.enqueueDma (iM.slice (Rect.unit (s := S1x32768) o2 S1x128.size b2) (fun _ => rfl))
          (.here ((isM.slice (Rect.unit (s := S2x1x128) o1 S1x1x128.size b1) (fun _ => rfl)).squeeze S1x128 squeezes_S1x1x128_S1x128))
          (.dma ((cc0_scoped1.slice (Rect.unit (s := S2) o3 S1.size b3)).squeeze S_ squeezes_S1_S_).sem) e1 e2 e3) k) Q) := by
  subst h1 h2 h3
  unfold iFree iFly
  iintro ⟨Hi, ⟨%f, Hs⟩, Hv⟩ Hk
  ihave Hi := (pointsTo_split_subset (q := half q n) (f := ix) (S := Finset.univ) (Finset.subset_univ (winM w).view.set)).1 $$ Hi
  icases Hi with ⟨Hw, Hr⟩
  iapply (Transfers.wp_dmaLocal countersEmb 𝒱₀ (V d (cV L) (jV L)) none (src := winM w) (dst := slotI n) (q := half q n) (Sd := (slotI n).view.set) (fs := ix) (fd := f)
    (default : HIx 1) (slotI 0).view.dmaCredit rfl (View.dmaCredit_pos _ (by decide)) subset_rfl) $$ [Hw Hs Hv]
  · isplitl [Hw]; · iexact Hw
    isplitl [Hs]; · iexact Hs
    iexact Hv
  iintro Hfl
  iapply Hk
  ihave Hfl := (Transfers.Flight_frame countersEmb (V d (cV L) (jV L))) $$ [Hr Hfl]
  · isplitl [Hr]; · iexact Hr
    iexact Hfl
  iapply (Transfers.Flight_mono countersEmb (V d (cV L) (jV L)) ?_) $$ Hfl
  unfold iGot
  iintro ⟨Hr, Hs, Hw⟩
  isplitl [Hr Hw]
  · iapply (pointsTo_split_subset (q := half q n) (f := ix) (S := Finset.univ) (Finset.subset_univ (winM w).view.set)).2
    isplitl [Hw]; · iexact Hw
    iexact Hr
  iexists _; isplitr
  swap; · iexact Hs
  ipureintro
  exact View.read_write_univ (v := (slotI n).view) (Val := Elt F) f _

/-- A wait on a transfer of the subcore's own. -/
theorem wp_waitFor {α : Type} {s s' : Shape} {e e' : EltTy} {sp sp' : Space} (O : CellTallies nD τ sig (HIx 1)) (W : Waits sig (HIx 1)) {sm : DmaSem sig}
    {src : Memref sig .scVector sp' s' e'} {dst : Memref sig .scVector sp s e} {h1 h2} {N : ℕ} (hN : dst.view.dmaCredit = N) {R : sProp 𝕄}
    {k : PUnit → Prog (TpuEff nD τ sig (Elt F) Λ₀ (.scVector (cV L) (jV L))) α} {Q : α → sProp 𝕄} :
    iprop(Transfers.Flight countersEmb (V d (cV L) (jV L)) (.dma sm) (default : HIx 1) N R ∗ Owed d L O W ∗ MW d L O)
      ⊢ iprop((iprop(R ∗ semVal (V d (cV L) (jV L), .dma sm) 0 ∗ Owed d L O W) -∗ WP d L (k ⟨⟩) Q)
        -∗ WP d L (.op (.waitDma2 sm src dst h1 h2) k) Q) := by
  unfold Owed
  iintro ⟨Hfl, ⟨%W', %hW, HO⟩, Hmw⟩ Hk
  iapply (Transfers.wp_waitLocalO countersEmb 𝒱₀ (V d (cV L) (jV L)) none (default : HIx 1) hN) $$ [Hfl HO Hmw]
  · isplitl [Hfl]; · iexact Hfl
    isplitl [HO]; · iexact HO
    iapply (Transfers.MayWaits.elim (SemLoc.dma sm)) $$ Hmw
  iintro ⟨HR, Hv, HO⟩
  iapply Hk
  isplitl [HR]; · iexact HR
  isplitl [Hv]; · iexact Hv
  iexists _; isplitr
  swap; · iexact HO
  ipureintro; intro p hp
  rcases Finset.mem_insert.mp hp with hp | hp; · exact .inr (hp ▸ rfl)
  exact hW p hp

/-- The wait for the fetch into slot `n`. -/
theorem wp_fetched {α : Type} (O : CellTallies nD τ sig (HIx 1)) (W : Waits sig (HIx 1)) (n : Fin 2) (w : Fin 256) {o1 : Fin 3 → ℕ} {o2 : Fin 2 → ℕ} {o3 : Fin 1 → ℕ} (h3 : o3 = ![n.val])
    {b1 : ∀ a, o1 a + S1x1x128.size a ≤ S2x1x128.size a} {b2 : ∀ a, o2 a + S1x128.size a ≤ S1x32768.size a} {b3 : ∀ a, o3 a + S1.size a ≤ S2.size a}
    {e1 e2} {k : PUnit → Prog (TpuEff nD τ sig (Elt F) Λ₀ (.scVector (cV L) (jV L))) α} {Q : α → sProp 𝕄} :
    iprop(iFly d L q ix n w ∗ Owed d L O W ∗ MW d L O)
      ⊢ iprop((iprop(iGot d L q ix n w ∗ semVal (V d (cV L) (jV L), .dma (semI n)) 0 ∗ Owed d L O W) -∗ WP d L (k ⟨⟩) Q)
      -∗ WP d L (.op (.waitDma2 ((cc0_scoped1.slice (Rect.unit (s := S2) o3 S1.size b3)).squeeze S_ squeezes_S1_S_).sem
          (iM.slice (Rect.unit (s := S1x32768) o2 S1x128.size b2) (fun _ => rfl))
          ((isM.slice (Rect.unit (s := S2x1x128) o1 S1x1x128.size b1) (fun _ => rfl)).squeeze S1x128 squeezes_S1x1x128_S1x128) e1 e2) k) Q) := by
  subst h3
  unfold iFly
  exact wp_waitFor d L O W (src := iM.slice (Rect.unit (s := S1x32768) o2 S1x128.size b2) (fun _ => rfl))
    (dst := (isM.slice (Rect.unit (s := S2x1x128) o1 S1x1x128.size b1) (fun _ => rfl)).squeeze S1x128 squeezes_S1x1x128_S1x128) (h1 := e1) (h2 := e2) rfl

/-- The write of the rows gathered into slot `n` to the result's block `w`: they are what the call computes there. -/
theorem wp_put {α : Type} (n : Fin 2) (w : Fin 256) {o1 : Fin 3 → ℕ} {o2 : Fin 2 → ℕ} {o3 : Fin 1 → ℕ} (h1 : o1 = ![n.val, 0, 0]) (h2 : o2 = ![128 * w.val, 0]) (h3 : o3 = ![n.val])
    {b1 : ∀ a, o1 a + S1x128x256.size a ≤ S2x128x256.size a} {b2 : ∀ a, o2 a + S128x256.size a ≤ S32768x256.size a} {b3 : ∀ a, o3 a + S1.size a ≤ S2.size a}
    {e1 e2 e3} {k : PUnit → Prog (TpuEff nD τ sig (Elt F) Λ₀ (.scVector (cV L) (jV L))) α} {Q : α → sProp 𝕄}
    (old : Buf (Elt F) (oLoc d)) (f : Buf (Elt F) ((V d (cV L) (jV L)).loc cc0_scoped2))
    (hf : ∀ x ∈ (blkM w).view.set, (blkM w).view.write (Elt F) old ((slotO n).view.read (Elt F) f) Finset.univ x = gathered tb ix x) :
    iprop(slotOPts d L n f ∗ semVal (V d (cV L) (jV L), .dma (semO n)) 0 ∗ blkPts d w old)
      ⊢ iprop((oFly d L tb ix n w -∗ WP d L (k ⟨⟩) Q)
      -∗ WP d L (.op (.enqueueDma ((osM.slice (Rect.unit (s := S2x128x256) o1 S1x128x256.size b1) (fun _ => rfl)).squeeze S128x256 squeezes_S1x128x256_S128x256)
          (.here (oM.slice (Rect.unit (s := S32768x256) o2 S128x256.size b2) (fun _ => rfl)))
          (.dma ((cc0_scoped3.slice (Rect.unit (s := S2) o3 S1.size b3)).squeeze S_ squeezes_S1_S_).sem) e1 e2 e3) k) Q) := by
  subst h1 h2 h3
  unfold oFly
  iintro ⟨Hs, Hv, Ho⟩ Hk
  iapply (Transfers.wp_dmaLocal countersEmb 𝒱₀ (V d (cV L) (jV L)) none (src := slotO n) (dst := blkM w) (q := fullShare) (Sd := (blkM w).view.set) (fs := f) (fd := old)
    (default : HIx 1) (blkM 0).view.dmaCredit rfl (View.dmaCredit_pos _ (by decide)) subset_rfl) $$ [Hs Ho Hv]
  · isplitl [Hs]; · iexact Hs
    isplitl [Ho]; · iexact Ho
    iexact Hv
  iintro Hfl
  iapply Hk
  iapply (Transfers.Flight_mono countersEmb (V d (cV L) (jV L)) ?_) $$ Hfl
  unfold oGot
  iintro ⟨Ho, Hs⟩
  isplitl [Ho]
  · iapply (Entails.of_eq (pointsTo_congr (ℓ := oLoc d) (q := fullShare) (I := (blkM w).view.set) hf)) $$ Ho
  iexists f; iexact Hs

/-- The wait for the write of block `w` from slot `n`. -/
theorem wp_written {α : Type} (O : CellTallies nD τ sig (HIx 1)) (W : Waits sig (HIx 1)) (n : Fin 2) (w : Fin 256) {o1 : Fin 3 → ℕ} {o2 : Fin 2 → ℕ} {o3 : Fin 1 → ℕ} (h3 : o3 = ![n.val])
    {b1 : ∀ a, o1 a + S1x128x256.size a ≤ S2x128x256.size a} {b2 : ∀ a, o2 a + S128x256.size a ≤ S32768x256.size a} {b3 : ∀ a, o3 a + S1.size a ≤ S2.size a}
    {e1 e2} {k : PUnit → Prog (TpuEff nD τ sig (Elt F) Λ₀ (.scVector (cV L) (jV L))) α} {Q : α → sProp 𝕄} :
    iprop(oFly d L tb ix n w ∗ Owed d L O W ∗ MW d L O)
      ⊢ iprop((iprop(blkPts d w (outBuf d tb ix) ∗ oFree d L n ∗ Owed d L O W) -∗ WP d L (k ⟨⟩) Q)
      -∗ WP d L (.op (.waitDma2 ((cc0_scoped3.slice (Rect.unit (s := S2) o3 S1.size b3)).squeeze S_ squeezes_S1_S_).sem
          ((osM.slice (Rect.unit (s := S2x128x256) o1 S1x128x256.size b1) (fun _ => rfl)).squeeze S128x256 squeezes_S1x128x256_S128x256)
          (oM.slice (Rect.unit (s := S32768x256) o2 S128x256.size b2) (fun _ => rfl)) e1 e2) k) Q) := by
  subst h3
  unfold oFly oFree
  iintro H Hk
  iapply (wp_waitFor d L O W (N := (blkM 0).view.dmaCredit) (src := (osM.slice (Rect.unit (s := S2x128x256) o1 S1x128x256.size b1) (fun _ => rfl)).squeeze S128x256 squeezes_S1x128x256_S128x256)
    (dst := oM.slice (Rect.unit (s := S32768x256) o2 S128x256.size b2) (fun _ => rfl)) (h1 := e1) (h2 := e2) rfl) $$ H
  unfold oGot
  iintro ⟨⟨Hb, Hs⟩, Hv, HO⟩
  iapply Hk
  isplitl [Hb]; · iexact Hb
  isplitr [HO]
  · isplitl [Hs]; · iexact Hs
    iexact Hv
  iexact HO

omit [FloatOps F] in
theorem sum_rows (n : Fin 2) : ∀ h : S40960x2x128.Gathers 0 S128x2x128, ∑ j, ((gDst n).slice (S128x2x128.rowRect h.axis' j) (S128x2x128.stride_rowRect h.axis' j)).view.dmaCredit
      = (gDst n).view.dmaCredit := by revert n; decide

/-- The gather of the rows slot `n`'s positions name into slot `n` of the rows, issued and waited for. -/
theorem wp_gather {α : Type} (O : CellTallies nD τ sig (HIx 1)) (W : Waits sig (HIx 1)) (hix : ∀ j, (ix j : BitVec 32).toNat < 40960) (qt : PosShare TreeShare)
    (n : Fin 2) (w : Fin 256) {o1 o2 : Fin 3 → ℕ} (h1 : o1 = ![n.val, 0, 0]) (h2 : o2 = ![n.val, 0, 0])
    {b1 : ∀ a, o1 a + S1x128x256.size a ≤ S2x128x256.size a} {b2 : ∀ a, o2 a + S1x1x128.size a ≤ S2x1x128.size a} {c1 c1'}
    {e0 e1 e2 e3 e4 e5} {e6 e7} {k : PUnit → Prog (TpuEff nD τ sig (Elt F) Λ₀ (.scVector (cV L) (jV L))) α} {Q : α → sProp 𝕄}
    (old : Buf (Elt F) (oLoc d)) :
    iprop(iGot d L q ix n w ∗ (∃ f, slotOPts d L n f) ∗ (tLoc d ↦{qt} tb) ∗ semVal (V d (cV L) (jV L), .dma cc0_scoped4.sem) 0 ∗ Owed d L O W ∗ MW d L O)
      ⊢ iprop((iprop(iPts d q ix n ∗ (∃ f, slotIPts d L n f)
            ∗ (∃ f, ⌜∀ x ∈ (blkM w).view.set, (blkM w).view.write (Elt F) old ((slotO n).view.read (Elt F) f) Finset.univ x = gathered tb ix x⌝ ∗ slotOPts d L n f)
            ∗ (tLoc d ↦{qt} tb) ∗ semVal (V d (cV L) (jV L), .dma cc0_scoped4.sem) 0 ∗ Owed d L O W) -∗ WP d L (k ⟨⟩) Q)
      -∗ WP d L (SparseCore.enqueueIndirectGather e0 gSrc
            (((osM.slice (Rect.unit (s := S2x128x256) o1 S1x128x256.size b1) (fun _ => rfl)).squeeze S128x256 squeezes_S1x128x256_S128x256).reshape S128x2x128
              reshapes_S128x256_S128x2x128.1 reshapes_S128x256_S128x2x128.2 c1)
            gathers_S40960x2x128_S128x2x128
            ((((isM.slice (Rect.unit (s := S2x1x128) o2 S1x1x128.size b2) (fun _ => rfl)).squeeze S1x128 squeezes_S1x1x128_S1x128).slice
              (Rect.unit (s := S1x128) ![0, 0] S1x128.size inb_S1x128_S1x128_0_0) (fun _ => rfl)).squeeze S128 squeezes_S1x128_S128)
            e1 cc0_scoped4.sem e2 e3 e4 e5 >>= fun _ =>
          SparseCore.waitIndirectGather cc0_scoped4.sem gSrc
            (((osM.slice (Rect.unit (s := S2x128x256) o1 S1x128x256.size b1) (fun _ => rfl)).squeeze S128x256 squeezes_S1x128x256_S128x256).reshape S128x2x128
              reshapes_S128x256_S128x2x128.1 reshapes_S128x256_S128x2x128.2 c1') e6 e7 >>= k) Q) := by
  subst h1 h2
  unfold iGot
  iintro ⟨⟨Hi, %f, %hf, Hs⟩, ⟨%fo, Hd⟩, Ht, Hv, HO, #Hmw⟩ Hk
  have hin : ∀ x, ((gOffs n).view.read (Elt F) f x : BitVec 32).toNat < S40960x2x128.size gathers_S40960x2x128_S128x2x128.axis := fun x => by
    have hx : (x 0).val < 128 := (x 0).isLt
    have hw := w.isLt
    rw [offs_read (F := F) hf x (by omega)]
    exact hix _
  have hSs : (gOffs n).view.set = (slotI n).view.set := by
    show (((slotI n).view.slice (Rect.unit (s := S1x128) ![0, 0] S1x128.size inb_S1x128_S1x128_0_0)).reshape S128 squeezes_S1x128_S128.numel_eq).set = _
    rw [View.set_reshape, View.set_slice, show (Rect.unit (s := S1x128) ![0, 0] S1x128.size inb_S1x128_S1x128_0_0).set = Finset.univ from by decide]
    rfl
  have hSd : (gDst n).view.set = (slotO n).view.set := by
    show ((slotO n).view.reshape S128x2x128 reshapes_S128x256_S128x2x128.1).set = _
    rw [View.set_reshape]
  have hN : ∀ h : S40960x2x128.Gathers 0 S128x2x128, ∑ j, ((gDst n).slice (S128x2x128.rowRect h.axis' j) (S128x2x128.stride_rowRect h.axis' j)).view.dmaCredit
      = (gDst n).view.dmaCredit := sum_rows n
  ihave Ht := (pointsTo_split_subset (q := qt) (f := tb) (S := Finset.univ) (Finset.subset_univ gSrc.view.set)).1 $$ Ht
  icases Ht with ⟨Hts, Htr⟩
  ihave Hs := (Entails.of_eq (show (slotIPts d L n f : sProp 𝕄) = (gOffs n).view.loc (V d (cV L) (jV L)) ↦[(gOffs n).view.set]{fullShare} f by rw [hSs])) $$ Hs
  ihave Hd := (Entails.of_eq (show (slotOPts d L n fo : sProp 𝕄) = (gDst n).view.loc (V d (cV L) (jV L)) ↦[(gDst n).view.set]{fullShare} fo by rw [hSd])) $$ Hd
  iapply (SparseCore.wp_indirectGatherLocal countersEmb 𝒱₀ (V d (cV L) (jV L)) none (src := gSrc) (dst := gDst n) (offs := gOffs n) (hg := gathers_S40960x2x128_S128x2x128)
      (q := qt) (qo := fullShare) (fs := tb) (fd := fo) (fo := f) (default : HIx 1)
      (gDst n).view.dmaCredit (hN _) (by decide) hin) $$ [Hts Hd Hs Hv]
  · isplitl [Hts]; · iexact Hts
    isplitl [Hd]; · iexact Hd
    isplitl [Hs]; · iexact Hs
    iexact Hv
  iintro Hfl
  iapply (wp_waitFor d L O W (src := gSrc) (dst := gDst n) (h1 := e6) (h2 := e7) rfl) $$ [Hfl HO]
  · isplitl [Hfl]; · iexact Hfl
    isplitl [HO]; · iexact HO
    iexact Hmw
  iintro ⟨⟨Hd, Hts, Hs⟩, Hv, HO⟩
  iapply Hk
  isplitl [Hi]; · iexact Hi
  isplitl [Hs]
  · iexists f
    iapply (Entails.of_eq (show ((gOffs n).view.loc (V d (cV L) (jV L)) ↦[(gOffs n).view.set]{fullShare} f : sProp 𝕄) = slotIPts d L n f by rw [hSs])) $$ Hs
  isplitl [Hd]
  · iexists _
    isplitr
    swap
    · iapply (Entails.of_eq (show ((gDst n).view.loc (V d (cV L) (jV L)) ↦[(gDst n).view.set]{fullShare} _ : sProp 𝕄) = slotOPts d L n _ by rw [hSd])) $$ Hd
    · ipureintro
      exact block_value (F := F) hf tb fo old _ hin
  isplitl [Hts Htr]
  · iapply (pointsTo_split_subset (q := qt) (f := tb) (S := Finset.univ) (Finset.subset_univ gSrc.view.set)).2
    isplitl [Hts]; · iexact Hts
    iexact Htr
  isplitl [Hv]; · iexact Hv
  iexact HO

end Tile

end Cert.Proof.Gather

end
-- ==== Proof.Tile.lean ====
/-
  A vector subcore's task of the gather: its loop's trip as its parts, the loop at the invariant `Inv`, the task.
-/
module

public import proofs.«01_k».proof.Proof.Steps

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (d : Dev nD) (L : grid0.Coords) (q qt : PosShare TreeShare) (tb : Buf (Elt F) (tLoc d)) (ix : Buf (Elt F) (iLoc d)) (old : Buf (Elt F) (oLoc d))

/-- The subcore's window `t`, and the slot it goes through. -/
def wAt (t : ℕ) : Fin 256 := ⟨(win0 L + t) % 256, Nat.mod_lt _ (by decide)⟩
def par (t : ℕ) : Fin 2 := ⟨t % 2, Nat.mod_lt _ (by decide)⟩

theorem wAt_val {t : ℕ} (h : t < 8) : (wAt L t).val = win0 L + t := by
  have h0 : (L 0).val < 2 := (L 0).isLt
  have h1 : (L 1).val < 16 := (L 1).isLt
  exact Nat.mod_eq_of_lt (by unfold win0; omega)

variable [FloatOps F]

theorem assume_of {α : Type} {P : Prop} {dec : Decidable P} (h : P) {k : PLift P → Prog (TpuEff nD τ sig (Elt F) Λ₀ (.scVector (cV L) (jV L))) α} {Q : α → sProp 𝕄} :
    wp frame (wpE (defs₀ (F := F)) 𝒱₀ (V d (cV L) (jV L)) none) Set.univ (.op (.assume P dec) k) Q
      = wp frame (wpE (defs₀ (F := F)) 𝒱₀ (V d (cV L) (jV L)) none) Set.univ (k ⟨h⟩) Q := wp_assume_of 𝒱₀ (V d (cV L) (jV L)) none Set.univ h

theorem ret_of {α : Type} {a : α} {Q : α → sProp 𝕄} : Q a ⊢ WP d L (.ret a) Q := by
  iintro H; rw [WP, wp_ret]; imodintro; iexact H

theorem bind_of {α β : Type} {p : Prog (TpuEff nD τ sig (Elt F) Λ₀ (.scVector (cV L) (jV L))) α} {k : α → Prog (TpuEff nD τ sig (Elt F) Λ₀ (.scVector (cV L) (jV L))) β} {Q : β → sProp 𝕄} :
    WP d L p (fun a => WP d L (k a) Q) ⊢ WP d L (p >>= k) Q := Entails.of_eq (by rw [WP, WP, wp_bind])

theorem assumed {α : Type} {P : Prop} {dec : Decidable P} (h : P) {k : PLift P → Prog (TpuEff nD τ sig (Elt F) Λ₀ (.scVector (cV L) (jV L))) α} {Q : α → sProp 𝕄} :
    WP d L (k ⟨h⟩) Q ⊢ WP d L (.op (.assume P dec) k) Q := Entails.of_eq (assume_of d L h).symm

/-- What the fetches hold when window `t` is the next to be waited for. -/
def iNext (t : ℕ) : sProp 𝕄 := if t < 8 then iFly d L q ix (par t) (wAt L t) else iFree d L q ix (par t)
/-- What the writes hold of the slot window `t` does not go through: the write of window `t - 1`. -/
def oPrev (t : ℕ) : sProp 𝕄 := if 0 < t then oFly d L tb ix (par (t + 1)) (wAt L (t - 1)) else oFree d L (par (t + 1))

theorem wp_part1 (t : Fin k0_t1_loop.trips) {Q} :
    iFree d L q ix (par (t.val + 1)) ⊢ iprop((iNext d L q ix (t.val + 1) -∗
        Q ⟨chk3 t, chk2 t, chk1 L t, w5 t, w64 t, w65 t, w66 L t, w71 L t, w76 L t, w91 L t, w96 L t⟩)
      -∗ WP d L (k0_part1 (F := F) L tM (Memref.isWhole_whole _) iM (Memref.isWhole_whole _) oM (Memref.isWhole_whole _) isM (Memref.isWhole_whole _)
        cc0_scoped1 osM (Memref.isWhole_whole _) cc0_scoped3 cc0_scoped4 (base L) 0#32 1#32 t (c6 t) (c7 t) (c7 t) (c9 t) (c10 t)) Q) := by
  rw [k0_part1_eq_skeleton]; unfold k0_part1_skel
  simp only [WP, Prog.lift, Prog.bind_op, Prog.bind_ret, Prog.pure_eq_ret]
  rw [assume_of d L (chk3 t), assume_of d L (chk2 t), assume_of d L (chk1 L t)]
  have ht : t.val < 8 := t.isLt.trans_eq trips_eq
  by_cases h : t.val < 7
  · rw [dif_pos ((cond1_eq L t).trans (if_pos h))]
    simp only [Prog.bind_op, Prog.bind_ret]
    iintro Hi Hk
    iapply (wp_fetch d L q ix (par (t.val + 1)) (wAt L (t.val + 1)) (by rw [off4_eq]; show _ = ![(t.val + 1) % 2, 0, 0]; rw [min_eq_left (by omega)])
      (by rw [off5_eq L t h, wAt_val L (by omega)]) (by rw [off6_eq]; show _ = ![(t.val + 1) % 2]; rw [min_eq_left (by omega)])) $$ Hi
    iintro Hf
    iapply (ret_of d L)
    iapply Hk
    unfold iNext
    rw [if_pos (by omega)]
    iexact Hf
  · rw [dif_neg (by rw [cond1_eq L t, if_neg h]; decide)]
    simp only [Prog.bind_ret]
    iintro Hi Hk
    iapply (ret_of d L)
    iapply Hk
    unfold iNext
    rw [if_neg (by omega)]
    iexact Hi

theorem wp_part2 (O : CellTallies nD τ sig (HIx 1)) (W : Waits sig (HIx 1)) (hix : ∀ j, (ix j : BitVec 32).toNat < 40960) (t : Fin k0_t1_loop.trips) {Q} :
    iprop(iNext d L q ix t.val ∗ oFree d L (par t.val) ∗ (tLoc d ↦{qt} tb) ∗ semVal (V d (cV L) (jV L), .dma cc0_scoped4.sem) 0 ∗ Owed d L O W ∗ MW d L O)
      ⊢ iprop((∀ w, iprop(iFree d L q ix (par t.val) ∗
          (∃ f, ⌜∀ x ∈ (blkM (wAt L t.val)).view.set, (blkM (wAt L t.val)).view.write (Elt F) old ((slotO (par t.val)).view.read (Elt F) f) Finset.univ x = gathered tb ix x⌝ ∗ slotOPts d L (par t.val) f)
          ∗ semVal (V d (cV L) (jV L), .dma (semO (par t.val))) 0 ∗ (tLoc d ↦{qt} tb) ∗ semVal (V d (cV L) (jV L), .dma cc0_scoped4.sem) 0 ∗ Owed d L O W) -∗ Q w)
      -∗ WP d L (k0_part2 (F := F) L tM (Memref.isWhole_whole _) iM (Memref.isWhole_whole _) oM (Memref.isWhole_whole _) isM (Memref.isWhole_whole _)
        cc0_scoped1 osM (Memref.isWhole_whole _) cc0_scoped3 cc0_scoped4 t (c6 t) (c7 t) (c7 t) (c9 t) (c10 t) (chk3 t) (chk2 t) (chk1 L t) (w5 t) (w64 t) (w65 t) (w66 L t) (w71 L t) (w76 L t) (w96 L t)) Q) := by
  rw [k0_part2_eq_skeleton]; unfold k0_part2_skel
  have ht : t.val < 8 := t.isLt.trans_eq trips_eq
  simp only [WP, Prog.lift, Prog.bind_op, Prog.bind_ret, Prog.pure_eq_ret, ite_self, dif_pos (cond2_eq L t)]
  unfold iNext oFree
  rw [if_pos ht]
  iintro ⟨Hi, ⟨Ho, Hso⟩, Ht, Hs4, HO, #Hmw⟩ Hk
  iapply (wp_fetched d L q ix O W (par t.val) (wAt L t.val) (off9_eq t)) $$ [Hi HO]
  · isplitl [Hi]; · iexact Hi
    isplitl [HO]; · iexact HO
    iexact Hmw
  iintro ⟨Hg, Hsi, HO⟩
  iapply (wp_gather d L q tb ix O W hix qt (par t.val) (wAt L t.val) (off10_eq t) (off11_eq t) old) $$ [Hg Ho Ht Hs4 HO]
  · isplitl [Hg]; · iexact Hg
    isplitl [Ho]; · iexact Ho
    isplitl [Ht]; · iexact Ht
    isplitl [Hs4]; · iexact Hs4
    isplitl [HO]; · iexact HO
    iexact Hmw
  iintro ⟨Hi, Hf, Ho, Ht, Hs4, HO⟩
  iapply (ret_of d L)
  iapply Hk
  unfold iFree
  isplitl [Hi Hf Hsi]
  · isplitl [Hi]; · iexact Hi
    isplitl [Hf]; · iexact Hf
    iexact Hsi
  isplitl [Ho]; · iexact Ho
  isplitl [Hso]; · iexact Hso
  isplitl [Ht]; · iexact Ht
  isplitl [Hs4]; · iexact Hs4
  iexact HO

/-- The blocks still to be written when window `t` is next, and those written. -/
def todo (t : ℕ) : sProp 𝕄 := bigSep (Finset.Ico t 8) fun j => blkPts d (wAt L j) old
def written (t : ℕ) : sProp 𝕄 := bigSep (Finset.range (t - 1)) fun j => blkPts d (wAt L j) (outBuf d tb ix)

omit [FloatOps F] in
theorem todo_succ {t : ℕ} (h : t < 8) : todo d L old t = iprop(blkPts d (wAt L t) old ∗ todo (F := F) d L old (t + 1)) := by
  unfold todo
  rw [show Finset.Ico t 8 = insert t (Finset.Ico (t + 1) 8) from by ext x; simp only [Finset.mem_Ico, Finset.mem_insert]; omega]
  exact SparseCore.bigSep_insert' (by simp)

omit [FloatOps F] in
theorem written_succ {t : ℕ} (h : 0 < t) : written d L tb ix (t + 1) = iprop(blkPts d (wAt L (t - 1)) (outBuf d tb ix) ∗ written (F := F) d L tb ix t) := by
  unfold written
  rw [show t + 1 - 1 = (t - 1) + 1 from by omega, Finset.range_add_one]
  exact SparseCore.bigSep_insert' (by simp)

/-- What a subcore holds when window `t` is next. -/
def Held (O : CellTallies nD τ sig (HIx 1)) (W : Waits sig (HIx 1)) (t : ℕ) : sProp 𝕄 :=
  iprop((Owed d L O W ∗ MW d L O) ∗ ((tLoc d ↦{qt} tb) ∗ semVal (V d (cV L) (jV L), .dma cc0_scoped4.sem) 0)
    ∗ (iNext d L q ix t ∗ iFree d L q ix (par (t + 1))) ∗ (oFree d L (par t) ∗ oPrev d L tb ix t) ∗ todo d L old t ∗ written d L tb ix t)
def Inv (O : CellTallies nD τ sig (HIx 1)) (W : Waits sig (HIx 1)) (t : ℕ) (acc : Carry) : sProp 𝕄 :=
  iprop(⌜acc = carry t⌝ ∗ Held d L q qt tb ix old O W t)

theorem trip_at (O : CellTallies nD τ sig (HIx 1)) (W : Waits sig (HIx 1)) (hix : ∀ j, (ix j : BitVec 32).toNat < 40960) (t : Fin k0_t1_loop.trips) :
    Held d L q qt tb ix old O W t.val ⊢ WP d L (k0_t1_body (F := F) L tM (Memref.isWhole_whole _) iM (Memref.isWhole_whole _) oM (Memref.isWhole_whole _) isM (Memref.isWhole_whole _)
        cc0_scoped1 osM (Memref.isWhole_whole _) cc0_scoped3 cc0_scoped4 (base L) t (carry t.val)) (Inv d L q qt tb ix old O W (t.val + 1)) := by
  have ht : t.val < 8 := t.isLt.trans_eq trips_eq
  unfold Inv Held
  rw [todo_succ d L old ht]
  have hw : (wAt L t.val).val = win0 L + t.val := wAt_val L ht
  have hnext : iprop(iFree d L q ix (par t.val)) ⊢ iFree d L q ix (par (t.val + 1 + 1)) := by
    rw [show par (t.val + 1 + 1) = par t.val from Fin.ext (by show (t.val + 1 + 1) % 2 = t.val % 2; omega)]
  have hfly : iprop(oFly d L tb ix (par t.val) (wAt L t.val)) ⊢ oPrev d L tb ix (t.val + 1) := by
    unfold oPrev
    rw [if_pos (by omega), show par (t.val + 1 + 1) = par t.val from Fin.ext (by show (t.val + 1 + 1) % 2 = t.val % 2; omega)]; exact Entails.rfl
  have hprev (h : 0 < t.val) : oPrev d L tb ix t.val ⊢ oFly d L tb ix (par (t.val + 1)) (wAt L (t.val - 1)) := by unfold oPrev; rw [if_pos h]
  have hprev0 (h : ¬ 0 < t.val) : oPrev d L tb ix t.val ⊢ oFree d L (par (t.val + 1)) := by unfold oPrev; rw [if_neg h]
  have hwr (h : 0 < t.val) : iprop(blkPts d (wAt L (t.val - 1)) (outBuf d tb ix) ∗ written d L tb ix t.val) ⊢ written d L tb ix (t.val + 1) := by rw [written_succ d L tb ix h]
  have hwr0 (h : ¬ 0 < t.val) : written d L tb ix t.val ⊢ written d L tb ix (t.val + 1) := by
    unfold written; rw [show t.val + 1 - 1 = t.val - 1 from by omega]
  unfold k0_t1_body carry
  by_cases h0 : 0 < t.val
  all_goals
    first
    | simp only [WP, Prog.lift, Prog.bind_op, Prog.bind_ret, Prog.pure_eq_ret, ite_self, dif_pos (cond5_eq L t), dif_pos ((cond7_eq L t).trans (if_pos h0))]
    | simp only [WP, Prog.lift, Prog.bind_op, Prog.bind_ret, Prog.pure_eq_ret, ite_self, dif_pos (cond5_eq L t), dif_neg (show ¬ k0_cond7 L t (c10 t) = 1#1 by rw [cond7_eq, if_neg h0]; decide)]
    iintro ⟨⟨HO, #Hmw⟩, ⟨Ht, Hs4⟩, ⟨Hin, Hif⟩, ⟨Hof, Hop⟩, ⟨Hb, Htd⟩, Hwr⟩
    iapply (bind_of d L)
    iapply (wp_part1 d L q ix t) $$ Hif
    iintro Hin'
    iapply (bind_of d L)
    iapply (wp_part2 d L q qt tb ix old O W hix t) $$ [Hin Hof Ht Hs4 HO]
    · isplitl [Hin]; · iexact Hin
      isplitl [Hof]; · iexact Hof
      isplitl [Ht]; · iexact Ht
      isplitl [Hs4]; · iexact Hs4
      isplitl [HO]; · iexact HO
      iexact Hmw
    iintro %w ⟨Hif, ⟨%f, %hf, Hso⟩, Hsv, Ht, Hs4, HO⟩
    iapply (wp_put d L tb ix (par t.val) (wAt L t.val) (off12_eq t) (by rw [off13_eq, hw]) (off14_eq t) old f hf) $$ [Hso Hsv Hb]
    · isplitl [Hso]; · iexact Hso
      isplitl [Hsv]; · iexact Hsv
      iexact Hb
    iintro Hfly
  · iapply (wp_written d L tb ix O W (par (t.val + 1)) (wAt L (t.val - 1))
      (by rw [off17_eq]; show _ = ![(t.val + 1) % 2]; rw [show (t.val - 1) % 2 = (t.val + 1) % 2 from by omega])) $$ [Hop HO]
    · isplitl [Hop]; · iapply hprev h0 $$ Hop
      isplitl [HO]; · iexact HO
      iexact Hmw
    iintro ⟨Hb, Hof, HO⟩
    iapply (ret_of d L)
    isplitr
    · ipureintro; exact carry_next L t
    isplitl [HO]
    · isplitl [HO]; · iexact HO
      iexact Hmw
    isplitl [Ht Hs4]
    · isplitl [Ht]; · iexact Ht
      iexact Hs4
    isplitl [Hin' Hif]
    · isplitl [Hin']; · iexact Hin'
      iapply hnext $$ Hif
    isplitl [Hof Hfly]
    · isplitl [Hof]; · iexact Hof
      iapply hfly $$ Hfly
    isplitl [Htd]; · iexact Htd
    iapply hwr h0
    isplitl [Hb]; · iexact Hb
    iexact Hwr
  · iapply (ret_of d L)
    isplitr
    · ipureintro; exact carry_next L t
    isplitl [HO]
    · isplitl [HO]; · iexact HO
      iexact Hmw
    isplitl [Ht Hs4]
    · isplitl [Ht]; · iexact Ht
      iexact Hs4
    isplitl [Hin' Hif]
    · isplitl [Hin']; · iexact Hin'
      iapply hnext $$ Hif
    isplitl [Hop Hfly]
    · isplitl [Hop]; · iapply hprev0 h0 $$ Hop
      iapply hfly $$ Hfly
    isplitl [Htd]; · iexact Htd
    iapply hwr0 h0 $$ Hwr

theorem trip (O : CellTallies nD τ sig (HIx 1)) (W : Waits sig (HIx 1)) (hix : ∀ j, (ix j : BitVec 32).toNat < 40960) (t : Fin k0_t1_loop.trips) (acc : Carry) :
    Inv d L q qt tb ix old O W t.val acc ⊢ WP d L (k0_t1_body (F := F) L tM (Memref.isWhole_whole _) iM (Memref.isWhole_whole _) oM (Memref.isWhole_whole _) isM (Memref.isWhole_whole _)
        cc0_scoped1 osM (Memref.isWhole_whole _) cc0_scoped3 cc0_scoped4 (base L) t acc) (Inv d L q qt tb ix old O W (t.val + 1)) := by
  conv_lhs => rw [Inv]
  iintro ⟨%hacc, H⟩
  subst hacc
  iapply (trip_at d L q qt tb ix old O W hix t) $$ H

theorem wp_part3 {Q} :
    iFree d L q ix 0 ⊢ iprop((iNext d L q ix 0 -∗ Q (base L))
      -∗ WP d L (k0_part3 (F := F) L tM (Memref.isWhole_whole _) iM (Memref.isWhole_whole _) oM (Memref.isWhole_whole _) isM (Memref.isWhole_whole _)
        cc0_scoped1 osM (Memref.isWhole_whole _) cc0_scoped3 cc0_scoped4) Q) := by
  rw [k0_part3_eq_skeleton]; unfold k0_part3_skel
  simp only [WP, Prog.lift, Prog.bind_op, Prog.bind_ret, Prog.pure_eq_ret]
  have hn : iFly d L q ix 0 (wAt L 0) ⊢ iNext d L q ix 0 := by unfold iNext; rw [if_pos (by decide)]; exact Entails.rfl
  iintro Hi Hk
  iapply (wp_fetch d L q ix 0 (wAt L 0) off1_eq' (by rw [off2_eq', wAt_val L (by omega)]) off3_eq') $$ Hi
  iintro Hf
  iapply (ret_of d L)
  iapply Hk
  iapply hn $$ Hf

theorem wp_part4 (O : CellTallies nD τ sig (HIx 1)) (W : Waits sig (HIx 1)) (hix : ∀ j, (ix j : BitVec 32).toNat < 40960) {Q} :
    Held d L q qt tb ix old O W 0 ⊢ iprop((Held d L q qt tb ix old O W 8 -∗ Q ⟨c9 8, c10 8, chk5 L, chk4⟩)
      -∗ WP d L (k0_part4 (F := F) L tM (Memref.isWhole_whole _) iM (Memref.isWhole_whole _) oM (Memref.isWhole_whole _) isM (Memref.isWhole_whole _)
        cc0_scoped1 osM (Memref.isWhole_whole _) cc0_scoped3 cc0_scoped4 (base L)) Q) := by
  rw [k0_part4_eq_skeleton]; unfold k0_part4_skel
  simp only [WP, Prog.lift, Prog.bind_op, Prog.bind_ret, Prog.pure_eq_ret]
  have h0 : Held d L q qt tb ix old O W 0 ⊢ Inv d L q qt tb ix old O W 0 (carry 0) := by
    unfold Inv; iintro H; isplitr; · ipureintro; rfl
    iexact H
  iintro H Hk
  ihave H := h0 $$ H
  iapply (Scf.wp_for_bind Idealize.ShloMosaic.frame (wpE (defs₀ (F := F)) 𝒱₀ (V d (cV L) (jV L)) none) Set.univ _ _ _ k0_t1_ok (carry 0) _
    (Inv d L q qt tb ix old O W) (trip d L q qt tb ix old O W hix)) $$ H
  iintro %acc HI
  ihave HI := (Entails.of_eq (show Inv d L q qt tb ix old O W (Scf.trips k0_t1_loop.lb k0_t1_loop.ub k0_t1_loop.st) acc = iprop(⌜acc = carry 8⌝ ∗ Held d L q qt tb ix old O W 8) from by
    rw [show Scf.trips k0_t1_loop.lb k0_t1_loop.ub k0_t1_loop.st = 8 from trips_eq]; rfl)) $$ HI
  icases HI with ⟨%hacc, H⟩
  subst hacc
  iapply (assumed d L (chk5 L))
  iapply (assumed d L chk4)
  iapply (ret_of d L)
  iapply Hk $$ H

/-- The task: from the table, the positions, both slots of each ring free and the blocks of the subcore's windows at the
old contents, to the same with the blocks at the rows gathered. -/
theorem task (O : CellTallies nD τ sig (HIx 1)) (W : Waits sig (HIx 1)) (hix : ∀ j, (ix j : BitVec 32).toNat < 40960) {Q} :
    iprop((Owed d L O W ∗ MW d L O) ∗ ((tLoc d ↦{qt} tb) ∗ semVal (V d (cV L) (jV L), .dma cc0_scoped4.sem) 0)
        ∗ (iFree d L q ix 0 ∗ iFree d L q ix 1) ∗ (oFree d L 0 ∗ oFree d L 1) ∗ todo d L old 0)
      ⊢ iprop((iprop(Owed d L O W ∗ ((tLoc d ↦{qt} tb) ∗ semVal (V d (cV L) (jV L), .dma cc0_scoped4.sem) 0)
        ∗ (iFree d L q ix 0 ∗ iFree d L q ix 1) ∗ (oFree d L 0 ∗ oFree d L 1) ∗ written d L tb ix 9) -∗ Q ⟨⟩)
      -∗ WP d L (cc0_moe_gather (F := F) L tM (Memref.isWhole_whole _) iM (Memref.isWhole_whole _) oM (Memref.isWhole_whole _) isM (Memref.isWhole_whole _)
        cc0_scoped1 osM (Memref.isWhole_whole _) cc0_scoped3 cc0_scoped4) Q) := by
  rw [cc0_moe_gather_eq_skeleton]; unfold cc0_moe_gather_skel
  simp only [WP, Prog.lift, Prog.bind_op, Prog.bind_ret, Prog.pure_eq_ret]
  have hpre : iprop((Owed d L O W ∗ MW d L O) ∗ ((tLoc d ↦{qt} tb) ∗ semVal (V d (cV L) (jV L), .dma cc0_scoped4.sem) 0)
      ∗ (iNext d L q ix 0 ∗ iFree d L q ix 1) ∗ (oFree d L 0 ∗ oFree d L 1) ∗ todo d L old 0) ⊢ Held d L q qt tb ix old O W 0 := by
    unfold Held oPrev written
    rw [if_neg (by decide), show Finset.range (0 - 1) = ∅ from rfl, bigSep_empty]
    iintro ⟨H1, H2, H3, H4, H5⟩
    isplitl [H1]; · iexact H1
    isplitl [H2]; · iexact H2
    isplitl [H3]; · iexact H3
    isplitl [H4]; · iexact H4
    isplitl [H5]; · iexact H5
    iempintro
  have hpost : Held d L q qt tb ix old O W 8 ⊢ iprop((Owed d L O W ∗ MW d L O) ∗ ((tLoc d ↦{qt} tb) ∗ semVal (V d (cV L) (jV L), .dma cc0_scoped4.sem) 0)
      ∗ (iFree d L q ix 0 ∗ iFree d L q ix 1) ∗ (oFree d L 0 ∗ oFly d L tb ix 1 (wAt L 7)) ∗ written d L tb ix 8) := by
    unfold Held oPrev iNext
    rw [if_neg (by decide), if_pos (by decide)]
    iintro ⟨H1, H2, H3, H4, H5, H6⟩
    isplitl [H1]; · iexact H1
    isplitl [H2]; · iexact H2
    isplitl [H3]; · iexact H3
    isplitl [H4]; · iexact H4
    iexact H6
  have hw : iprop(blkPts d (wAt L 7) (outBuf d tb ix) ∗ written d L tb ix 8) ⊢ written d L tb ix 9 := by rw [written_succ d L tb ix (t := 8) (by decide)]
  iintro ⟨⟨HO, #Hmw⟩, HT, ⟨Hi0, Hi1⟩, Ho, Htd⟩ Hk
  iapply (bind_of d L)
  iapply (wp_part3 d L q ix) $$ Hi0
  iintro Hn
  iapply (bind_of d L)
  ihave H := hpre $$ [HO HT Hn Hi1 Ho Htd]
  · isplitl [HO]
    · isplitl [HO]; · iexact HO
      iexact Hmw
    isplitl [HT]; · iexact HT
    isplitl [Hn Hi1]
    · isplitl [Hn]; · iexact Hn
      iexact Hi1
    isplitl [Ho]; · iexact Ho
    iexact Htd
  iapply (wp_part4 d L q qt tb ix old O W hix) $$ H
  iintro H
  ihave H := hpost $$ H
  icases H with ⟨⟨HO, -⟩, HT, Hi, ⟨Ho, Hf⟩, Hwr⟩
  iapply (wp_written d L tb ix O W 1 (wAt L 7) off20_eq) $$ [Hf HO]
  · isplitl [Hf]; · iexact Hf
    isplitl [HO]; · iexact HO
    iexact Hmw
  iintro ⟨Hb, Ho1, HO⟩
  iapply (ret_of d L)
  iapply Hk
  isplitl [HO]; · iexact HO
  isplitl [HT]; · iexact HT
  isplitl [Hi]; · iexact Hi
  isplitl [Ho Ho1]
  · isplitl [Ho]; · iexact Ho
    iexact Ho1
  iapply hw
  isplitl [Hb]; · iexact Hb
  iexact Hwr

end Tile

end Cert.Proof.Gather

end
-- ==== Proof.Split.lean ====
/-
  How the memory falls to the subcores: a ring is its two slots, the result its 256 blocks — the windows of the 32
  subcores, eight each.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem idiv : 2 ∣ S2x1x128.size 0 := ⟨1, rfl⟩
theorem odiv : 2 ∣ S2x128x256.size 0 := ⟨1, rfl⟩
theorem bdiv : 256 ∣ S32768x256.size 0 := ⟨128, rfl⟩

abbrev iSet (n : Fin 2) : Finset S2x1x128.Idx := (slotI n).view.set
abbrev oSet (n : Fin 2) : Finset S2x128x256.Idx := (slotO n).view.set
abbrev bSet (w : Fin 256) : Finset S32768x256.Idx := (blkM w).view.set

theorem two (Φ : Fin 2 → sProp 𝕄) : bigSep Finset.univ Φ = iprop(Φ 0 ∗ Φ 1) := BI.bigSep_fin_two Φ

theorem set_slotI (n : Fin 2) : iSet n = (Rect.part (s := S2x1x128) (a₀ := 0) idiv n).set := by
  show (((View.whole (cc0_scoped0 : Ref sig .scVector)).slice (Rect.unit (s := S2x1x128) ![n.val, 0, 0] S1x1x128.size (inb_slotI n))).reshape S1x128 squeezes_S1x1x128_S1x128.numel_eq).set = _
  rw [View.set_reshape, View.set_slice]
  refine Finset.map_refl.trans (congrArg (fun r : Rect _ => r.set) ?_)
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_slotO (n : Fin 2) : oSet n = (Rect.part (s := S2x128x256) (a₀ := 0) odiv n).set := by
  show (((View.whole (cc0_scoped2 : Ref sig .scVector)).slice (Rect.unit (s := S2x128x256) ![n.val, 0, 0] S1x128x256.size (inb_slotO n))).reshape S128x256 squeezes_S1x128x256_S128x256.numel_eq).set = _
  rw [View.set_reshape, View.set_slice]
  refine Finset.map_refl.trans (congrArg (fun r : Rect _ => r.set) ?_)
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_blkM (w : Fin 256) : bSet w = (Rect.part (s := S32768x256) (a₀ := 0) bdiv w).set := by
  show ((View.whole (main_v1_scv : Ref sig .scVector)).slice (Rect.unit (s := S32768x256) ![128 * w.val, 0] S128x256.size (inb_blk w))).set = _
  rw [View.set_slice]
  refine Finset.map_refl.trans (congrArg (fun r : Rect _ => r.set) ?_)
  unfold Rect.part Rect.block
  congr 1 <;> funext a
  · match a with
    | 0 => simp [Shape.partIx, Shape.partSize, Nat.mul_comm]
    | 1 => simp [Shape.partIx, Shape.partSize]
  · match a with
    | 0 => simp [Shape.partSize]
    | 1 => simp [Shape.partSize]

theorem slotI_disjoint : ∀ i ∈ (Finset.univ : Finset (Fin 2)), ∀ j ∈ (Finset.univ : Finset (Fin 2)), i ≠ j → Disjoint (iSet i) (iSet j) :=
  fun i _ j _ h => by rw [set_slotI, set_slotI]; exact Rect.part_disjoint idiv h
theorem slotO_disjoint : ∀ i ∈ (Finset.univ : Finset (Fin 2)), ∀ j ∈ (Finset.univ : Finset (Fin 2)), i ≠ j → Disjoint (oSet i) (oSet j) :=
  fun i _ j _ h => by rw [set_slotO, set_slotO]; exact Rect.part_disjoint odiv h
theorem blkM_disjoint : ∀ i ∈ (Finset.univ : Finset (Fin 256)), ∀ j ∈ (Finset.univ : Finset (Fin 256)), i ≠ j → Disjoint (bSet i) (bSet j) :=
  fun i _ j _ h => by rw [set_blkM, set_blkM]; exact Rect.part_disjoint bdiv h
theorem slotI_cover : (Finset.univ : Finset (Fin 2)).biUnion iSet = Finset.univ :=
  (Finset.biUnion_congr rfl fun i _ => set_slotI i).trans (Rect.biUnion_part idiv)
theorem slotO_cover : (Finset.univ : Finset (Fin 2)).biUnion oSet = Finset.univ :=
  (Finset.biUnion_congr rfl fun i _ => set_slotO i).trans (Rect.biUnion_part odiv)
theorem blkM_cover : (Finset.univ : Finset (Fin 256)).biUnion bSet = Finset.univ :=
  (Finset.biUnion_congr rfl fun i _ => set_blkM i).trans (Rect.biUnion_part bdiv)

/-! ## The rings -/

section Rings

variable (d : Dev nD) (L : grid0.Coords)

theorem ringI_split (f : Buf (Elt F) ((V d (cV L) (jV L)).loc cc0_scoped0)) :
    ((V d (cV L) (jV L)).loc cc0_scoped0 ↦{fullShare} f : sProp 𝕄) ⊢ iprop((∃ f, slotIPts d L 0 f) ∗ ∃ f, slotIPts d L 1 f) := by
  refine (Entails.of_eq (show ((V d (cV L) (jV L)).loc cc0_scoped0 ↦{fullShare} f : sProp 𝕄) = bigSep Finset.univ fun n : Fin 2 => slotIPts d L n f from by
    rw [← pointsTo_biUnion Finset.univ (ℓ := (V d (cV L) (jV L)).loc cc0_scoped0) iSet slotI_disjoint]
    exact congrArg (fun S => ((V d (cV L) (jV L)).loc cc0_scoped0 ↦[S]{fullShare} f : sProp 𝕄)) slotI_cover.symm)).trans ?_
  rw [two]
  iintro ⟨H0, H1⟩
  isplitl [H0]; · iexists f; iexact H0
  iexists f; iexact H1

theorem ringO_split (f : Buf (Elt F) ((V d (cV L) (jV L)).loc cc0_scoped2)) :
    ((V d (cV L) (jV L)).loc cc0_scoped2 ↦{fullShare} f : sProp 𝕄) ⊢ iprop((∃ f, slotOPts d L 0 f) ∗ ∃ f, slotOPts d L 1 f) := by
  refine (Entails.of_eq (show ((V d (cV L) (jV L)).loc cc0_scoped2 ↦{fullShare} f : sProp 𝕄) = bigSep Finset.univ fun n : Fin 2 => slotOPts d L n f from by
    rw [← pointsTo_biUnion Finset.univ (ℓ := (V d (cV L) (jV L)).loc cc0_scoped2) oSet slotO_disjoint]
    exact congrArg (fun S => ((V d (cV L) (jV L)).loc cc0_scoped2 ↦[S]{fullShare} f : sProp 𝕄)) slotO_cover.symm)).trans ?_
  rw [two]
  iintro ⟨H0, H1⟩
  isplitl [H0]; · iexists f; iexact H0
  iexists f; iexact H1

theorem ringI_join : iprop((∃ f, slotIPts d L 0 f) ∗ ∃ f, slotIPts d L 1 f) ⊢ (iprop(∃ f, (V d (cV L) (jV L)).loc cc0_scoped0 ↦{fullShare} f) : sProp 𝕄) := by
  iintro ⟨⟨%f, H0⟩, %g, H1⟩
  ihave H := (pointsTo_biUnion_join (ℓ := (V d (cV L) (jV L)).loc cc0_scoped0) (q := fullShare) (Val := Elt F) Finset.univ iSet
    (fun n => if n = 0 then f else g) f slotI_disjoint) $$ [H0 H1]
  · rw [two]
    isplitl [H0]; · iexact H0
    iexact H1
  icases H with ⟨%h, -, H⟩
  rw [slotI_cover]
  iexists h; iexact H

theorem ringO_join : iprop((∃ f, slotOPts d L 0 f) ∗ ∃ f, slotOPts d L 1 f) ⊢ (iprop(∃ f, (V d (cV L) (jV L)).loc cc0_scoped2 ↦{fullShare} f) : sProp 𝕄) := by
  iintro ⟨⟨%f, H0⟩, %g, H1⟩
  ihave H := (pointsTo_biUnion_join (ℓ := (V d (cV L) (jV L)).loc cc0_scoped2) (q := fullShare) (Val := Elt F) Finset.univ oSet
    (fun n => if n = 0 then f else g) f slotO_disjoint) $$ [H0 H1]
  · rw [two]
    isplitl [H0]; · iexact H0
    iexact H1
  icases H with ⟨%h, -, H⟩
  rw [slotO_cover]
  iexists h; iexact H

/-- A subcore's share of the positions is its two slots' halves. -/
theorem halves (q : PosShare TreeShare) (ix : Buf (Elt F) (iLoc d)) : (iLoc d ↦{q} ix : sProp 𝕄) = iprop(iPts d q ix 0 ∗ iPts d q ix 1) :=
  equiv_iff.mp ⟨(pointsTo_share (PosShare.mem_left_op_right q)).1, (pointsTo_share (PosShare.mem_left_op_right q)).2⟩

end Rings

/-! ## The result's blocks among the subcores -/

/-- Window `j` of subcore `(c, s)`. -/
def winEquiv : (Fin 2 × Fin 16) × Fin 8 ≃ Fin 256 where
  toFun p := ⟨128 * p.1.1.val + 8 * p.1.2.val + p.2.val, by have := p.1.1.isLt; have := p.1.2.isLt; have := p.2.isLt; omega⟩
  invFun w := ((⟨w.val / 128, by have := w.isLt; omega⟩, ⟨w.val / 8 % 16, by omega⟩), ⟨w.val % 8, by omega⟩)
  left_inv p := by
    have := p.1.1.isLt; have := p.1.2.isLt; have := p.2.isLt
    refine Prod.ext (Prod.ext (Fin.ext ?_) (Fin.ext ?_)) (Fin.ext ?_) <;> simp only <;> omega
  right_inv w := Fin.ext (by have := w.isLt; simp only; omega)

/-- The blocks of a subcore's eight windows at `f`. -/
def tileOut (d : Dev nD) (L : grid0.Coords) (f : Buf (Elt F) (oLoc d)) : sProp 𝕄 := bigSep (Finset.range 8) fun j => blkPts d (wAt L j) f

theorem out_tiles (d : Dev nD) (f : Buf (Elt F) (oLoc d)) :
    (oLoc d ↦{fullShare} f : sProp 𝕄) = bigSep Finset.univ fun c : Fin 2 => bigSep Finset.univ fun s : Fin 16 => tileOut d (at32 c s) f := by
  have e : (oLoc d ↦{fullShare} f : sProp 𝕄) = bigSep Finset.univ fun w : Fin 256 => blkPts d w f := by
    rw [← pointsTo_biUnion Finset.univ (ℓ := oLoc d) bSet blkM_disjoint]
    exact congrArg (fun S => (oLoc d ↦[S]{fullShare} f : sProp 𝕄)) blkM_cover.symm
  rw [e, bigSep_univ_equiv winEquiv, bigSep_univ_prod, bigSep_univ_prod]
  refine bigSep_congr fun c _ => bigSep_congr fun s _ => ?_
  unfold tileOut
  rw [show Finset.range 8 = (Finset.univ : Finset (Fin 8)).map Fin.valEmbedding from by decide, bigSep_map]
  refine bigSep_congr fun j _ => ?_
  rw [show winEquiv ((c, s), j) = wAt (at32 c s) j.val from Fin.ext (wAt_val (at32 c s) j.isLt).symm]
  rfl

end Cert.Proof.Gather

end
-- ==== Proof.Launch.lean ====
/-
  The gather's run: what the launch hands each SparseCore and each of its vector subcores (a share of the table and of
  the positions, the blocks of its windows), @main (the positions reshaped, then the call), and the whole program's run:
  the result is the table's rows at the positions.
-/
module

public import proofs.«01_k».proof.Proof.Split
public import Idealize.ShloMosaic.Lib.StableHlo.Run
public import Idealize.ShloMosaic.Lib.SparseCore.Quiescent

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

/-! ## A subcore's own cells and buffers -/

section Own

variable (d : Dev nD) (L : grid0.Coords)

abbrev cell (s : DmaSem sig) : GSem nD τ sig := (V d (cV L) (jV L), .dma s)

theorem cell_mem {s : DmaSem sig} (h : (SemLoc.dma s : SemLoc sig).isScoped .scVector = true) : cell d L s ∈ ownCells (V d (cV L) (jV L)) :=
  (mem_ownCells (g := cell d L s)).mpr ⟨rfl, h⟩

theorem cell_ne {s s' : DmaSem sig} (h : s ≠ s') : cell d L s ≠ cell d L s' := fun e => h (by
  have := congrArg Prod.snd e
  injection this)

theorem ownSems0_V :
    (ownSems0 (V d (cV L) (jV L)) : sProp 𝕄)
      = iprop(semVal (cell d L (semI 0)) 0 ∗ semVal (cell d L (semI 1)) 0 ∗ semVal (cell d L (semO 0)) 0 ∗ semVal (cell d L (semO 1)) 0
          ∗ semVal (cell d L cc0_scoped4.sem) 0
          ∗ bigSep ((((((ownCells (V d (cV L) (jV L))).erase (cell d L (semI 0))).erase (cell d L (semI 1))).erase (cell d L (semO 0))).erase
              (cell d L (semO 1))).erase (cell d L cc0_scoped4.sem)) fun g => semVal g 0) := by
  unfold SparseCore.Cfg.ownSems0
  have hne {s s' : DmaSem sig} (h : s ≠ s') := cell_ne d L h
  rw [SparseCore.bigSep_erase' (cell_mem d L (s := semI 0) (by decide)),
    SparseCore.bigSep_erase' (Finset.mem_erase.mpr ⟨hne (s := semI 1) (by decide), cell_mem d L (s := semI 1) (by decide)⟩),
    SparseCore.bigSep_erase' (Finset.mem_erase.mpr ⟨hne (s := semO 0) (by decide), Finset.mem_erase.mpr ⟨hne (by decide),
      cell_mem d L (s := semO 0) (by decide)⟩⟩),
    SparseCore.bigSep_erase' (Finset.mem_erase.mpr ⟨hne (s := semO 1) (by decide), Finset.mem_erase.mpr ⟨hne (by decide), Finset.mem_erase.mpr ⟨hne (by decide),
      cell_mem d L (s := semO 1) (by decide)⟩⟩⟩),
    SparseCore.bigSep_erase' (Finset.mem_erase.mpr ⟨hne (s := cc0_scoped4.sem) (by decide), Finset.mem_erase.mpr ⟨hne (by decide), Finset.mem_erase.mpr ⟨hne (by decide),
      Finset.mem_erase.mpr ⟨hne (by decide), cell_mem d L (s := cc0_scoped4.sem) (by decide)⟩⟩⟩⟩)]

theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Own

variable (m : (ℓ : Loc nD τ sig) → Buf (Elt F) ℓ) (ρ : Dev nD → PrngReg)

/-! ## What the handshakes carry -/

/-- The positions as the call reads them. -/
def posOf (d : Dev nD) : Buf (Elt F) (iLoc d) := shapeCast S1x32768 (m (jLoc d) : IVec S32768 32) shapeCasts_S32768_S1x32768
/-- The result. -/
def resOf (d : Dev nD) : Buf (Elt F) (oLoc d) := outBuf d (m (tLoc d)) (posOf m d)

/-- SparseCore `c`'s share of the table and the positions, and its subcore `s`'s. -/
def qC (c : Fin 2) : PosShare TreeShare := Transfers.dealOf fullShare Finset.univ c
def qT (c : Fin 2) (s : Fin 16) : PosShare TreeShare := Transfers.dealOf (qC c) Finset.univ s

abbrev coreRes (d : Dev nD) (c : Fin 2) (f : Buf (Elt F) (oLoc d)) : sProp 𝕄 :=
  iprop((tLoc d ↦{qC c} m (tLoc d)) ∗ (iLoc d ↦{qC c} posOf m d) ∗ bigSep Finset.univ fun s : Fin 16 => tileOut d (at32 c s) f)
abbrev tileRes (d : Dev nD) (c : Fin 2) (s : Fin 16) (f : Buf (Elt F) (oLoc d)) : sProp 𝕄 :=
  iprop((tLoc d ↦{qT c s} m (tLoc d)) ∗ (iLoc d ↦{qT c s} posOf m d) ∗ tileOut d (at32 c s) f)

theorem core_tiles (d : Dev nD) (c : Fin 2) (f : Buf (Elt F) (oLoc d)) :
    coreRes m d c f = bigSep Finset.univ fun s : Fin 16 => tileRes m d c s f := by
  unfold coreRes tileRes
  rw [bigSep_sep', bigSep_sep', Transfers.pointsTo_deal (ℓ := tLoc d) (Finset.univ : Finset (Fin 16)) Finset.univ_nonempty (qC c),
    Transfers.pointsTo_deal (ℓ := iLoc d) (Finset.univ : Finset (Fin 16)) Finset.univ_nonempty (qC c)]
  rfl

theorem whole_cores (d : Dev nD) (f : Buf (Elt F) (oLoc d)) :
    (iprop((tLoc d ↦{fullShare} m (tLoc d)) ∗ (iLoc d ↦{fullShare} posOf m d) ∗ oLoc d ↦{fullShare} f) : sProp 𝕄)
      = bigSep Finset.univ fun c : Fin 2 => coreRes m d c f := by
  unfold coreRes
  rw [bigSep_sep', bigSep_sep', Transfers.pointsTo_deal (ℓ := tLoc d) (Finset.univ : Finset (Fin 2)) Finset.univ_nonempty fullShare,
    Transfers.pointsTo_deal (ℓ := iLoc d) (Finset.univ : Finset (Fin 2)) Finset.univ_nonempty fullShare, out_tiles]
  rfl

instance tileOut_storable (d : Dev nD) (L : grid0.Coords) (f : Buf (Elt F) (oLoc d)) : BI.Storable (upEmb : UEmb _ 𝕄) (tileOut d L f) := by
  unfold tileOut; infer_instance

theorem nCore_zero : (K (F := F)).nCore 0 = 2 := rfl
theorem nSub_zero : (K (F := F)).nSub 0 = 16 := rfl

variable [FloatOps F]

/-- A SparseCore takes its share of the table and of the positions and its subcores' blocks, and brings them back with the
rows gathered; a subcore likewise. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (resOf m d)
  go := fun q d c i => match q with | 0 => tileRes m d (Fin.cast nCore_zero c) (Fin.cast nSub_zero i) (m (oLoc d))
  td := fun q d c i => match q with | 0 => tileRes m d (Fin.cast nCore_zero c) (Fin.cast nSub_zero i) (resOf m d)
  x := fun _ _ => iprop(emp)

instance P_storable : (P (F := F) m).IsStorable where
  st q d c := match q with
    | 0 => (inferInstance : BI.Storable (upEmb : UEmb _ 𝕄) (coreRes m d (Fin.cast nCore_zero c) (m (oLoc d))))
  dn q d c := match q with
    | 0 => (inferInstance : BI.Storable (upEmb : UEmb _ 𝕄) (coreRes m d (Fin.cast nCore_zero c) (resOf m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (resOf m d)))

/-- What the run asks of the launch memory: every position names a row of the table. -/
def InRows : Prop := ∀ (d : Dev nD) (j : S32768.Idx), (m (jLoc d) j : BitVec 32).toNat < 40960

/-! ## The task -/

theorem tile_body (hin : InRows m) (d : Dev nD) (c : Fin 2) (s : Fin 16) (O : CellTallies nD τ sig (HIx 1)) (W : Waits sig (HIx 1)) (hO : ∀ g, O g none = 0) :
    iprop(levAts (K (F := F)).L (K (F := F)).lev ∗ emp ∗ tileRes m d c s (m (oLoc d))
        ∗ scopedBufs (V d (cV (at32 c s)) (jV (at32 c s))) ∗ scopedSems0 (V d (cV (at32 c s)) (jV (at32 c s))) ∗ owes (V d (cV (at32 c s)) (jV (at32 c s))) O W)
      ⊢ WP d (at32 c s) (cc0_moe_gather (F := F) (at32 c s) tM (Memref.isWhole_whole _) iM (Memref.isWhole_whole _) oM (Memref.isWhole_whole _) isM (Memref.isWhole_whole _)
        cc0_scoped1 osM (Memref.isWhole_whole _) cc0_scoped3 cc0_scoped4)
          fun _ => iprop(tileRes m d c s (resOf m d)
            ∗ scopedBufs (V d (cV (at32 c s)) (jV (at32 c s))) ∗ scopedSems0 (V d (cV (at32 c s)) (jV (at32 c s)))
            ∗ ∃ W', ⌜∀ p ∈ W', p ∈ W ∨ p.2 = none⌝ ∗ owes (V d (cV (at32 c s)) (jV (at32 c s))) O W') := by
  rw [(K (F := F)).scopedBufs_V facts d (cV (at32 c s)) (jV (at32 c s)), SparseCore.Cfg.scopedSems0_V (Val := Elt F) d (cV (at32 c s)) (jV (at32 c s)),
    ownSems0_V, ownBufs_V]
  have htask := task (F := F) d (at32 c s) (qT c s) (qT c s) (m (tLoc d)) (posOf m d) (m (oLoc d)) O W (fun j => hin d _)
    (Q := fun _ => iprop(tileRes m d c s (resOf m d)
            ∗ ((∃ f, (V d (cV (at32 c s)) (jV (at32 c s))).loc cc0_scoped0 ↦{fullShare} f) ∗ (∃ f, (V d (cV (at32 c s)) (jV (at32 c s))).loc cc0_scoped2 ↦{fullShare} f)
          ∗ bigSep (((ownRefs (τ := τ) (.scVector (cV (at32 c s)) (jV (at32 c s)))).erase ((Proc.scVector (cV (at32 c s)) (jV (at32 c s))).devRef cc0_scoped0)).erase
              ((Proc.scVector (cV (at32 c s)) (jV (at32 c s))).devRef cc0_scoped2))
              fun b => iprop(∃ f, ((d, b) : Loc nD τ sig) ↦{fullShare} f))
            ∗ (semVal (cell d (at32 c s) (semI 0)) 0 ∗ semVal (cell d (at32 c s) (semI 1)) 0 ∗ semVal (cell d (at32 c s) (semO 0)) 0 ∗ semVal (cell d (at32 c s) (semO 1)) 0
          ∗ semVal (cell d (at32 c s) cc0_scoped4.sem) 0
          ∗ bigSep ((((((ownCells (V d (cV (at32 c s)) (jV (at32 c s)))).erase (cell d (at32 c s) (semI 0))).erase (cell d (at32 c s) (semI 1))).erase (cell d (at32 c s) (semO 0))).erase
              (cell d (at32 c s) (semO 1))).erase (cell d (at32 c s) cc0_scoped4.sem)) fun g => semVal g 0)
            ∗ ∃ W', ⌜∀ p ∈ W', p ∈ W ∨ p.2 = none⌝ ∗ owes (V d (cV (at32 c s)) (jV (at32 c s))) O W'))
  have ein : todo (F := F) d (at32 c s) (m (oLoc d)) 0 = tileOut d (at32 c s) (m (oLoc d)) := by
    unfold todo tileOut; rw [Finset.range_eq_Ico]
  have eout : written (F := F) d (at32 c s) (m (tLoc d)) (posOf m d) 9 = tileOut d (at32 c s) (resOf m d) := rfl
  unfold tileRes
  rw [ein, eout] at htask
  unfold Owed iFree oFree at htask
  iintro ⟨#Hlv, -, ⟨Ht, Hi, Ho⟩, ⟨⟨%fi, HrI⟩, ⟨%fo, HrO⟩, Hbufs⟩, ⟨Hs0, Hs1, Hs2, Hs3, Hs4, Hsems⟩, HO⟩
  ihave Hmw := (show levAts (K (F := F)).L (K (F := F)).lev ⊢ Transfers.MayWaits (V d (cV (at32 c s)) (jV (at32 c s))) (default : HIx 1) O from
    (K (F := F)).mayWaits_none (thr := V d (cV (at32 c s)) (jV (at32 c s))) hO) $$ Hlv
  ihave Hi := (Entails.of_eq (halves d (qT c s) (posOf m d))) $$ Hi
  icases Hi with ⟨Hi0, Hi1⟩
  ihave HrI := (ringI_split d (at32 c s) fi) $$ HrI
  icases HrI with ⟨HrI0, HrI1⟩
  ihave HrO := (ringO_split d (at32 c s) fo) $$ HrO
  icases HrO with ⟨HrO0, HrO1⟩
  iapply htask $$ [HO Hmw Ht Hs4 Hi0 HrI0 Hs0 Hi1 HrI1 Hs1 HrO0 Hs2 HrO1 Hs3 Ho]
  · isplitl [HO Hmw]
    · isplitl [HO]
      · iexists W; isplitr
        · ipureintro; exact fun p hp => .inl hp
        · iexact HO
      · iexact Hmw
    isplitl [Ht Hs4]; · isplitl [Ht] <;> iassumption
    isplitl [Hi0 HrI0 Hs0 Hi1 HrI1 Hs1]
    · isplitl [Hi0 HrI0 Hs0]
      · isplitl [Hi0]; · iexact Hi0
        isplitl [HrI0] <;> iassumption
      · isplitl [Hi1]; · iexact Hi1
        isplitl [HrI1] <;> iassumption
    isplitl [HrO0 Hs2 HrO1 Hs3]
    · isplitl [HrO0 Hs2]
      · isplitl [HrO0] <;> iassumption
      · isplitl [HrO1] <;> iassumption
    iexact Ho
  iintro ⟨HO, ⟨Ht, Hs4⟩, ⟨⟨Hi0, HrI0, Hs0⟩, Hi1, HrI1, Hs1⟩, ⟨⟨HrO0, Hs2⟩, HrO1, Hs3⟩, Ho⟩
  isplitl [Ht Hi0 Hi1 Ho]
  · isplitl [Ht]; · iexact Ht
    isplitl [Hi0 Hi1]
    · iapply (Entails.of_eq (halves d (qT c s) (posOf m d)).symm)
      isplitl [Hi0] <;> iassumption
    iexact Ho
  isplitl [HrI0 HrI1 HrO0 HrO1 Hbufs]
  · isplitl [HrI0 HrI1]
    · iapply (ringI_join d (at32 c s)); isplitl [HrI0] <;> iassumption
    isplitl [HrO0 HrO1]
    · iapply (ringO_join d (at32 c s)); isplitl [HrO0] <;> iassumption
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4] <;> iassumption
  iexact HO

/-! ## The obligation -/

theorem defs₀_vector (c : Fin τ.nSC) (s : Fin τ.nSub) :
    defs₀ (F := F) (.scVector c s) 0 ()
      = SparseCore.onTile hcore0 hsub0 (fun c s => cc0_moe_gather (F := F) (at32 c s) tM (Memref.isWhole_whole _) iM (Memref.isWhole_whole _) oM (Memref.isWhole_whole _)
          isM (Memref.isWhole_whole _) cc0_scoped1 osM (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hin : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hin d (Fin.cast nCore_zero c) (Fin.cast nSub_zero i) O W hO).trans (wp_mono Idealize.ShloMosaic.frame _ _ fun _ => obl_post)

theorem vecSplit : (K (F := F)).VecSplit' (P m) 0 := by
  intro d c
  show coreRes m d (Fin.cast nCore_zero c) (m (oLoc d)) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (resOf m d))
          -∗ coreRes m d (Fin.cast nCore_zero c) (resOf m d)))
  rw [core_tiles, core_tiles]
  iintro H; imodintro
  isplitl [H]; · iexact H
  iintro H; iexact H

/-! ## The launch element of the certificate's ghost state -/

def u₀ : UU := (initOf (K (F := F)).hsCells (K (F := F)).hsToks, 1)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## @main on the TensorCore -/

abbrev t' : DevRef τ sig := Proc.devRef .tc (main_arg0 : Ref sig .tc)
abbrev j' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev opR : HloOp τ sig (Elt F) := StableHlo.reshape main_arg1 main_v0 (rfl : (.i32 : EltTy) = .i32) shapeCasts_S32768_S1x32768
abbrev S4 : Finset (DevRef τ sig) := {t', j', i', o'}

theorem held_S4 (d : Dev nD) (W : Valuation τ sig (Elt F)) :
    (held (T d) S4 W : sProp 𝕄)
      = iprop((tLoc d ↦{fullShare} W t') ∗ (jLoc d ↦{fullShare} W j') ∗ (iLoc d ↦{fullShare} W i') ∗ oLoc d ↦{fullShare} W o') := by
  unfold StableHlo.held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((tLoc d ↦{fullShare} W main_arg0) ∗ (jLoc d ↦{fullShare} W main_arg1) ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

/-- The four arrays after the reshape. -/
theorem held_V1 (d : Dev nD) :
    (held (T d) S4 ((opR (F := F)).result (V0 m d)) : sProp 𝕄)
      = iprop((tLoc d ↦{fullShare} m (tLoc d)) ∗ (jLoc d ↦{fullShare} m (jLoc d)) ∗ (iLoc d ↦{fullShare} posOf m d) ∗ oLoc d ↦{fullShare} m (oLoc d)) := by
  rw [held_S4, (opR (F := F)).result_of_not_mem (V0 m d) (b := t') (show t' ∉ ({i'} : Finset (DevRef τ sig)) by decide),
    (opR (F := F)).result_of_not_mem (V0 m d) (b := j') (show j' ∉ ({i'} : Finset (DevRef τ sig)) by decide),
    (opR (F := F)).result_of_not_mem (V0 m d) (b := o') (show o' ∉ ({i'} : Finset (DevRef τ sig)) by decide),
    show (opR (F := F)).result (V0 m d) i' = posOf m d from (StableHlo.reshape_result _ _ _ _ _ _ _).trans rfl]
  rfl

theorem st0_eq (d : Dev nD) : (bigSep Finset.univ fun c : Fin ((K (F := F)).nCore 0) => (P m).st 0 d c)
    = iprop((tLoc d ↦{fullShare} m (tLoc d)) ∗ (iLoc d ↦{fullShare} posOf m d) ∗ oLoc d ↦{fullShare} m (oLoc d)) := (whole_cores m d _).symm
theorem dn0_eq (d : Dev nD) : (bigSep Finset.univ fun c : Fin ((K (F := F)).nCore 0) => (P m).dn 0 d c)
    = iprop((tLoc d ↦{fullShare} m (tLoc d)) ∗ (iLoc d ↦{fullShare} posOf m d) ∗ oLoc d ↦{fullShare} resOf m d) := (whole_cores m d _).symm

theorem hR : (opR (F := F)).bufs ⊆ S4 := show ({j', i'} : Finset (DevRef τ sig)) ⊆ S4 by decide

abbrev FIN (d : Dev nD) : sProp 𝕄 := iprop((tLoc d ↦{fullShare} m (tLoc d)) ∗ (jLoc d ↦{fullShare} m (jLoc d)) ∗ oLoc d ↦{fullShare} resOf m d)

theorem hmain (κ : GSem nD τ sig → ℕ) (d : Dev nD) :
    iprop((K (F := F)).ctx (EH (F := F)) (P m) κ ∗ (K (F := F)).tcSt (EH (F := F)) d 0 ∗ (K (F := F)).tcRes m ρ d ∗ emp)
      ⊢ wp frame (wpE ((K (F := F)).defs (D (F := F))) 𝒱 (SparseCore.T d) none) Set.univ (main d)
          fun _ => iprop((K (F := F)).tcSt (EH (F := F)) d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ht, Hj, Hi, Ho⟩
  iapply ((K (F := F)).wp_run (D (F := F)) 𝒱 (EH := EH (F := F)) (P := P m) κ d 0) $$ [Hst Ht Hi Ho Hb Hj Hts]
  isplitr; · iexact Hctx
  isplitl [Hst]; · iexact Hst
  isplitl [Ht Hi Ho]
  · rw [st0_eq]
    isplitl [Ht]; · iexact Ht
    isplitl [Hi] <;> iassumption
  iintro ⟨Hst, Hdn⟩
  ihave Hdn' := (Entails.of_eq (dn0_eq m d)) $$ Hdn
  icases Hdn' with ⟨Ht, -, Ho⟩
  imodintro
  isplitl [Hst]; · iexact Hst
  isplitr [Hb Hts]
  · isplitl [Ht]; · iexact Ht
    isplitl [Hj] <;> iassumption
  isplitl [Hb] <;> iassumption

def fq (d : Dev nD) (s' : Phys nD τ sig (Elt F)) : Prop :=
  s'.mem.mem (oLoc d) = resOf m d ∧ s'.mem.mem (tLoc d) = m (tLoc d) ∧ s'.mem.mem (jLoc d) = m (jLoc d)

theorem agree {ℓ : Loc nD τ sig} {f : Buf (Elt F) ℓ} {s' : Phys nD τ sig (Elt F)} : (iprop(SI s' ∗ ℓ ↦{fullShare} f) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Ht, Hj, Ho⟩, HSI⟩
  ihave H := agree $$ [HSI Ht]
  · isplitl [HSI] <;> iassumption
  icases H with ⟨%h1, HSI⟩
  ihave H := agree $$ [HSI Hj]
  · isplitl [HSI] <;> iassumption
  icases H with ⟨%h2, HSI⟩
  ihave H := agree $$ [HSI Ho]
  · isplitl [HSI] <;> iassumption
  icases H with ⟨%h3, HSI⟩
  ipureintro; exact ⟨h3, h1, h2⟩

/-! ## The program's run -/

def QC : PUnit × MemSt nD τ sig (Elt F) → Prop := fun r =>
  (∀ c : Dev nD, r.2.mem (oLoc c) = resOf m c ∧ r.2.mem (tLoc c) = m (tLoc c) ∧ r.2.mem (jLoc c) = m (jLoc c)) ∧ r.2.sem = fun _ => 0

theorem run_main [∀ e, Nonempty (Elt F e)] (hin : InRows m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH (F := F)) (P := P m) (A := ∅) facts v₀
    (fun q hq => match q with | 0 => nomatch hq)
    (fun q _ => match q with | 0 => tileObl m hin)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Ref.lean ====
/-
  The reference's value: `table[idx]`, its positions in range, is the rows gathered.
-/
module

public import proofs.«01_k».proof.Proof.Views
public import Idealize.ShloMosaic.Lib.Routing.Ops

@[expose] public section

noncomputable section

namespace Cert.Proof.Gather

open Cert.KernelIdeal Cert.KernelIdeal.Gen
open Idealize.ShloMosaic

abbrev Col : Shape := ⟨2, ![32768, 1]⟩
abbrev Sca : Shape := ⟨0, ![]⟩

/-- A position in range is not wrapped. -/
theorem unwrapped (v w : BitVec 32) (h : v.toNat < 40960) : (if IntOp.cmpi .slt v 0#32 = 1#1 then w else v) = v := by
  refine if_neg fun e => ?_
  have ofBool_eq_one (p : Bool) : (BitVec.ofBool p = 1#1) ↔ p = true := by cases p <;> decide
  simp only [IntOp.cmpi, ofBool_eq_one, BitVec.slt_eq_decide, decide_eq_true_eq, BitVec.toInt_eq_toNat_cond, BitVec.toNat_ofNat, Nat.reducePow, Nat.reduceMod] at e
  omega

theorem ref_value (d : GatherDims S40960x256 Col S32768x256) (h1 : d.offsetDims = [1]) (h2 : d.collapsedSliceDims = [0]) (h3 : d.operandBatchingDims = [])
    (h4 : d.startIndexMap = [0]) (h5 : d.indexVectorDim = 1) (tb : IVec S40960x256 32) (ix : IVec S32768 32) (hin : ∀ j, (ix j).toNat < 40960)
    (hb : S32768.BroadcastsInDim Col (![0] : Fin 1 → Fin Col.rank)) (hs : Sca.BroadcastsInDim S32768 (![] : Fin 0 → Fin S32768.rank)) (hc : S32768.ShapeCasts S1x32768) :
    Host.gather d tb (broadcastInDim Col ![0] hb (select (cmpi .slt ix (broadcastInDim S32768 ![] hs (constantI Sca 32 0#32)))
        (addi ix (broadcastInDim S32768 ![] hs (constantI Sca 32 40960#32))) ix))
      = gathered tb (shapeCast S1x32768 ix hc) := by
  funext x
  have hx : x = ValueIdx.ix2 (x 0) (x 1) := by
    funext a
    match a with
    | 0 => rfl
    | 1 => rfl
  have hsel : (select (cmpi .slt ix (broadcastInDim S32768 ![] hs (constantI Sca 32 0#32)))
        (addi ix (broadcastInDim S32768 ![] hs (constantI Sca 32 40960#32))) ix) = ix :=
    funext fun j => unwrapped (ix j) _ (hin j)
  have hrow : (rowOf (ix (ValueIdx.ix1 (x 0)))).val = (ix (ValueIdx.ix1 (x 0))).toNat := Nat.mod_eq_of_lt (hin _)
  rw [hsel]
  unfold gathered
  rw [show shapeCast S1x32768 ix hc (Shape.pair (d := S1x32768.size) (0 : Fin 1) (x 0)) = ix (ValueIdx.ix1 (x 0)) from
    (congrArg (shapeCast S1x32768 ix hc) (funext fun a => match a with | 0 => rfl | 1 => rfl)).trans
      (Routing.cast12 (a := 1) (b := 32768) ix hc (0 : Fin 1) (x 0) (x 0) (by simp))]
  refine (congrArg _ hx).trans ((Routing.gather_row (nb := 40960) (B := 256) (n := 32768) d h1 h2 h3 h4 h5 tb _ (x 0) (x 1)
    (rowOf (ix (ValueIdx.ix1 (x 0)))) ?_ (by decide)).trans (congrArg tb (funext fun a => match a with | 0 => rfl | 1 => rfl)))
  rw [hrow, BitVec.ofNat_toNat, BitVec.setWidth_eq]
  exact Routing.bcCol hb ix (x 0)

end Cert.Proof.Gather

end
-- ==== Proof.GmmBody.lean ====
/-
  The grouped expert projections, one grid point of the kernel: its body over any staging buffers, by cases. A point past
  the last tile leaves every buffer; a tile whose expert the tile before it did not use first rounds the expert's three
  weights into the scratch buffers; every tile then leaves its projections' two halves in the two output buffers.
-/
module

public import proofs.«01_k».proof.Proof.Gen.Kernel2Ideal.Launch
public import proofs.«01_k».proof.Proof.Gen.Kernel2Ideal.Skeleton
public import Idealize.ShloMosaic.Lib.Pipeline.Frame
public import Idealize.ShloMosaic.Lib.Pipeline.TableIdle
public import Idealize.ShloMosaic.Lib.VecWindow
public import Idealize.ShloMosaic.Lib.Tactic

@[expose] public section

noncomputable section

namespace Cert.Proof.Gmm

open Cert.Kernel2Ideal Cert.Kernel2Ideal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

/-- Memory `M` held whole at `X`, by its standard contents. -/
abbrev at_ (c : Dev nD) {sp : Space} {s : Shape} {e : EltTy} (M : Memref sig .tc sp s e) (X : s.Idx → Elt F e) : sProp 𝕄 :=
  M.view.loc (c : Thread nD τ) ↦[M.view.set]{fullShare} M.view.rep X

/-- A buffer wholly stored is held at the value stored. -/
theorem put (c : Dev nD) {sp : Space} {s : Shape} {e : EltTy} (M : Memref sig .tc sp s e) (f : Buf (Elt F) (M.view.loc (c : Thread nD τ)))
    {off : Fin s.rank → ℕ} (inb : ∀ a, off a + s.size a ≤ s.size a) (w : (Rect.unit off s.size inb).shape.Idx → Elt F e) (X : s.Idx → Elt F e) (h : w = X) :
    (M.view.loc (c : Thread nD τ) ↦[M.view.set]{fullShare} M.view.writes (Elt F) f [⟨Rect.unit off s.size inb, w⟩] : sProp 𝕄) ⊢ at_ c M X :=
  pointsTo_rep_of_read (c : Thread nD τ) M _ fullShare X ((View.read_writes_full M.view f inb w []).trans h)

abbrev tbM : Memref sig .tc .smem S80 .i32 := Memref.whole main_arg0
abbrev ntM : Memref sig .tc .smem S1 .i32 := Memref.whole main_arg1
abbrev s0M : Memref sig .tc .vmem S1024x512 .bf16 := Memref.whole cc0_scratch0
abbrev s1M : Memref sig .tc .vmem S1024x512 .bf16 := Memref.whole cc0_scratch1
abbrev s2M : Memref sig .tc .vmem S512x1024 .bf16 := Memref.whole cc0_scratch2

/-- A table as the body holds it: half of it, at its contents. -/
abbrev tbPt (c : Dev nD) {S : Shape} (M : Memref sig .tc .smem S .i32) (f : Buf (Elt F) (M.view.loc (c : Thread nD τ))) : sProp 𝕄 :=
  M.view.loc (c : Thread nD τ) ↦{fullShare.right} f

variable (te : S80.Idx → BitVec 32) (nt : S1.Idx → BitVec 32)

/-- The number of tiles. -/
abbrev ntW : BitVec 32 := nt ((Rect.unit (s := S1) ![0] S1.size inb_S1_S1_0).emb (Shape.Idx.first (numel1_S1.symm ▸ Nat.one_pos)))

/-- Whether the point reloads the weights: the first, or one whose expert differs from the one before's. -/
abbrev reloads (i : grid0.Coords) : BitVec 1 :=
  Scalar.cmpi .ne (Scalar.extui (Scalar.ori (Scalar.cmpi .eq (BitVec.ofNat 32 (i 0).val) 0#32)
    (Scalar.cmpi .ne (te ((Rect.unit (s := S80) (k0_off2 i) S1.size (k0_off2_inb i)).emb (Shape.Idx.first (numel1_S1.symm ▸ Nat.one_pos))))
      (te ((Rect.unit (s := S80) (k0_off3 i) S1.size (k0_off3_inb i)).emb (Shape.Idx.first (numel1_S1.symm ▸ Nat.one_pos)))))) : BitVec 32) 0#32

/-- The constant zero the first projections accumulate onto. -/
abbrev zero32 : FVec F S512x512 .f32 := constant S512x512 .f32 0x00000000#32

/-- A tile's halves from its words and the rounded weights. -/
abbrev outA (xa xb : Vec F S512x256 .i32) (u1 u3 : Vec F S1024x512 .bf16) (u2 : Vec F S512x1024 .bf16) : FVec F S512x512 .bf16 :=
  k0_pay2 (k0_pay7 xa xb) (k0_pay8 xa xb u1) u3 zero32 u2
abbrev outB (xa xb : Vec F S512x256 .i32) (u1 u3 : Vec F S1024x512 .bf16) (u2 : Vec F S512x1024 .bf16) : FVec F S512x512 .bf16 :=
  k0_pay3 (k0_pay7 xa xb) (k0_pay8 xa xb u1) u3 zero32 u2

section Body

variable (c : Dev nD) (i : grid0.Coords)
  (a3 : Memref sig .tc .vmem S512x256 .i32) (h3 : a3.IsWhole) (a4 : Memref sig .tc .vmem S512x256 .i32) (h4 : a4.IsWhole)
  (a5 : Memref sig .tc .vmem S1x1024x512 .f32) (h5 : a5.IsWhole) (a6 : Memref sig .tc .vmem S1x1024x512 .f32) (h6 : a6.IsWhole)
  (a7 : Memref sig .tc .vmem S1x512x1024 .f32) (h7 : a7.IsWhole)
  (a8 : Memref sig .tc .vmem S512x512 .bf16) (h8 : a8.IsWhole) (a9 : Memref sig .tc .vmem S512x512 .bf16) (h9 : a9.IsWhole)
  (xa xb : Vec F S512x256 .i32) (w1 w3 : Vec F S1x1024x512 .f32) (w2 : Vec F S1x512x1024 .f32) (y8 y9 : Vec F S512x512 .bf16)
  (u1 u3 : Vec F S1024x512 .bf16) (u2 : Vec F S512x1024 .bf16)

/-- What the body holds: the tables, the staging buffers and the scratch buffers, at contents. -/
abbrev holds (y8 y9 : Vec F S512x512 .bf16) (u1 u3 : Vec F S1024x512 .bf16) (u2 : Vec F S512x1024 .bf16) : sProp 𝕄 :=
  iprop(tbPt c tbM te ∗ tbPt c ntM nt ∗ at_ c a3 xa ∗ at_ c a4 xb ∗ at_ c a5 w1 ∗ at_ c a6 w3 ∗ at_ c a7 w2 ∗ at_ c a8 y8 ∗ at_ c a9 y9
    ∗ at_ c s0M u1 ∗ at_ c s1M u3 ∗ at_ c s2M u2)

abbrev body : Prog (TpuEff nD τ sig (Elt F) Λ₀ .tc) PUnit :=
  cc0_moe_gmm i tbM (Memref.isWhole_whole _) ntM (Memref.isWhole_whole _) a3 h3 a4 h4 a5 h5 a6 h6 a7 h7 a8 h8 a9 h9
    s0M (Memref.isWhole_whole _) s1M (Memref.isWhole_whole _) s2M (Memref.isWhole_whole _)

/-- A point past the last tile. -/
theorem run_past (hC : ¬ k0_cond1 i (ntW nt) = 1#1) :
    holds te nt c a3 a4 a5 a6 a7 a8 a9 xa xb w1 w3 w2 y8 y9 u1 u3 u2
      ⊢ wp frame (wpE (defs₀ (F := F)) Variants.none (c : Thread nD τ) none) Set.univ (body i a3 h3 a4 h4 a5 h5 a6 h6 a7 h7 a8 h8 a9 h9)
        fun _ => holds te nt c a3 a4 a5 a6 a7 a8 a9 xa xb w1 w3 w2 y8 y9 u1 u3 u2 := by
  iintro ⟨Ht, Hn, H3, H4, H5, H6, H7, H8, H9, Hs0, Hs1, Hs2⟩
  unfold body
  rw [cc0_moe_gmm_eq_skeleton]
  unfold cc0_moe_gmm_skel
  sl_exec
  sl_step
  unfold holds
  iframe

/-- A tile whose expert the scratch buffers already hold. -/
theorem run_kept (hC : k0_cond1 i (ntW nt) = 1#1) (hR : ¬ reloads te i = 1#1) :
    holds te nt c a3 a4 a5 a6 a7 a8 a9 xa xb w1 w3 w2 y8 y9 u1 u3 u2
      ⊢ wp frame (wpE (defs₀ (F := F)) Variants.none (c : Thread nD τ) none) Set.univ (body i a3 h3 a4 h4 a5 h5 a6 h6 a7 h7 a8 h8 a9 h9)
        fun _ => holds te nt c a3 a4 a5 a6 a7 a8 a9 xa xb w1 w3 w2 (outA xa xb u1 u3 u2) (outB xa xb u1 u3 u2) u1 u3 u2 := by
  iintro ⟨Ht, Hn, H3, H4, H5, H6, H7, H8, H9, Hs0, Hs1, Hs2⟩
  unfold body
  rw [cc0_moe_gmm_eq_skeleton]
  unfold cc0_moe_gmm_skel
  sl_exec
  sl_step
  have hw : run_kept.sl.r (F := F) nt = ntW nt := by unfold run_kept.sl.r; rfl
  have hr : k0_cond1 i (run_kept.sl.r (F := F) nt) = 1#1 := by rw [hw]; exact hC
  have hv : ¬ run_kept.sl.v14 (F := F) te i = 1#1 := hR
  simp only [dif_pos hr, dif_neg hv]
  have e7 : run_kept.sl.r_3 a3 a4 xa xb = k0_pay7 (F := F) xa xb := by
    unfold run_kept.sl.r_3; rw [View.readAt_rep_full, View.readAt_rep_full]
  have e8 : run_kept.sl.r_4 a3 a4 xa xb u1 = k0_pay8 xa xb u1 := by
    unfold run_kept.sl.r_4; rw [View.readAt_rep_full, View.readAt_rep_full]
    exact congrArg _ (View.readAt_rep_full s0M.view u1 inb_S1024x512_S1024x512_0_0)
  have e3 : run_kept.sl.r_5 u3 = u3 := by unfold run_kept.sl.r_5; exact View.readAt_rep_full ..
  have e2 : View.readAt (Elt F) s2M.view (Rect.unit ![0, 0] S512x1024.size inb_S512x1024_S512x1024_0_0).toLoadRect (s2M.view.rep u2) = u2 :=
    View.readAt_rep_full ..
  have eA : k0_pay2 (run_kept.sl.r_3 a3 a4 xa xb) (run_kept.sl.r_4 a3 a4 xa xb u1) (run_kept.sl.r_5 u3) run_kept.sl.cst_16
      (View.readAt (Elt F) s2M.view (Rect.unit ![0, 0] S512x1024.size inb_S512x1024_S512x1024_0_0).toLoadRect (s2M.view.rep u2)) = outA xa xb u1 u3 u2 := by
    rw [e7, e8, e3, e2]; rfl
  have eB : k0_pay3 (run_kept.sl.r_3 a3 a4 xa xb) (run_kept.sl.r_4 a3 a4 xa xb u1) (run_kept.sl.r_5 u3) run_kept.sl.cst_16
      (View.readAt (Elt F) s2M.view (Rect.unit ![0, 0] S512x1024.size inb_S512x1024_S512x1024_0_0).toLoadRect (s2M.view.rep u2)) = outB xa xb u1 u3 u2 := by
    rw [e7, e8, e3, e2]; rfl
  ihave H8' := (put c a8 _ inb_S512x512_S512x512_0_0 _ _ eA) $$ H8
  ihave H9' := (put c a9 _ inb_S512x512_S512x512_0_0 _ _ eB) $$ H9
  unfold holds
  iframe

/-- A tile whose expert's weights are rounded anew. -/
theorem run_reload (hC : k0_cond1 i (ntW nt) = 1#1) (hR : reloads te i = 1#1) :
    holds te nt c a3 a4 a5 a6 a7 a8 a9 xa xb w1 w3 w2 y8 y9 u1 u3 u2
      ⊢ wp frame (wpE (defs₀ (F := F)) Variants.none (c : Thread nD τ) none) Set.univ (body i a3 h3 a4 h4 a5 h5 a6 h6 a7 h7 a8 h8 a9 h9)
        fun _ => holds te nt c a3 a4 a5 a6 a7 a8 a9 xa xb w1 w3 w2 (outA xa xb (k0_pay4 w1) (k0_pay5 w3) (k0_pay6 w2))
          (outB xa xb (k0_pay4 w1) (k0_pay5 w3) (k0_pay6 w2)) (k0_pay4 w1) (k0_pay5 w3) (k0_pay6 w2) := by
  iintro ⟨Ht, Hn, H3, H4, H5, H6, H7, H8, H9, Hs0, Hs1, Hs2⟩
  unfold body
  rw [cc0_moe_gmm_eq_skeleton]
  unfold cc0_moe_gmm_skel
  sl_exec
  sl_step
  have hw : run_reload.sl.r (F := F) nt = ntW nt := by unfold run_reload.sl.r; rfl
  have hr : k0_cond1 i (run_reload.sl.r (F := F) nt) = 1#1 := by rw [hw]; exact hC
  have hv : run_reload.sl.v14 (F := F) te i = 1#1 := hR
  simp only [dif_pos hr, dif_pos hv]
  have e7 : run_reload.sl.r_3 a3 a4 xa xb = k0_pay7 (F := F) xa xb := by
    unfold run_reload.sl.r_3; rw [View.readAt_rep_full, View.readAt_rep_full]
  have e8 : run_reload.sl.r_4 a3 a4 a5 xa xb w1 = k0_pay8 xa xb (k0_pay4 w1) := by
    unfold run_reload.sl.r_4 run_reload.sl.v31 run_reload.sl.Hs0_1
    rw [View.readAt_rep_full, View.readAt_rep_full, View.readAt_rep_full]
    exact congrArg _ (View.readCov_full s0M.view inb_S1024x512_S1024x512_0_0 inb_S1024x512_S1024x512_0_0 _ _)
  have e3 : run_reload.sl.v41 a6 w3 = k0_pay5 w3 := by
    unfold run_reload.sl.v41 run_reload.sl.Hs1_1
    rw [View.readAt_rep_full]
    exact View.readCov_full s1M.view inb_S1024x512_S1024x512_0_0 inb_S1024x512_S1024x512_0_0 _ _
  have e2 : run_reload.sl.v45 a7 w2 = k0_pay6 w2 := by
    unfold run_reload.sl.v45 run_reload.sl.Hs2_1
    rw [View.readAt_rep_full]
    exact View.readCov_full s2M.view inb_S512x1024_S512x1024_0_0 inb_S512x1024_S512x1024_0_0 _ _
  have eA : k0_pay2 (run_reload.sl.r_3 a3 a4 xa xb) (run_reload.sl.r_4 a3 a4 a5 xa xb w1) (run_reload.sl.v41 a6 w3) run_reload.sl.cst_16
      (run_reload.sl.v45 a7 w2) = outA xa xb (k0_pay4 w1) (k0_pay5 w3) (k0_pay6 w2) := by
    rw [e7, e8, e3, e2]; rfl
  have eB : k0_pay3 (run_reload.sl.r_3 a3 a4 xa xb) (run_reload.sl.r_4 a3 a4 a5 xa xb w1) (run_reload.sl.v41 a6 w3) run_reload.sl.cst_16
      (run_reload.sl.v45 a7 w2) = outB xa xb (k0_pay4 w1) (k0_pay5 w3) (k0_pay6 w2) := by
    rw [e7, e8, e3, e2]; rfl
  unfold run_reload.sl.Hs0_1 run_reload.sl.Hs1_1 run_reload.sl.Hs2_1
  ihave H8' := (put c a8 _ inb_S512x512_S512x512_0_0 _ _ eA) $$ H8
  ihave H9' := (put c a9 _ inb_S512x512_S512x512_0_0 _ _ eB) $$ H9
  ihave Hs0' := (put c s0M _ inb_S1024x512_S1024x512_0_0 _ _ (congrArg k0_pay4 (View.readAt_rep_full a5.view w1 inb_S1x1024x512_S1x1024x512_0_0_0))) $$ Hs0
  ihave Hs1' := (put c s1M _ inb_S1024x512_S1024x512_0_0 _ _ (congrArg k0_pay5 (View.readAt_rep_full a6.view w3 inb_S1x1024x512_S1x1024x512_0_0_0))) $$ Hs1
  ihave Hs2' := (put c s2M _ inb_S512x1024_S512x1024_0_0 _ _ (congrArg k0_pay6 (View.readAt_rep_full a7.view w2 inb_S1x512x1024_S1x512x1024_0_0_0))) $$ Hs2
  unfold holds
  iframe

end Body

end Cert.Proof.Gmm

end
-- ==== Proof.GmmTab.lean ====
/-
  The two tables: the tile's expert by the tile's number, and the number of tiles. In range, they keep every window's
  block inside its array, and they say which block each point is given.
-/
module

public import proofs.«01_k».proof.Proof.GmmBody

@[expose] public section

noncomputable section

namespace Cert.Proof.Gmm

open Cert.Kernel2Ideal Cert.Kernel2Ideal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- The experts' table and the tile count, on the one device. -/
abbrev teT : S80.Idx → BitVec 32 := m (((0 : Dev nD) : Thread nD τ).loc main_arg0)
abbrev ntT : S1.Idx → BitVec 32 := m (((0 : Dev nD) : Thread nD τ).loc main_arg1)

/-- The tables as the pipeline holds them. -/
def tbl : pre0.Contents (Elt F) := fun j => m (((0 : Dev nD) : Thread nD τ).loc (pre0.ref j))

theorem pre_eq (c : Dev nD) (j : Fin 2) : m ((c : Thread nD τ).loc (pre0.ref j)) = tbl m j := by
  obtain rfl : c = 0 := Subsingleton.elim _ _
  rfl

/-- The tile count as a number. -/
abbrev nN : ℕ := (ntW (ntT m)).toNat

/-- Both tables in range: from one to eighty tiles, and every expert one of the sixteen. -/
structure InRange : Prop where
  lo : 1 ≤ nN m
  hi : nN m ≤ 80
  te : ∀ j, (teT m j).toNat < 16

/-- The point's coordinate is the point's number. -/
theorem coord (t : Fin grid0.N) : (grid0.coords t 0).val = t.val := by
  revert t; decide +kernel

theorem point_lt (t : Fin grid0.N) : t.val < 80 := lt_of_lt_of_eq t.isLt N_0

/-- The tile a coordinate is given: the last one past the last. -/
theorem tileW {n : BitVec 32} (h1 : 1 ≤ n.toNat) (h2 : n.toNat ≤ 80) {t : ℕ} (ht : t < 80) :
    (Scalar.minsi (BitVec.ofNat 32 t) (Scalar.subi n 1#32)).toNat = min t (n.toNat - 1) := by
  have e1 : (BitVec.ofNat 32 t).toNat = t := by rw [BitVec.toNat_ofNat]; omega
  have e2 : (n - 1#32).toNat = n.toNat - 1 := by
    rw [BitVec.toNat_sub, show (1#32 : BitVec 32).toNat = 1 from rfl]; omega
  show (IntOp.minsi (BitVec.ofNat 32 t) (n - 1#32)).toNat = _
  unfold IntOp.minsi
  have i1 : (BitVec.ofNat 32 t).toInt = t := by rw [BitVec.toInt_eq_toNat_of_lt (by omega), e1]
  have i2 : (n - 1#32).toInt = (n.toNat - 1 : ℕ) := by rw [BitVec.toInt_eq_toNat_of_lt (by omega), e2]
  simp only [BitVec.slt, i1, i2, Nat.cast_lt]
  split <;> rename_i h <;> simp only [decide_eq_true_eq] at h <;> omega

variable {m} (hR : InRange m)
include hR

/-- The block index of the words' and the projections' windows. -/
theorem ixTile (i : grid0.Coords) : cc0_transform_0 inb_S1_S1_0 numel1_S1 (tbl m) i = ![min (i 0).val (nN m - 1), 0] := by
  show ![(Scalar.minsi (BitVec.ofNat 32 (i 0).val) (Scalar.subi (ntW (ntT m)) 1#32)).toNat, 0] = _
  rw [tileW hR.lo hR.hi (i 0).isLt]

/-- The expert of a point. -/
abbrev exW (m : (ℓ : Loc nD τ sig) → Buf (Elt F) ℓ) (i : grid0.Coords) : BitVec 32 :=
  teT m ((Rect.unit (s := S80) (k0_off2 i) S1.size (k0_off2_inb i)).emb (Shape.Idx.first (numel1_S1.symm ▸ Nat.one_pos)))

omit hR in
/-- The block index of the weights' windows. -/
theorem ixExpert (i : grid0.Coords) : cc0_transform_2 k0_off1_inb numel1_S1 (tbl m) i = ![(exW m i).toNat, 0, 0] := rfl

omit hR in
theorem rank2 : 2 ≤ S40960x512.rank := by decide
omit hR in
/-- A tile's rows are whole words of the narrow floats. -/
theorem rowsPacked : EltTy.packing .bf16 ∣ S512x512.size (S40960x512.rowAx rank2) := by decide

/-- The tables in range are admissible. -/
theorem ok : ok0 (F := F) (tbl m) := by
  have hlo := hR.lo
  have hhi := hR.hi
  have T : ∀ i : grid0.Coords, min (i 0).val (nN m - 1) < 80 := fun i => by omega
  have X (i : grid0.Coords) : (exW m i).toNat < 16 := hR.te _
  refine ⟨fun i => ⟨?_, .inl rfl⟩, fun i => ⟨?_, .inl rfl⟩, fun i => ⟨?_, .inl rfl⟩, fun i => ⟨?_, .inl rfl⟩, fun i => ⟨?_, .inl rfl⟩,
    fun i => ⟨?_, .inr ?_⟩, fun i => ⟨?_, .inr ?_⟩⟩
  · intro a; rw [ixTile hR]; have := T i; fin_cases a <;> simp <;> omega
  · intro a; rw [show cc0_transform_1 inb_S1_S1_0 numel1_S1 (tbl m) i = _ from ixTile hR i]; have := T i; fin_cases a <;> simp <;> omega
  · intro a; rw [ixExpert]; have := X i; fin_cases a <;> simp <;> omega
  · intro a; rw [show cc0_transform_3 k0_off1_inb numel1_S1 (tbl m) i = _ from ixExpert i]; have := X i; fin_cases a <;> simp <;> omega
  · intro a; rw [show cc0_transform_4 k0_off1_inb numel1_S1 (tbl m) i = _ from ixExpert i]; have := X i; fin_cases a <;> simp <;> omega
  · intro a; rw [show cc0_transform_5 inb_S1_S1_0 numel1_S1 (tbl m) i = _ from ixTile hR i]; have := T i; fin_cases a <;> simp <;> omega
  · refine .inl (.inr ⟨rank2, rfl, .inl ⟨Dvd.dvd.mul_left rowsPacked _, rowsPacked⟩⟩)
  · intro a; rw [show cc0_transform_6 inb_S1_S1_0 numel1_S1 (tbl m) i = _ from ixTile hR i]; have := T i; fin_cases a <;> simp <;> omega
  · refine .inl (.inr ⟨rank2, rfl, .inl ⟨Dvd.dvd.mul_left rowsPacked _, rowsPacked⟩⟩)

/-- The body runs at the points below the tile count. -/
theorem cond_iff (i : grid0.Coords) : k0_cond1 i (ntW (ntT m)) = 1#1 ↔ (i 0).val < nN m := by
  have hhi := hR.hi
  have hi : (i 0).val < 80 := (i 0).isLt
  have e1 : (BitVec.ofNat 32 (i 0).val).toNat = (i 0).val := by rw [BitVec.toNat_ofNat]; omega
  have i1 : (BitVec.ofNat 32 (i 0).val).toInt = (i 0).val := by rw [BitVec.toInt_eq_toNat_of_lt (by omega), e1]
  have i2 : (ntW (ntT m)).toInt = (nN m : ℕ) := by rw [BitVec.toInt_eq_toNat_of_lt (show 2 * nN m < _ by omega)]
  have key : BitVec.slt (BitVec.ofNat 32 (i 0).val) (ntW (ntT m)) = decide ((i 0).val < nN m) := by
    simp only [BitVec.slt, i1, i2, Nat.cast_lt]
  unfold k0_cond1
  simp only [Scalar.cmpi, IntOp.cmpi, key]
  by_cases h : (i 0).val < nN m <;> simp [h] <;> decide

omit hR in
/-- One bit read as a word is not zero just when the bit is set. -/
theorem word_bit (b : BitVec 1) : Scalar.cmpi .ne (Scalar.extui b) 0#32 = 1#1 ↔ b = 1#1 := by
  revert b; decide

omit hR in
/-- The word before a point's, and the point's, by the point's number. -/
theorem off2_eq (i : grid0.Coords) : k0_off2 i = ![(i 0).val] := by
  have hi : (i 0).val < 80 := (i 0).isLt
  show ![(BitVec.ofNat 32 (i 0).val).toNat] = _
  rw [BitVec.toNat_ofNat, Nat.mod_eq_of_lt (by omega)]

omit hR in
theorem off3_eq (i : grid0.Coords) (h0 : 0 < (i 0).val) : k0_off3 i = ![(i 0).val - 1] := by
  have hi : (i 0).val < 80 := (i 0).isLt
  have e1 : (BitVec.ofNat 32 (i 0).val).toNat = (i 0).val := by rw [BitVec.toNat_ofNat]; omega
  have e2 : (BitVec.ofNat 32 (i 0).val - 1#32).toNat = (i 0).val - 1 := by
    rw [BitVec.toNat_sub, show (1#32 : BitVec 32).toNat = 1 from rfl, e1]; omega
  have i2 : (BitVec.ofNat 32 (i 0).val - 1#32).toInt = ((i 0).val - 1 : ℕ) := by rw [BitVec.toInt_eq_toNat_of_lt (by omega), e2]
  show ![(IntOp.maxsi (BitVec.ofNat 32 (i 0).val - 1#32) 0#32).toNat] = _
  unfold IntOp.maxsi
  have z : BitVec.slt (0#32) (BitVec.ofNat 32 (i 0).val - 1#32) = decide (0 < (i 0).val - 1) := by
    simp only [BitVec.slt, i2, BitVec.toInt_zero]; norm_cast
  rw [z]
  split <;> rename_i h <;> simp only [decide_eq_true_eq] at h
  · rw [e2]
  · rw [show (i 0).val - 1 = 0 by omega]; rfl

omit hR in
/-- A tile past the first that does not reload has the expert of the tile before. -/
theorem expert_kept {i j : grid0.Coords} (hj : (j 0).val + 1 = (i 0).val) (h : ¬ reloads (teT m) i = 1#1) : exW m i = exW m j := by
  unfold reloads at h
  rw [word_bit] at h
  have h' : ∀ a b : BitVec 1, ¬ IntOp.ori a b = 1#1 → ¬ b = 1#1 := by decide
  have h2 := h' _ _ h
  have h3 : exW m i = teT m ((Rect.unit (s := S80) (k0_off3 i) S1.size (k0_off3_inb i)).emb (Shape.Idx.first (numel1_S1.symm ▸ Nat.one_pos))) := by
    by_contra hne
    exact h2 (by show BitVec.ofBool (_ != _) = 1#1; rw [bne_iff_ne.mpr hne]; rfl)
  rw [h3]
  refine congrArg (teT m) ?_
  funext a
  apply Fin.ext
  have e : k0_off3 i = k0_off2 j := by rw [off3_eq i (by omega), off2_eq, ← hj]; rfl
  exact congrArg (fun n => n + 1 * _) (congrFun e a)

omit hR in
/-- The first tile reloads. -/
theorem reload_zero {i : grid0.Coords} (h : (i 0).val = 0) : reloads (teT m) i = 1#1 := by
  unfold reloads
  rw [word_bit, h]
  have h' : ∀ b : BitVec 1, IntOp.ori (Scalar.cmpi .eq (BitVec.ofNat 32 0) 0#32) b = 1#1 := by decide
  exact h' _

end Cert.Proof.Gmm

end
-- ==== Proof.GmmRun.lean ====
/-
  The grouped expert projections, the whole grid: what the windows' buffers and the scratch buffers hold before each
  point, the body's obligation at each, and the two result arrays the run leaves.
-/
module

public import proofs.«01_k».proof.Proof.GmmTab
public import Idealize.ShloMosaic.Lib.Pipeline.FrameBody
public import Idealize.ShloMosaic.Lib.Pipeline.Value
public import Idealize.ShloMosaic.Lib.Pipeline.ValueKit

@[expose] public section

noncomputable section

namespace Cert.Proof.Gmm

open Cert.Kernel2Ideal Cert.Kernel2Ideal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

section Data

variable {m : (ℓ : Loc nD τ sig) → Buf (Elt F) ℓ} (hR : InRange m) (c : Dev nD)

/-- The tables, admissible, and the pipeline at them. -/
abbrev adm : (pcfg0 (F := F)).Adm := ⟨tbl m, ok hR⟩
abbrev cfgM : Cfg sig Λ₀ := cfg0 (adm hR)

/-- The blocks of the five inputs at a point. -/
def bXa (t : Fin grid0.N) : Vec F S512x256 .i32 := (((cfgM hR).win 0).blk t).view.read (Elt F) (m ((c : Thread nD τ).loc main_arg2))
def bXb (t : Fin grid0.N) : Vec F S512x256 .i32 := (((cfgM hR).win 1).blk t).view.read (Elt F) (m ((c : Thread nD τ).loc main_arg3))
def bW1 (t : Fin grid0.N) : Vec F S1x1024x512 .f32 := (((cfgM hR).win 2).blk t).view.read (Elt F) (m ((c : Thread nD τ).loc main_arg4))
def bW3 (t : Fin grid0.N) : Vec F S1x1024x512 .f32 := (((cfgM hR).win 3).blk t).view.read (Elt F) (m ((c : Thread nD τ).loc main_arg5))
def bW2 (t : Fin grid0.N) : Vec F S1x512x1024 .f32 := (((cfgM hR).win 4).blk t).view.read (Elt F) (m ((c : Thread nD τ).loc main_arg6))

include hR in
theorem kp_lt (n : ℕ) : min n (nN m - 1) < grid0.N := by
  have := hR.lo; have := hR.hi; rw [N_0]; omega

/-- The last tile at or before a point. -/
def kp (n : ℕ) : Fin grid0.N := ⟨min n (nN m - 1), kp_lt hR n⟩

/-- A tile's two halves. -/
def tileA (t : Fin grid0.N) : FVec F S512x512 .bf16 :=
  outA (bXa hR c t) (bXb hR c t) (k0_pay4 (bW1 hR c t)) (k0_pay5 (bW3 hR c t)) (k0_pay6 (bW2 hR c t))
def tileB (t : Fin grid0.N) : FVec F S512x512 .bf16 :=
  outB (bXa hR c t) (bXb hR c t) (k0_pay4 (bW1 hR c t)) (k0_pay5 (bW3 hR c t)) (k0_pay6 (bW2 hR c t))

/-- Before point `n`: the tables, and the scratch buffers at the rounded weights of the last tile run. -/
def PhiS (n : ℕ) : sProp 𝕄 :=
  iprop((∃ r, prngReg c r) ∗ tbPt c tbM (teT m) ∗ tbPt c ntM (ntT m)
    ∗ ∃ u1 u3 u2, ⌜0 < n → u1 = k0_pay4 (bW1 hR c (kp hR (n - 1))) ∧ u3 = k0_pay5 (bW3 hR c (kp hR (n - 1))) ∧ u2 = k0_pay6 (bW2 hR c (kp hR (n - 1)))⌝
      ∗ at_ c s0M u1 ∗ at_ c s1M u3 ∗ at_ c s2M u2)

/-- The data of the grid. -/
def dat : Dat τ (Elt F) Unit ℕ (UR sig nD τ) ℕ (cfgM hR) c where
  A w := m ((c : Thread nD τ).loc (Pipeline.arrRef spec0 w))
  after := fun
    | 0 => fun t => bXa hR c t
    | 1 => fun t => bXb hR c t
    | 2 => fun t => bW1 hR c t
    | 3 => fun t => bW3 hR c t
    | 4 => fun t => bW2 hR c t
    | 5 => fun t => tileA hR c (kp hR t.val)
    | 6 => fun t => tileB hR c (kp hR t.val)
    | ⟨_ + 7, h⟩ => absurd h (Nat.not_lt.2 (Nat.le_add_left _ _))
  Φ t := PhiS hR c t.val
  q _ := fullShare
  owed _ := 0

/-! ## What an input's buffer holds -/

theorem before0 (t : Fin (cfgM hR).N) (d) : (dat hR c).before 0 t d = bXa hR c t :=
  ((dat hR c).before_in_eq_fetched 0 rfl (fun _ => rfl) (fun _ _ _ => rfl) (fun _ => rfl) t d).trans rfl
theorem before1 (t : Fin (cfgM hR).N) (d) : (dat hR c).before 1 t d = bXb hR c t :=
  ((dat hR c).before_in_eq_fetched 1 rfl (fun _ => rfl) (fun _ _ _ => rfl) (fun _ => rfl) t d).trans rfl
theorem before2 (t : Fin (cfgM hR).N) (d) : (dat hR c).before 2 t d = bW1 hR c t :=
  ((dat hR c).before_in_eq_fetched 2 rfl (fun _ => rfl) (fun _ _ _ => rfl) (fun _ => rfl) t d).trans rfl
theorem before3 (t : Fin (cfgM hR).N) (d) : (dat hR c).before 3 t d = bW3 hR c t :=
  ((dat hR c).before_in_eq_fetched 3 rfl (fun _ => rfl) (fun _ _ _ => rfl) (fun _ => rfl) t d).trans rfl
theorem before4 (t : Fin (cfgM hR).N) (d) : (dat hR c).before 4 t d = bW2 hR c t :=
  ((dat hR c).before_in_eq_fetched 4 rfl (fun _ => rfl) (fun _ _ _ => rfl) (fun _ => rfl) t d).trans rfl

/-- Two points of one expert are given the same weights. -/
theorem bW1_congr {t t' : Fin grid0.N} (h : exW m (grid0.coords t) = exW m (grid0.coords t')) : bW1 hR c t = bW1 hR c t' :=
  (dat hR c).fetched_congr 2 (t := t) (t' := t') (congrArg (fun b : BitVec 32 => (![b.toNat, 0, 0] : Fin 3 → ℕ)) h) rfl (fun _ => Classical.arbitrary _)
theorem bW3_congr {t t' : Fin grid0.N} (h : exW m (grid0.coords t) = exW m (grid0.coords t')) : bW3 hR c t = bW3 hR c t' :=
  (dat hR c).fetched_congr 3 (t := t) (t' := t') (congrArg (fun b : BitVec 32 => (![b.toNat, 0, 0] : Fin 3 → ℕ)) h) rfl (fun _ => Classical.arbitrary _)
theorem bW2_congr {t t' : Fin grid0.N} (h : exW m (grid0.coords t) = exW m (grid0.coords t')) : bW2 hR c t = bW2 hR c t' :=
  (dat hR c).fetched_congr 4 (t := t) (t' := t') (congrArg (fun b : BitVec 32 => (![b.toNat, 0, 0] : Fin 3 → ℕ)) h) rfl (fun _ => Classical.arbitrary _)

/-! ## What an output's buffer holds -/

theorem coordM (t : Fin (cfgM hR).N) : ((cfgM hR).grid.coords t 0).val = t.val := coord t

/-- Two points of one tile have one block of an output. -/
theorem index_congr {w : Fin 7} (hw : w = 5 ∨ w = 6) {t t' : Fin grid0.N} (h : min t.val (nN m - 1) = min t'.val (nN m - 1)) :
    ((cfgM hR).win w).index t = ((cfgM hR).win w).index t' := by
  have e : ∀ u : Fin grid0.N, cc0_transform_0 inb_S1_S1_0 numel1_S1 (tbl m) (grid0.coords u) = ![min u.val (nN m - 1), 0] := fun u => by
    rw [ixTile hR, coord]
  have key : cc0_transform_0 inb_S1_S1_0 numel1_S1 (tbl m) (grid0.coords t) = cc0_transform_0 inb_S1_S1_0 numel1_S1 (tbl m) (grid0.coords t') := by
    rw [e, e, h]
  rcases hw with rfl | rfl
  · exact key
  · exact key

theorem index_ne {w : Fin 7} (hw : w = 5 ∨ w = 6) {t t' : Fin grid0.N} (h : min t.val (nN m - 1) ≠ min t'.val (nN m - 1)) :
    ((cfgM hR).win w).index t ≠ ((cfgM hR).win w).index t' := by
  have e : ∀ u : Fin grid0.N, cc0_transform_0 inb_S1_S1_0 numel1_S1 (tbl m) (grid0.coords u) = ![min u.val (nN m - 1), 0] := fun u => by
    rw [ixTile hR, coord]
  have key : cc0_transform_0 inb_S1_S1_0 numel1_S1 (tbl m) (grid0.coords t) ≠ cc0_transform_0 inb_S1_S1_0 numel1_S1 (tbl m) (grid0.coords t') := by
    rw [e, e]; exact fun h' => h (congrFun h' 0)
  rcases hw with rfl | rfl
  · exact key
  · exact key

theorem isOut_out {w : Fin 7} (hw : w = 5 ∨ w = 6) : ((cfgM hR).win w).isOut = true := by rcases hw with rfl | rfl <;> rfl

/-- An output is written back after its tile's last point. -/
theorem flush_iff {w : Fin 7} (hw : w = 5 ∨ w = 6) (t : Fin (cfgM hR).N) :
    ((cfgM hR).win w).flush t = true ↔ t.val + 1 < nN m ∨ t.val = 79 := by
  have hlo := hR.lo; have hhi := hR.hi; have ht := point_lt t
  rw [((cfgM hR).win w).flush_out (isOut_out hR hw) t]
  constructor
  · rintro (h | ⟨h, hne⟩)
    · right; have h' : t.val + 1 = grid0.N := h; rw [N_0] at h'; omega
    · left
      by_contra hc
      exact hne (index_congr hR hw (t := ⟨t.val + 1, h⟩) (t' := t) (by simp only; omega))
  · rintro (h | h)
    · right
      have h1 : t.val + 1 < grid0.N := by rw [N_0]; omega
      exact ⟨h1, index_ne hR hw (t := ⟨t.val + 1, h1⟩) (t' := t) (by simp only; omega)⟩
    · left; show t.val + 1 = grid0.N; rw [N_0]; omega

theorem idle_iff {w : Fin 7} (hw : w = 5 ∨ w = 6) (t : Fin (cfgM hR).N) :
    (cfgM hR).idle w ((cfgM hR).grid.coords t) = true ↔ nN m ≤ t.val := by
  have e : (!(k0_cond1 (grid0.coords t) (ntW (ntT m)) == 1#1)) = true ↔ nN m ≤ t.val := by
    rw [Bool.not_eq_true', beq_eq_false_iff_ne, ne_eq, cond_iff hR, coord, not_lt]
  rcases hw with rfl | rfl
  · exact e
  · exact e

/-- Past the last tile the last tile's halves are still in the buffers. -/
theorem fresh_past {w : Fin 7} (hw : w = 5 ∨ w = 6) : ∀ n, nN m ≤ n → n < 80 → (cfgM hR).fresh w n = false := by
  have hlo := hR.lo
  intro n
  induction n with
  | zero => omega
  | succ k ih =>
    intro h1 h2
    have hk : k < (cfgM hR).N := by show k < grid0.N; rw [N_0]; omega
    rw [(cfgM hR).fresh_succ w k hk]
    have hf : ((cfgM hR).win w).flush ⟨k, hk⟩ = false := by
      rw [← Bool.not_eq_true, flush_iff hR hw]; simp only; omega
    rw [hf, Bool.false_or, Bool.and_eq_false_iff]
    by_cases hl : nN m ≤ k
    · right; exact ih hl (by omega)
    · left; rw [← Bool.not_eq_true, idle_iff hR hw]; exact hl

theorem kp_past {n : ℕ} (h : nN m ≤ n) : kp hR n = kp hR (n - 1) := Fin.ext (by show min n _ = min (n - 1) _; omega)
theorem kp_live {n : ℕ} (h : n < nN m) (t : Fin grid0.N) (ht : t.val = n) : kp hR n = t := Fin.ext (by show min n _ = t.val; omega)

theorem before_out5 (t : Fin (cfgM hR).N) (h : nN m ≤ t.val) (d) : (dat hR c).before 5 t d = tileA hR c (kp hR t.val) := by
  have hc : ∀ (t : Fin (cfgM hR).N) (_ : t.val ≠ 0), (cfgM hR).idle 5 ((cfgM hR).grid.coords t) = true → (cfgM hR).fresh 5 t.val = false →
      (dat hR c).after 5 t = (dat hR c).after 5 ⟨t.val - 1, by omega⟩ := fun t _ hi _ => by
    show tileA hR c (kp hR t.val) = tileA hR c (kp hR (t.val - 1))
    rw [kp_past hR ((idle_iff hR (.inl rfl) t).mp hi)]
  rw [(dat hR c).before_out_traj 5 rfl (fun _ _ => rfl) hc t.val t rfl d, fresh_past hR (.inl rfl) t.val h (point_lt t), if_neg Bool.false_ne_true]
  show tileA hR c (kp hR (t.val - 1)) = _
  rw [kp_past hR h]

theorem before_out6 (t : Fin (cfgM hR).N) (h : nN m ≤ t.val) (d) : (dat hR c).before 6 t d = tileB hR c (kp hR t.val) := by
  have hc : ∀ (t : Fin (cfgM hR).N) (_ : t.val ≠ 0), (cfgM hR).idle 6 ((cfgM hR).grid.coords t) = true → (cfgM hR).fresh 6 t.val = false →
      (dat hR c).after 6 t = (dat hR c).after 6 ⟨t.val - 1, by omega⟩ := fun t _ hi _ => by
    show tileB hR c (kp hR t.val) = tileB hR c (kp hR (t.val - 1))
    rw [kp_past hR ((idle_iff hR (.inr rfl) t).mp hi)]
  rw [(dat hR c).before_out_traj 6 rfl (fun _ _ => rfl) hc t.val t rfl d, fresh_past hR (.inr rfl) t.val h (point_lt t), if_neg Bool.false_ne_true]
  show tileB hR c (kp hR (t.val - 1)) = _
  rw [kp_past hR h]

/-! ## One point -/

/-- A reload's weights, or the weights kept, are those of the tile run. -/
theorem kept_eq {t : Fin grid0.N} (hlt : t.val < nN m) (h : ¬ reloads (teT m) (grid0.coords t) = 1#1) :
    0 < t.val ∧ exW m (grid0.coords t) = exW m (grid0.coords (kp hR (t.val - 1))) := by
  have h0 : 0 < t.val := by
    by_contra hn
    exact h (reload_zero (by rw [coord]; omega))
  refine ⟨h0, expert_kept ?_ h⟩
  rw [coord, coord]; show min (t.val - 1) _ + 1 = _; omega

section Step

variable (t : Fin grid0.N)
  (a3 : Memref sig .tc .vmem S512x256 .i32) (h3 : a3.IsWhole) (a4 : Memref sig .tc .vmem S512x256 .i32) (h4 : a4.IsWhole)
  (a5 : Memref sig .tc .vmem S1x1024x512 .f32) (h5 : a5.IsWhole) (a6 : Memref sig .tc .vmem S1x1024x512 .f32) (h6 : a6.IsWhole)
  (a7 : Memref sig .tc .vmem S1x512x1024 .f32) (h7 : a7.IsWhole)
  (a8 : Memref sig .tc .vmem S512x512 .bf16) (h8 : a8.IsWhole) (a9 : Memref sig .tc .vmem S512x512 .bf16) (h9 : a9.IsWhole)

/-- The seven windows' buffers at a point. -/
abbrev bufs (y8 y9 : Vec F S512x512 .bf16) : sProp 𝕄 :=
  iprop(owns (c : Thread nD τ) a3 fullShare (bXa hR c t) ∗ owns (c : Thread nD τ) a4 fullShare (bXb hR c t) ∗ owns (c : Thread nD τ) a5 fullShare (bW1 hR c t)
    ∗ owns (c : Thread nD τ) a6 fullShare (bW3 hR c t) ∗ owns (c : Thread nD τ) a7 fullShare (bW2 hR c t)
    ∗ owns (c : Thread nD τ) a8 fullShare y8 ∗ owns (c : Thread nD τ) a9 fullShare y9)

theorem step_past (h : nN m ≤ t.val) (y8 y9 : Vec F S512x512 .bf16) (O : sProp 𝕄) :
    iprop(PhiS hR c t.val ∗ O ∗ bufs hR c t a3 a4 a5 a6 a7 a8 a9 y8 y9)
      ⊢ wp frame (wpE (defs₀ (F := F)) Variants.none (c : Thread nD τ) none) Set.univ (body (grid0.coords t) a3 h3 a4 h4 a5 h5 a6 h6 a7 h7 a8 h8 a9 h9)
        fun _ => iprop(PhiS hR c (t.val + 1) ∗ O ∗ bufs hR c t a3 a4 a5 a6 a7 a8 a9 y8 y9) := by
  have hlo := hR.lo
  have hC : ¬ k0_cond1 (grid0.coords t) (ntW (ntT m)) = 1#1 := by rw [cond_iff hR, coord]; omega
  unfold PhiS bufs
  simp only [owns_eq_rep]
  iintro ⟨⟨Hp, Ht, Hn, %u1, %u3, %u2, %hu, Hs0, Hs1, Hs2⟩, HO, H3, H4, H5, H6, H7, H8, H9⟩
  iapply (wp_wand_r frame _ Set.univ)
  isplitl [Ht Hn H3 H4 H5 H6 H7 H8 H9 Hs0 Hs1 Hs2]
  · iapply (run_past (teT m) (ntT m) c (grid0.coords t) a3 h3 a4 h4 a5 h5 a6 h6 a7 h7 a8 h8 a9 h9 (bXa hR c t) (bXb hR c t) (bW1 hR c t) (bW3 hR c t) (bW2 hR c t) y8 y9 u1 u3 u2 hC)
    unfold holds
    iframe
  · iintro %_ ⟨Ht, Hn, H3, H4, H5, H6, H7, H8, H9, Hs0, Hs1, Hs2⟩
    iframe
    iexists u1, u3, u2
    iframe
    ipureintro
    intro _
    have h0 : 0 < t.val := by omega
    rw [show t.val + 1 - 1 = t.val from rfl, kp_past hR h]
    exact hu h0

theorem step_live (h : t.val < nN m) (y8 y9 : Vec F S512x512 .bf16) (O : sProp 𝕄) :
    iprop(PhiS hR c t.val ∗ O ∗ bufs hR c t a3 a4 a5 a6 a7 a8 a9 y8 y9)
      ⊢ wp frame (wpE (defs₀ (F := F)) Variants.none (c : Thread nD τ) none) Set.univ (body (grid0.coords t) a3 h3 a4 h4 a5 h5 a6 h6 a7 h7 a8 h8 a9 h9)
        fun _ => iprop(PhiS hR c (t.val + 1) ∗ O ∗ bufs hR c t a3 a4 a5 a6 a7 a8 a9 (tileA hR c (kp hR t.val)) (tileB hR c (kp hR t.val))) := by
  have hC : k0_cond1 (grid0.coords t) (ntW (ntT m)) = 1#1 := by rw [cond_iff hR, coord]; exact h
  have hk : kp hR t.val = t := kp_live hR h t rfl
  unfold PhiS bufs
  rw [show t.val + 1 - 1 = t.val from rfl, hk]
  simp only [owns_eq_rep]
  unfold tileA tileB
  iintro ⟨⟨Hp, Ht, Hn, %u1, %u3, %u2, %hu, Hs0, Hs1, Hs2⟩, HO, H3, H4, H5, H6, H7, H8, H9⟩
  iapply (wp_wand_r frame _ Set.univ)
  by_cases hr : reloads (teT m) (grid0.coords t) = 1#1
  · isplitl [Ht Hn H3 H4 H5 H6 H7 H8 H9 Hs0 Hs1 Hs2]
    · iapply (run_reload (teT m) (ntT m) c (grid0.coords t) a3 h3 a4 h4 a5 h5 a6 h6 a7 h7 a8 h8 a9 h9 (bXa hR c t) (bXb hR c t) (bW1 hR c t) (bW3 hR c t) (bW2 hR c t) y8 y9 u1 u3 u2 hC hr)
      unfold holds
      iframe
    · iintro %_ ⟨Ht, Hn, H3, H4, H5, H6, H7, H8, H9, Hs0, Hs1, Hs2⟩
      iframe
      iexists k0_pay4 (bW1 hR c t), k0_pay5 (bW3 hR c t), k0_pay6 (bW2 hR c t)
      iframe
      ipureintro
      exact fun _ => ⟨rfl, rfl, rfl⟩
  · obtain ⟨h0, he⟩ := kept_eq hR h hr
    obtain ⟨e1, e3, e2⟩ := hu h0
    rw [← bW1_congr hR c he] at e1
    rw [← bW3_congr hR c he] at e3
    rw [← bW2_congr hR c he] at e2
    subst e1 e3 e2
    isplitl [Ht Hn H3 H4 H5 H6 H7 H8 H9 Hs0 Hs1 Hs2]
    · iapply (run_kept (teT m) (ntT m) c (grid0.coords t) a3 h3 a4 h4 a5 h5 a6 h6 a7 h7 a8 h8 a9 h9 (bXa hR c t) (bXb hR c t) (bW1 hR c t) (bW3 hR c t) (bW2 hR c t) y8 y9 _ _ _ hC hr)
      unfold holds
      iframe
    · iintro %_ ⟨Ht, Hn, H3, H4, H5, H6, H7, H8, H9, Hs0, Hs1, Hs2⟩
      iframe
      iexists k0_pay4 (bW1 hR c t), k0_pay5 (bW3 hR c t), k0_pay6 (bW2 hR c t)
      iframe
      ipureintro
      exact fun _ => ⟨rfl, rfl, rfl⟩

end Step

/-! ## Every point -/

/-- The windows' buffers at a point. -/
abbrev st0 (t : Fin (cfgM hR).N) : Memref sig .tc .vmem S512x256 .i32 := spec0_0.stage ((cfgM hR).slots t 0)
abbrev st1 (t : Fin (cfgM hR).N) : Memref sig .tc .vmem S512x256 .i32 := spec0_1.stage ((cfgM hR).slots t 1)
abbrev st2 (t : Fin (cfgM hR).N) : Memref sig .tc .vmem S1x1024x512 .f32 := spec0_2.stage ((cfgM hR).slots t 2)
abbrev st3 (t : Fin (cfgM hR).N) : Memref sig .tc .vmem S1x1024x512 .f32 := spec0_3.stage ((cfgM hR).slots t 3)
abbrev st4 (t : Fin (cfgM hR).N) : Memref sig .tc .vmem S1x512x1024 .f32 := spec0_4.stage ((cfgM hR).slots t 4)
abbrev st5 (t : Fin (cfgM hR).N) : Memref sig .tc .vmem S512x512 .bf16 := spec0_5.stage ((cfgM hR).slots t 5)
abbrev st6 (t : Fin (cfgM hR).N) : Memref sig .tc .vmem S512x512 .bf16 := spec0_6.stage ((cfgM hR).slots t 6)

theorem body_row (t : Fin (cfgM hR).N) :
    defs₀ (F := F) .tc (cfgM hR).body ((cfgM hR).bodyArgs t ((cfgM hR).slots t))
      = body (grid0.coords t) (st0 hR t) (stage_whole0 0 _) (st1 hR t) (stage_whole0 1 _) (st2 hR t) (stage_whole0 2 _) (st3 hR t) (stage_whole0 3 _)
        (st4 hR t) (stage_whole0 4 _) (st5 hR t) (stage_whole0 5 _) (st6 hR t) (stage_whole0 6 _) := by
  unfold defs₀
  rw [Defs.onTc_tc]

/-- What a point leaves in an output's buffer, when the tile's value is there. -/
theorem leaves_at {w : Fin 7} (hw : w = 5 ∨ w = 6) (t : Fin (cfgM hR).N) (hbef : nN m ≤ t.val → ∀ d, (dat hR c).before w t d = (dat hR c).after w t) :
    owns (c : Thread nD τ) (((cfgM hR).win w).stage ((cfgM hR).slots t w)) fullShare ((dat hR c).after w t) ⊢ (dat hR c).leavesExact w t := by
  by_cases hp : nN m ≤ t.val
  · by_cases hf : ((cfgM hR).win w).flush t = true
    · unfold Dat.leavesExact
      rw [(idle_iff hR hw t).mpr hp, hf]
    · rw [(dat hR c).leavesExact_idle w t ((idle_iff hR hw t).mpr hp) (by simpa using hf)]
      iintro H
      iexists (fun _ => Classical.arbitrary _)
      rw [hbef hp]
      iexact H
  · have hi : (cfgM hR).idle w ((cfgM hR).grid.coords t) = false := by rw [← Bool.not_eq_true, idle_iff hR hw]; exact hp
    unfold Dat.leavesExact
    rw [hi]

theorem triple (t : Fin (cfgM hR).N) (O : sProp 𝕄) :
    iprop(PhiS hR c t.val ∗ O
        ∗ (∃ d, owns (c : Thread nD τ) (st0 hR t) fullShare ((dat hR c).before 0 t d)) ∗ (∃ d, owns (c : Thread nD τ) (st1 hR t) fullShare ((dat hR c).before 1 t d))
        ∗ (∃ d, owns (c : Thread nD τ) (st2 hR t) fullShare ((dat hR c).before 2 t d)) ∗ (∃ d, owns (c : Thread nD τ) (st3 hR t) fullShare ((dat hR c).before 3 t d))
        ∗ (∃ d, owns (c : Thread nD τ) (st4 hR t) fullShare ((dat hR c).before 4 t d)) ∗ (∃ d, owns (c : Thread nD τ) (st5 hR t) fullShare ((dat hR c).before 5 t d))
        ∗ (∃ d, owns (c : Thread nD τ) (st6 hR t) fullShare ((dat hR c).before 6 t d)))
      ⊢ wp frame (wpE (defs₀ (F := F)) Variants.none (c : Thread nD τ) none) Set.univ
          (body (grid0.coords t) (st0 hR t) (stage_whole0 0 _) (st1 hR t) (stage_whole0 1 _) (st2 hR t) (stage_whole0 2 _) (st3 hR t) (stage_whole0 3 _)
            (st4 hR t) (stage_whole0 4 _) (st5 hR t) (stage_whole0 5 _) (st6 hR t) (stage_whole0 6 _))
        fun _ => iprop(PhiS hR c (t.val + 1) ∗ O
          ∗ owns (c : Thread nD τ) (st0 hR t) fullShare ((dat hR c).after 0 t) ∗ owns (c : Thread nD τ) (st1 hR t) fullShare ((dat hR c).after 1 t)
          ∗ owns (c : Thread nD τ) (st2 hR t) fullShare ((dat hR c).after 2 t) ∗ owns (c : Thread nD τ) (st3 hR t) fullShare ((dat hR c).after 3 t)
          ∗ owns (c : Thread nD τ) (st4 hR t) fullShare ((dat hR c).after 4 t) ∗ (dat hR c).leavesExact 5 t ∗ (dat hR c).leavesExact 6 t) := by
  have hpost : ∀ _ : PUnit, iprop(PhiS hR c (t.val + 1) ∗ O ∗ bufs hR c t (st0 hR t) (st1 hR t) (st2 hR t) (st3 hR t) (st4 hR t) (st5 hR t) (st6 hR t)
        (tileA hR c (kp hR t.val)) (tileB hR c (kp hR t.val)))
      ⊢ iprop(PhiS hR c (t.val + 1) ∗ O
          ∗ owns (c : Thread nD τ) (st0 hR t) fullShare ((dat hR c).after 0 t) ∗ owns (c : Thread nD τ) (st1 hR t) fullShare ((dat hR c).after 1 t)
          ∗ owns (c : Thread nD τ) (st2 hR t) fullShare ((dat hR c).after 2 t) ∗ owns (c : Thread nD τ) (st3 hR t) fullShare ((dat hR c).after 3 t)
          ∗ owns (c : Thread nD τ) (st4 hR t) fullShare ((dat hR c).after 4 t) ∗ (dat hR c).leavesExact 5 t ∗ (dat hR c).leavesExact 6 t) := fun _ =>
    BIClass.sep_mono .rfl (BIClass.sep_mono .rfl (BIClass.sep_mono .rfl (BIClass.sep_mono .rfl (BIClass.sep_mono .rfl (BIClass.sep_mono .rfl (BIClass.sep_mono .rfl (BIClass.sep_mono
      (leaves_at hR c (.inl rfl) t fun h d => before_out5 hR c t h d) (leaves_at hR c (.inr rfl) t fun h d => before_out6 hR c t h d))))))))
  by_cases h : nN m ≤ t.val
  · refine BIBase.Entails.trans ?_ ((step_past hR c t (st0 hR t) (stage_whole0 0 _) (st1 hR t) (stage_whole0 1 _) (st2 hR t) (stage_whole0 2 _) (st3 hR t) (stage_whole0 3 _)
      (st4 hR t) (stage_whole0 4 _) (st5 hR t) (stage_whole0 5 _) (st6 hR t) (stage_whole0 6 _) h (tileA hR c (kp hR t.val)) (tileB hR c (kp hR t.val)) O).trans
      (wp_mono _ _ _ hpost))
    iintro ⟨HP, HO, ⟨%d0, H0⟩, ⟨%d1, H1⟩, ⟨%d2, H2⟩, ⟨%d3, H3⟩, ⟨%d4, H4⟩, ⟨%d5, H5⟩, ⟨%d6, H6⟩⟩
    rw [before0, before1, before2, before3, before4, before_out5 hR c t h, before_out6 hR c t h]
    unfold bufs
    iframe
  · have hd : ∀ d5 d6, iprop(PhiS hR c t.val ∗ O ∗ bufs hR c t (st0 hR t) (st1 hR t) (st2 hR t) (st3 hR t) (st4 hR t) (st5 hR t) (st6 hR t) d5 d6)
        ⊢ wp frame (wpE (defs₀ (F := F)) Variants.none (c : Thread nD τ) none) Set.univ _ _ := fun d5 d6 =>
      (step_live hR c t (st0 hR t) (stage_whole0 0 _) (st1 hR t) (stage_whole0 1 _) (st2 hR t) (stage_whole0 2 _) (st3 hR t) (stage_whole0 3 _)
      (st4 hR t) (stage_whole0 4 _) (st5 hR t) (stage_whole0 5 _) (st6 hR t) (stage_whole0 6 _) (Nat.lt_of_not_le h) d5 d6 O).trans
      (wp_mono _ _ _ hpost)
    iintro ⟨HP, HO, ⟨%d0, H0⟩, ⟨%d1, H1⟩, ⟨%d2, H2⟩, ⟨%d3, H3⟩, ⟨%d4, H4⟩, ⟨%d5, H5⟩, ⟨%d6, H6⟩⟩
    rw [before0, before1, before2, before3, before4]
    iapply (hd ((dat hR c).before 5 t d5) ((dat hR c).before 6 t d6))
    unfold bufs
    iframe

theorem obligation : Pipeline.BodyObligation (dat hR c) (defs₀ (F := F)) Variants.none () Set.univ := fun t => by
  rw [bigSep_W0, bigSep_W0, body_row]
  exact triple_restated (triple hR c t _) rfl .rfl fun _ => .rfl

/-! ## The result arrays -/

/-- A row of an array within its tile. -/
def inTile (i : S40960x512.Idx) : S512x512.Idx := fun
  | 0 => ⟨(i 0).val % 512, Nat.mod_lt _ (by decide)⟩
  | 1 => ⟨(i 1).val, (i 1).isLt⟩

/-- The two results: each row's tile, at the row within it. -/
def outResA : S40960x512.Idx → F .bf16 := fun i => tileA hR c (kp hR ((i 0).val / 512)) (inTile i)
def outResB : S40960x512.Idx → F .bf16 := fun i => tileB hR c (kp hR ((i 0).val / 512)) (inTile i)

include hR in
theorem ix_row (t : Fin grid0.N) (a : Fin 2) :
    cc0_transform_0 inb_S1_S1_0 numel1_S1 (tbl m) (grid0.coords t) a = (![min t.val (nN m - 1), 0] : Fin 2 → ℕ) a := by
  rw [ixTile hR, coord]

/-- Where a block's row lies: in its tile, at its place in the block. -/
theorem emb_row (t : Fin grid0.N) (j : S512x512.Idx) (i : S40960x512.Idx)
    (h : ∀ a : Fin 2, (i a).val = cc0_transform_0 inb_S1_S1_0 numel1_S1 (tbl m) (grid0.coords t) a * 512 + 1 * (j a).val) :
    kp hR ((i 0).val / 512) = kp hR t.val ∧ inTile i = j := by
  have hj : (j 0).val < 512 := (j 0).isLt
  have h0 : (i 0).val = min t.val (nN m - 1) * 512 + 1 * (j 0).val := by rw [h 0, ix_row hR]; rfl
  have h1 : (i 1).val = 0 * 512 + 1 * (j 1).val := by rw [h 1, ix_row hR]; rfl
  refine ⟨Fin.ext (show min ((i 0).val / 512) (nN m - 1) = min t.val (nN m - 1) by omega), funext fun a => ?_⟩
  fin_cases a
  · exact Fin.ext (show (i 0).val % 512 = (j 0).val by omega)
  · exact Fin.ext (show (i 1).val = (j 1).val by omega)

theorem flushedA (t : Fin (cfgM hR).N) : (dat hR c).flushed 5 t = (((cfgM hR).win 5).blk t).view.read (Elt F) (outResA hR c) := by
  have key : ∀ (j : S512x512.Idx) (i : S40960x512.Idx), (∀ a : Fin 2, (i a).val = cc0_transform_0 inb_S1_S1_0 numel1_S1 (tbl m) (grid0.coords t) a * 512 + 1 * (j a).val) →
      tileA hR c (kp hR t.val) j = outResA hR c i := fun j i h => by
    obtain ⟨k1, k2⟩ := emb_row hR t j i h
    unfold outResA
    rw [k1, k2]
  funext j
  exact key j ((((cfgM hR).win 5).blk t).view.emb j) fun a => by fin_cases a <;> rfl

theorem flushedB (t : Fin (cfgM hR).N) : (dat hR c).flushed 6 t = (((cfgM hR).win 6).blk t).view.read (Elt F) (outResB hR c) := by
  have key : ∀ (j : S512x512.Idx) (i : S40960x512.Idx), (∀ a : Fin 2, (i a).val = cc0_transform_0 inb_S1_S1_0 numel1_S1 (tbl m) (grid0.coords t) a * 512 + 1 * (j a).val) →
      tileB hR c (kp hR t.val) j = outResB hR c i := fun j i h => by
    obtain ⟨k1, k2⟩ := emb_row hR t j i h
    unfold outResB
    rw [k1, k2]
  funext j
  exact key j ((((cfgM hR).win 6).blk t).view.emb j) fun a => by fin_cases a <;> rfl

/-- The point that writes a tile's block back: the tile's, or for the last tile the grid's last. -/
def backAt (k : ℕ) (hk : k < nN m) : Fin grid0.N :=
  ⟨if k + 1 = nN m then 79 else k, by have := hR.hi; rw [N_0]; split <;> omega⟩

theorem backAt_min (k : ℕ) (hk : k < nN m) : min (backAt hR k hk).val (nN m - 1) = k := by
  have := hR.hi; unfold backAt; simp only; split <;> omega

theorem backAt_flush {w : Fin 7} (hw : w = 5 ∨ w = 6) (k : ℕ) (hk : k < nN m) : ((cfgM hR).win w).flush (backAt hR k hk) = true := by
  rw [flush_iff hR hw]; unfold backAt; simp only; split <;> omega

include hR in
theorem row_mem (i : S40960x512.Idx) (hi : (i 0).val / 512 < nN m) (t : Fin grid0.N) (ht : min t.val (nN m - 1) = (i 0).val / 512) (a : Fin 2) :
    cc0_transform_0 inb_S1_S1_0 numel1_S1 (tbl m) (grid0.coords t) a * S512x512.size a ≤ (i a).val
      ∧ (i a).val < cc0_transform_0 inb_S1_S1_0 numel1_S1 (tbl m) (grid0.coords t) a * S512x512.size a + S512x512.size a := by
  rw [ix_row hR, ht]
  have h1 : (i 1).val < 512 := (i 1).isLt
  fin_cases a
  · show (i 0).val / 512 * 512 ≤ (i 0).val ∧ (i 0).val < (i 0).val / 512 * 512 + 512
    omega
  · show 0 * 512 ≤ (i 1).val ∧ (i 1).val < 0 * 512 + 512
    omega

theorem finalA (i : S40960x512.Idx) (hi : (i 0).val / 512 < nN m) : (dat hR c).arrAt 5 (cfgM hR).N i = outResA hR c i := by
  refine (dat hR c).arrAt_apply_of_mem 5 (outResA hR c) (fun t _ => flushedA hR c t) (cfgM hR).N (backAt hR _ hi) i (backAt hR _ hi).isLt
    (backAt_flush hR (.inl rfl) _ hi) ?_
  show i ∈ ((View.whole main_v0_0).slice (((cfgM hR).win 5).rect (backAt hR _ hi))).set
  erw [View.set_slice_whole]
  exact (Pipeline.Window.mem_rect_iff ((cfgM hR).win 5) (backAt hR _ hi) i (by rfl)).mpr fun a =>
    row_mem hR i hi _ (backAt_min hR _ hi) a

theorem finalB (i : S40960x512.Idx) (hi : (i 0).val / 512 < nN m) : (dat hR c).arrAt 6 (cfgM hR).N i = outResB hR c i := by
  refine (dat hR c).arrAt_apply_of_mem 6 (outResB hR c) (fun t _ => flushedB hR c t) (cfgM hR).N (backAt hR _ hi) i (backAt hR _ hi).isLt
    (backAt_flush hR (.inr rfl) _ hi) ?_
  show i ∈ ((View.whole main_v0_1).slice (((cfgM hR).win 6).rect (backAt hR _ hi))).set
  erw [View.set_slice_whole]
  exact (Pipeline.Window.mem_rect_iff ((cfgM hR).win 6) (backAt hR _ hi) i (by rfl)).mpr fun a =>
    row_mem hR i hi _ (backAt_min hR _ hi) a

/-! ## The run -/

/-- The tables as the body is lent them. -/
theorem tables_eq : (Pipeline.ΦT pre0 (tbl m) c : sProp 𝕄) = iprop(tbPt c tbM (teT m) ∗ tbPt c ntM (ntT m)) := by
  obtain rfl : c = 0 := Subsingleton.elim _ _
  unfold Pipeline.ΦT Pipeline.prefHeld
  rw [show (Finset.univ : Finset (Fin 2)) = insert 0 {1} from by decide, bigSep_insert (by decide), bigSep_singleton]
  rfl

theorem enter : iprop(Pipeline.ΦA spec0 c ∗ Pipeline.ΦT pre0 (tbl m) c) ⊢ (PhiS hR c 0 : sProp 𝕄) := by
  rw [tables_eq]
  unfold Pipeline.ΦA PhiS
  rw [scopedRest0_eq]
  iintro ⟨⟨⟨⟨%f0, H0⟩, ⟨%f1, H1⟩, ⟨%f2, H2⟩⟩, Hp⟩, Ht, Hn⟩
  iframe
  iexists s0M.view.read (Elt F) f0, s1M.view.read (Elt F) f1, s2M.view.read (Elt F) f2
  isplitr
  · ipureintro; exact fun h => absurd h (Nat.lt_irrefl 0)
  isplitl [H0]
  · iapply (pointsTo_rep_of_read (c : Thread nD τ) s0M f0 fullShare _ rfl); rw [show s0M.view.set = Finset.univ from View.set_whole _]; iexact H0
  isplitl [H1]
  · iapply (pointsTo_rep_of_read (c : Thread nD τ) s1M f1 fullShare _ rfl); rw [show s1M.view.set = Finset.univ from View.set_whole _]; iexact H1
  · iapply (pointsTo_rep_of_read (c : Thread nD τ) s2M f2 fullShare _ rfl); rw [show s2M.view.set = Finset.univ from View.set_whole _]; iexact H2

theorem leave (n : ℕ) : (PhiS hR c n : sProp 𝕄) ⊢ Pipeline.ΦA spec0 c := by
  unfold Pipeline.ΦA PhiS
  rw [scopedRest0_eq]
  unfold at_
  rw [show s0M.view.set = Finset.univ from View.set_whole _, show s1M.view.set = Finset.univ from View.set_whole _,
    show s2M.view.set = Finset.univ from View.set_whole _]
  iintro ⟨Hp, -, -, %u1, %u3, %u2, -, H0, H1, H2⟩
  iframe
  isplitl [H0]
  · iexists _; iexact H0
  isplitl [H1]
  · iexists _; iexact H1
  · iexists _; iexact H2

theorem rest0 : main_arg0 ∈ Pipeline.restRefs sig spec0 := by decide
theorem rest1 : main_arg1 ∈ Pipeline.restRefs sig spec0 := by decide

/-- What the run leaves: the rows of the tiles in use at their projections' halves, the arguments unchanged. -/
def Post (r : PUnit × MemSt nD τ sig (Elt F)) : Prop :=
  (∀ c : Dev nD,
    ((∀ i : S40960x512.Idx, (i 0).val / 512 < nN m → r.2.mem ((c : Thread nD τ).loc main_v0_0) i = outResA hR c i)
      ∧ (∀ i : S40960x512.Idx, (i 0).val / 512 < nN m → r.2.mem ((c : Thread nD τ).loc main_v0_1) i = outResB hR c i))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6))
  ∧ r.2.sem = fun _ => 0

theorem run_main (ρ : Dev nD → PrngReg) :
    θ_run (defs (F := F)) (onTc (τ := τ) (main (F := F))) ⟨m, fun _ => 0, ρ⟩ (Post hR) :=
  Pipeline.θ_run_frameP_track pcfgs (fun _ => adm hR) (fun _ c => dat hR c) (0 : Fin 1) launch0 defs₀ Variants.none m ρ main
    (hbody := fun c => (obligation hR c).loose) (hshare := fun c => (dat hR c).share_full fun _ => rfl) (howed := fun _ _ => rfl)
    (V := fun c b => m ((c.tc : Thread nD τ).loc b))
    (hmain := Pipeline.hmainP_region _ _ _ _ m main (fun _ => rfl)) (hA := fun _ _ => rfl) (hpf := pre_eq m)
    (hin := fun c => enter hR c) (hout := fun c => leave hR c _) (Post hR)
    (fun r h => ⟨fun c =>
      ⟨⟨fun i hi => (congrFun ((h.1 c).1 5) i).trans (finalA hR c i hi), fun i hi => (congrFun ((h.1 c).1 6) i).trans (finalB hR c i hi)⟩,
        (h.1 c).2 main_arg0 rest0, (h.1 c).2 main_arg1 rest1,
        ((h.1 c).1 0).trans ((dat hR c).arrAt_in 0 rfl _), ((h.1 c).1 1).trans ((dat hR c).arrAt_in 1 rfl _),
        ((h.1 c).1 2).trans ((dat hR c).arrAt_in 2 rfl _), ((h.1 c).1 3).trans ((dat hR c).arrAt_in 3 rfl _),
        ((h.1 c).1 4).trans ((dat hR c).arrAt_in 4 rfl _)⟩, h.2⟩)

end Data

end Cert.Proof.Gmm

end
-- ==== Proof.GmmVal.lean ====
/-
  The experts' tile as a formula: what a tile's body leaves, entry by entry, over the extended reals.
-/
module

public import proofs.«01_k».proof.Proof.GmmBody
public import Idealize.ShloMosaic.Lib.Pointwise

@[expose] public section

set_option maxRecDepth 16384

noncomputable section

namespace Cert.Proof.Gmm

open Cert.Kernel2Ideal Cert.Kernel2Ideal.Gen
open Idealize.ShloMosaic

/-- The two narrow floats of a word, widened. -/
def upper (w : BitVec 32) : EReal := Ideal.ofBits .f32 (w &&& 4294901760#32)
def lower (w : BitVec 32) : EReal := Ideal.ofBits .f32 (w <<< (16#32 : BitVec 32))

/-- A row of the tokens, from its row of words in either array. -/
def rowOf (a b : Fin 256 → BitVec 32) (k : Fin 1024) : EReal :=
  if h : k.val < 256 then upper (a ⟨k.val, h⟩)
  else if h : k.val - 256 < 256 then upper (b ⟨k.val - 256, h⟩)
  else if h : k.val - 256 - 256 < 256 then lower (a ⟨k.val - 256 - 256, h⟩)
  else lower (b ⟨k.val - 256 - 256 - 256, by omega⟩)

/-- A row times a matrix. -/
def dotRow {K N : ℕ} (x : Fin K → EReal) (w : Fin K → Fin N → EReal) (d : Fin N) : EReal := ∑ k, x k * w k d

/-- A gate: `h` times the logistic function of `h`. -/
def gate (h : EReal) : EReal := h * Ideal.div 1 (1 + Ideal.exp (-h))

/-- A row of the experts' result, from the token's row and its expert's three matrices. -/
def expertRow (x : Fin 1024 → EReal) (w1 w3 : Fin 1024 → Fin 512 → EReal) (w2 : Fin 512 → Fin 1024 → EReal) : Fin 1024 → EReal :=
  dotRow (fun d => gate (dotRow x w1 d) * dotRow x w3 d) w2

theorem pay7_at (xa xb : Vec Ideal S512x256 .i32) (r : Fin 512) (k : Fin 1024) :
    k0_pay7 (F := Ideal) xa xb (ix2 r k) = rowOf (fun j => xa (ix2 r j)) (fun j => xb (ix2 r j)) k := by
  pointwise [k0_pay7]
  rfl

theorem pay4_at (u : Vec Ideal S1x1024x512 .f32) (k : Fin 1024) (d : Fin 512) :
    k0_pay4 (F := Ideal) u (ix2 k d) = u (ix3 0 k d) := by
  pointwise [k0_pay4]

theorem pay5_at (u : Vec Ideal S1x1024x512 .f32) (k : Fin 1024) (d : Fin 512) :
    k0_pay5 (F := Ideal) u (ix2 k d) = u (ix3 0 k d) := by
  pointwise [k0_pay5]

theorem pay6_at (u : Vec Ideal S1x512x1024 .f32) (d : Fin 512) (y : Fin 1024) :
    k0_pay6 (F := Ideal) u (ix2 d y) = u (ix3 0 d y) := by
  pointwise [k0_pay6]

theorem pay8_at (xa xb : Vec Ideal S512x256 .i32) (w1 : Vec Ideal S1024x512 .bf16) (r : Fin 512) (d : Fin 512) :
    k0_pay8 (F := Ideal) xa xb w1 (ix2 r d)
      = gate (dotRow (rowOf (fun j => xa (ix2 r j)) (fun j => xb (ix2 r j))) (fun k d => w1 (ix2 k d)) d) := by
  unfold gate dotRow
  simp only [← pay7_at]
  unfold k0_pay8
  generalize k0_pay7 xa xb = x
  pointwise
  rw [zero_sub]

theorem pay1_at (x : FVec Ideal S512x1024 .bf16) (g : FVec Ideal S512x512 .f32) (w3 : Vec Ideal S1024x512 .bf16) (w2 : Vec Ideal S512x1024 .bf16) (r : Fin 512) (y : Fin 1024) :
    k0_pay1 (F := Ideal) x g w3 zero32 w2 (ix2 r y)
      = dotRow (fun d => g (ix2 r d) * dotRow (fun k => x (ix2 r k)) (fun k d => w3 (ix2 k d)) d) (fun d y => w2 (ix2 d y)) y := by
  unfold dotRow zero32
  pointwise [k0_pay1]

/-- The columns of the two result arrays. -/
def colA (j : Fin 512) : Fin 1024 := if h : j.val < 256 then ⟨j.val, by omega⟩ else ⟨512 + (j.val - 256), by omega⟩
def colB (j : Fin 512) : Fin 1024 := if h : j.val < 256 then ⟨256 + j.val, by omega⟩ else ⟨768 + (j.val - 256), by omega⟩

theorem pay2_at (x : FVec Ideal S512x1024 .bf16) (g : FVec Ideal S512x512 .f32) (w3 : Vec Ideal S1024x512 .bf16) (z) (w2 : Vec Ideal S512x1024 .bf16) (r j : Fin 512) :
    k0_pay2 (F := Ideal) x g w3 z w2 (ix2 r j) = k0_pay1 (F := Ideal) x g w3 z w2 (ix2 r (colA j)) := by
  unfold k0_pay2 colA
  generalize k0_pay1 x g w3 z w2 = p
  pointwise
  split <;> rfl

theorem pay3_at (x : FVec Ideal S512x1024 .bf16) (g : FVec Ideal S512x512 .f32) (w3 : Vec Ideal S1024x512 .bf16) (z) (w2 : Vec Ideal S512x1024 .bf16) (r j : Fin 512) :
    k0_pay3 (F := Ideal) x g w3 z w2 (ix2 r j) = k0_pay1 (F := Ideal) x g w3 z w2 (ix2 r (colB j)) := by
  unfold k0_pay3 colB
  generalize k0_pay1 x g w3 z w2 = p
  pointwise
  split <;> rfl

theorem row_at (xa xb : Vec Ideal S512x256 .i32) (u1 u3 : Vec Ideal S1x1024x512 .f32) (u2 : Vec Ideal S1x512x1024 .f32) (r : Fin 512) (y : Fin 1024) :
    k0_pay1 (F := Ideal) (k0_pay7 xa xb) (k0_pay8 xa xb (k0_pay4 u1)) (k0_pay5 u3) zero32 (k0_pay6 u2) (ix2 r y)
      = expertRow (rowOf (fun j => xa (ix2 r j)) (fun j => xb (ix2 r j))) (fun k d => u1 (ix3 0 k d)) (fun k d => u3 (ix3 0 k d)) (fun d y => u2 (ix3 0 d y)) y := by
  rw [pay1_at]
  unfold expertRow
  simp only [pay8_at, pay7_at, pay4_at, pay5_at, pay6_at]

theorem outA_at (xa xb : Vec Ideal S512x256 .i32) (u1 u3 : Vec Ideal S1x1024x512 .f32) (u2 : Vec Ideal S1x512x1024 .f32) (r j : Fin 512) :
    outA (F := Ideal) xa xb (k0_pay4 u1) (k0_pay5 u3) (k0_pay6 u2) (ix2 r j)
      = expertRow (rowOf (fun j => xa (ix2 r j)) (fun j => xb (ix2 r j))) (fun k d => u1 (ix3 0 k d)) (fun k d => u3 (ix3 0 k d)) (fun d y => u2 (ix3 0 d y)) (colA j) :=
  (pay2_at _ _ _ _ _ r j).trans (row_at xa xb u1 u3 u2 r (colA j))

theorem outB_at (xa xb : Vec Ideal S512x256 .i32) (u1 u3 : Vec Ideal S1x1024x512 .f32) (u2 : Vec Ideal S1x512x1024 .f32) (r j : Fin 512) :
    outB (F := Ideal) xa xb (k0_pay4 u1) (k0_pay5 u3) (k0_pay6 u2) (ix2 r j)
      = expertRow (rowOf (fun j => xa (ix2 r j)) (fun j => xb (ix2 r j))) (fun k d => u1 (ix3 0 k d)) (fun k d => u3 (ix3 0 k d)) (fun d y => u2 (ix3 0 d y)) (colB j) :=
  (pay3_at _ _ _ _ _ r j).trans (row_at xa xb u1 u3 u2 r (colB j))

end Cert.Proof.Gmm

end
-- ==== Proof.GmmRef.lean ====
/-
  The reference of the experts' projections, entry by entry: each token's row through its tile's expert.
-/
module

public import proofs.«01_k».proof.Proof.GmmVal
public import proofs.«01_k».proof.Proof.Gen.Reference2Ideal.Run

@[expose] public section

set_option maxRecDepth 16384

noncomputable section

namespace Cert.Proof.Gmm

open Cert.Reference2Ideal Cert.Reference2Ideal.Gen Cert.Reference2Ideal.Value
open Idealize.ShloMosaic Idealize.ShloMosaic.TcCoe

/-- The dimension numbers of `w[te]`, a table of `N` matrices of `P` rows and `Q` columns taken at eighty positions. -/
abbrev matDims (N P Q : ℕ) (wf : GatherDims.WF ⟨3, ![N, P, Q]⟩ ⟨2, ![80, 1]⟩ ⟨3, ![80, P, Q]⟩ [1, 2] [0] [] [0] [] 1 ![1, P, Q]) :
    GatherDims ⟨3, ![N, P, Q]⟩ ⟨2, ![80, 1]⟩ ⟨3, ![80, P, Q]⟩ where
  offsetDims := [1, 2]
  collapsedSliceDims := [0]
  operandBatchingDims := []
  startIndicesBatchingDims := []
  startIndexMap := [0]
  indexVectorDim := 1
  sliceSizes := ![1, P, Q]
  wf := wf

/-- A matrix taken at a position in range is the table's at that position. -/
theorem mat_at {α : Type} {N P Q : ℕ} (wf) (x : (⟨3, ![N, P, Q]⟩ : Shape).Idx → α) (idx : IVec ⟨2, ![80, 1]⟩ 32) (t : Fin 80) (p : Fin P) (q : Fin Q) (e : Fin N)
    (h : (idx (ix2 t 0)).toInt.toNat = e.val) : Host.gather (matDims N P Q wf) x idx (ix3 t p q) = x (ix3 e p q) := by
  have he := e.isLt
  unfold Host.gather
  congr 1
  funext a
  refine Fin.ext ?_
  show (matDims N P Q wf).start (ix3 t p q) idx a + (matDims N P Q wf).batchCoord (ix3 t p q) a + (matDims N P Q wf).offCoord (ix3 t p q) a = _
  rw [GatherDims.batchCoord_eq_zero _ _ _ List.not_mem_nil, Nat.add_zero]
  have hn : ∀ a : Fin 3, a ≠ 0 → a ∉ (matDims N P Q wf).startIndexMap := fun a ha h => ha (List.mem_singleton.mp h)
  obtain rfl | rfl | rfl : a = 0 ∨ a = 1 ∨ a = 2 := by
    match a with
    | ⟨0, _⟩ => exact .inl rfl
    | ⟨1, _⟩ => exact .inr (.inl rfl)
    | ⟨2, _⟩ => exact .inr (.inr rfl)
  · have hm : (0 : Fin 3) ∈ (matDims N P Q wf).startIndexMap := List.mem_singleton.mpr rfl
    rw [GatherDims.offCoord_eq_zero _ _ _ (fun h => ((GatherDims.mem_sKept _ _).mp h).1 (List.mem_singleton.mpr rfl)), Nat.add_zero]
    unfold GatherDims.start
    rw [dif_pos hm]
    have hsi : (matDims N P Q wf).siIdx (ix3 t p q) ⟨List.idxOf (0 : Fin 3) (matDims N P Q wf).startIndexMap, List.idxOf_lt_length_iff.2 hm⟩ = ix2 t 0 := by
      funext b; refine Fin.ext ?_
      match b with
      | ⟨0, _⟩ => rfl
      | ⟨1, _⟩ => rfl
    rw [hsi, h]
    show min e.val (N - 1) = e.val
    omega
  · unfold GatherDims.start
    rw [dif_neg (hn 1 (by decide))]
    exact Nat.zero_add _
  · unfold GatherDims.start
    rw [dif_neg (hn 2 (by decide))]
    exact Nat.zero_add _

/-- The tokens, unpacked: their rows. -/
theorem tokens_at (a b : IVec S40960x256 32) (t : Fin 80) (r : Fin 512) (k : Fin 1024) (hs : S_.BroadcastsInDim S40960x256 (![] : Fin 0 → Fin S40960x256.rank)) (hc hd) :
    shapeCast S80x512x1024 (concatenate S40960x1024 1
        [⟨S40960x256, bitcastToFloat (F := Ideal) .f32 (andi a (broadcastInDim S40960x256 ![] hs (constantI S_ 32 4294901760#32)))⟩,
         ⟨S40960x256, bitcastToFloat (F := Ideal) .f32 (andi b (broadcastInDim S40960x256 ![] hs (constantI S_ 32 4294901760#32)))⟩,
         ⟨S40960x256, bitcastToFloat (F := Ideal) .f32 (Host.shli a (broadcastInDim S40960x256 ![] hs (constantI S_ 32 16#32)))⟩,
         ⟨S40960x256, bitcastToFloat (F := Ideal) .f32 (Host.shli b (broadcastInDim S40960x256 ![] hs (constantI S_ 32 16#32)))⟩] hc) hd (ix3 t r k)
      = rowOf (fun j => a (ix2 ⟨t.val * 512 + r.val, by omega⟩ j)) (fun j => b (ix2 ⟨t.val * 512 + r.val, by omega⟩ j)) k := by
  pointwise
  rfl

/-- The projections of eighty tiles. -/
def tiles (x : FVec Ideal S80x512x1024 .f32) (w1 w3 : FVec Ideal S80x1024x512 .f32) (w2 : FVec Ideal S80x512x1024 .f32) : FVec Ideal S40960x1024 .bf16 :=
  truncf .bf16 (shapeCast _ (Host.dotGeneral dot_S80x512x512_S80x512x1024_S80x512x1024_2_1_1_2_0_0 none (mulf (mulf (Host.dotGeneral dot_S80x512x1024_S80x1024x512_S80x512x512_2_1_1_2_0_0 none x w1)
    (Host.divf (broadcastInDim S80x512x512 ![] bcast_S_S80x512x512 (constant S_ .f32 0x3F800000#32)) (addf (broadcastInDim S80x512x512 ![] bcast_S_S80x512x512 (constant S_ .f32 0x3F800000#32))
      (Host.exp (Host.negf (Host.dotGeneral dot_S80x512x1024_S80x1024x512_S80x512x512_2_1_1_2_0_0 none x w1))))))
    (Host.dotGeneral dot_S80x512x1024_S80x1024x512_S80x512x512_2_1_1_2_0_0 none x w3)) w2) shapeCasts_S80x512x1024_S40960x1024) bitsLt_bf16_f32

theorem tiles_at (x : FVec Ideal S80x512x1024 .f32) (w1 w3 : FVec Ideal S80x1024x512 .f32) (w2 : FVec Ideal S80x512x1024 .f32) (i : Fin 40960) (y : Fin 1024) :
    tiles x w1 w3 w2 (ix2 i y)
      = expertRow (fun k => x (ix3 ⟨i.val / 512, by omega⟩ ⟨i.val % 512, by omega⟩ k)) (fun k d => w1 (ix3 ⟨i.val / 512, by omega⟩ k d))
          (fun k d => w3 (ix3 ⟨i.val / 512, by omega⟩ k d)) (fun d y => w2 (ix3 ⟨i.val / 512, by omega⟩ d y)) y := by
  unfold expertRow dotRow gate
  pointwise [tiles]

theorem halvesA_at (p : FVec Ideal S40960x1024 .bf16) (h0 h1 hc) (i : Fin 40960) (j : Fin 512) :
    concatenate S40960x512 1 [⟨S40960x256, extractStridedSlice S40960x256 ![0, 0] p h0⟩, ⟨S40960x256, extractStridedSlice S40960x256 ![0, 512] p h1⟩] hc (ix2 i j)
      = p (ix2 i (colA j)) := by
  unfold colA
  pointwise
  split <;> rfl

theorem halvesB_at (p : FVec Ideal S40960x1024 .bf16) (h0 h1 hc) (i : Fin 40960) (j : Fin 512) :
    concatenate S40960x512 1 [⟨S40960x256, extractStridedSlice S40960x256 ![0, 256] p h0⟩, ⟨S40960x256, extractStridedSlice S40960x256 ![0, 768] p h1⟩] hc (ix2 i j)
      = p (ix2 i (colB j)) := by
  unfold colB
  pointwise
  split <;> rfl

/-- The experts' positions: none is negative, so none is wrapped. -/
theorem pos_at (te : IVec S80 32) (hte : ∀ j, (te j).toNat < 16) (hb : S80.BroadcastsInDim S80x1 (![0] : Fin 1 → Fin S80x1.rank))
    (hs : S_.BroadcastsInDim S80 (![] : Fin 0 → Fin S80.rank)) (t : Fin 80) :
    (broadcastInDim S80x1 ![0] hb (select (cmpi .slt te (broadcastInDim S80 ![] hs (constantI S_ 32 0#32)))
      (addi te (broadcastInDim S80 ![] hs (constantI S_ 32 16#32))) te) (ix2 t 0)).toInt.toNat = (te (ix1 t)).toNat := by
  have hpos := hte (ix1 t)
  have i1 : (te (ix1 t)).toInt = (te (ix1 t)).toNat := BitVec.toInt_eq_toNat_of_lt (by omega)
  have i0 : (te (ix1 t)).slt 0#32 = false := by
    simp only [BitVec.slt, i1, BitVec.toInt_zero, decide_eq_false_iff_not]; omega
  pointwise
  simp only [IntOp.cmpi, i0]
  rw [Scalar.select, if_neg (by decide), i1, Int.toNat_natCast]

section
variable (m : (ℓ : Loc nD τ sig) → Buf (Elt Ideal) ℓ) (c : Dev nD)

/-- The reference's arguments. -/
abbrev aTe : IVec S80 32 := m ((c : Thread nD τ).loc main_arg0)
abbrev aXa : IVec S40960x256 32 := m ((c : Thread nD τ).loc main_arg2)
abbrev aXb : IVec S40960x256 32 := m ((c : Thread nD τ).loc main_arg3)
abbrev aW1 : FVec Ideal S16x1024x512 .f32 := m ((c : Thread nD τ).loc main_arg4)
abbrev aW3 : FVec Ideal S16x1024x512 .f32 := m ((c : Thread nD τ).loc main_arg5)
abbrev aW2 : FVec Ideal S16x512x1024 .f32 := m ((c : Thread nD τ).loc main_arg6)

/-- The positions the tables are taken at. -/
def pos (te : IVec S80 32) : IVec S80x1 32 :=
  broadcastInDim S80x1 ![0] bcast_S80_S80x1_0 (select (cmpi .slt te (broadcastInDim S80 ![] bcast_S_S80 (constantI S_ 32 0#32)))
    (addi te (broadcastInDim S80 ![] bcast_S_S80 (constantI S_ 32 16#32))) te)

def tokens (a b : IVec S40960x256 32) : FVec Ideal S80x512x1024 .f32 :=
  shapeCast S80x512x1024 (concatenate S40960x1024 1
    [⟨S40960x256, bitcastToFloat (F := Ideal) .f32 (andi a (broadcastInDim S40960x256 ![] bcast_S_S40960x256 (constantI S_ 32 4294901760#32)))⟩,
     ⟨S40960x256, bitcastToFloat (F := Ideal) .f32 (andi b (broadcastInDim S40960x256 ![] bcast_S_S40960x256 (constantI S_ 32 4294901760#32)))⟩,
     ⟨S40960x256, bitcastToFloat (F := Ideal) .f32 (Host.shli a (broadcastInDim S40960x256 ![] bcast_S_S40960x256 (constantI S_ 32 16#32)))⟩,
     ⟨S40960x256, bitcastToFloat (F := Ideal) .f32 (Host.shli b (broadcastInDim S40960x256 ![] bcast_S_S40960x256 (constantI S_ 32 16#32)))⟩]
    concatenates_S40960x256_S40960x256_S40960x256_S40960x256_S40960x1024_d1) shapeCasts_S40960x1024_S80x512x1024

/-- Every row of every tile through its expert, at the narrow floats. -/
def allRows : FVec Ideal S40960x1024 .bf16 :=
  tiles (tokens (aXa m c) (aXb m c)) (Host.gather gather_S16x1024x512_S80x1_S80x1024x512_12_0_n_n_0_1_11024512 (aW1 m c) (pos (aTe m c)))
    (Host.gather gather_S16x1024x512_S80x1_S80x1024x512_12_0_n_n_0_1_11024512 (aW3 m c) (pos (aTe m c)))
    (Host.gather gather_S16x512x1024_S80x1_S80x512x1024_12_0_n_n_0_1_15121024 (aW2 m c) (pos (aTe m c)))

theorem resA_eq : res_out0 m c = concatenate S40960x512 1 [⟨S40960x256, extractStridedSlice S40960x256 ![0, 0] (allRows m c) slices_S40960x1024_S40960x256_0_0⟩,
    ⟨S40960x256, extractStridedSlice S40960x256 ![0, 512] (allRows m c) slices_S40960x1024_S40960x256_0_512⟩] concatenates_S40960x256_S40960x256_S40960x512_d1 := rfl

theorem resB_eq : res_out1 m c = concatenate S40960x512 1 [⟨S40960x256, extractStridedSlice S40960x256 ![0, 256] (allRows m c) slices_S40960x1024_S40960x256_0_256⟩,
    ⟨S40960x256, extractStridedSlice S40960x256 ![0, 768] (allRows m c) slices_S40960x1024_S40960x256_0_768⟩] concatenates_S40960x256_S40960x256_S40960x512_d1 := rfl

theorem allRows_at (hte : ∀ j, (aTe m c j).toNat < 16) (i : Fin 40960) (y : Fin 1024) (e : Fin 16) (he : (aTe m c (ix1 ⟨i.val / 512, by omega⟩)).toNat = e.val) :
    allRows m c (ix2 i y)
      = expertRow (rowOf (fun j => aXa m c (ix2 i j)) (fun j => aXb m c (ix2 i j))) (fun k d => aW1 m c (ix3 e k d)) (fun k d => aW3 m c (ix3 e k d))
          (fun d y => aW2 m c (ix3 e d y)) y := by
  have hp : (pos (aTe m c) (ix2 ⟨i.val / 512, by omega⟩ 0)).toInt.toNat = e.val := (pos_at (aTe m c) hte _ _ _).trans he
  have hi : (⟨i.val / 512 * 512 + i.val % 512, by omega⟩ : Fin 40960) = i := Fin.ext (by show i.val / 512 * 512 + i.val % 512 = i.val; omega)
  unfold allRows
  rw [tiles_at]
  have e1 : (fun k => tokens (aXa m c) (aXb m c) (ix3 ⟨i.val / 512, by omega⟩ ⟨i.val % 512, by omega⟩ k))
      = rowOf (fun j => aXa m c (ix2 i j)) (fun j => aXb m c (ix2 i j)) := by
    funext k
    refine (tokens_at _ _ _ _ _ _ _ _).trans ?_
    simp only [hi]
  rw [e1]
  exact congr (congr (congr (congrArg (expertRow _) (funext fun k => funext fun d => mat_at _ _ _ _ k d e hp))
    (funext fun k => funext fun d => mat_at _ _ _ _ k d e hp)) (funext fun d => funext fun y => mat_at _ _ _ _ d y e hp)) rfl

end

end Cert.Proof.Gmm

end
-- ==== Proof.GmmMatch.lean ====
/-
  The two sides meet: a row of a tile in use is, in the run's result and in the reference's, one formula of one expert.
-/
module

public import proofs.«01_k».proof.Proof.GmmRun
public import proofs.«01_k».proof.Proof.GmmRef

@[expose] public section

noncomputable section

namespace Cert.Proof.Gmm

open Cert.Kernel2Ideal Cert.Kernel2Ideal.Gen
open Idealize.ShloMosaic Idealize.ShloMosaic.TcCoe

variable {m : (ℓ : Loc nD τ sig) → Buf (Elt Ideal) ℓ} (hR : InRange m) (c : Dev nD)

/-- A point's expert is the table's entry at the point. -/
theorem exW_at (t : Fin grid0.N) (k : Fin 80) (h : t.val = k.val) : exW m (grid0.coords t) = teT m (ix1 k) := by
  refine congrArg (teT m) (funext fun a => Fin.ext ?_)
  have e : (k0_off2 (grid0.coords t) 0) = t.val := by rw [off2_eq, ← coord t]; rfl
  fin_cases a
  show k0_off2 (grid0.coords t) 0 + 1 * 0 = k.val
  omega

/-- The words' block at a live point: the tile's rows. -/
theorem words_row (t : Fin grid0.N) (ht : t.val < nN m) (r : Fin 512) (j : Fin 256) (i : Fin 40960) (hi : i.val = t.val * 512 + r.val) :
    bXa hR c t (ix2 r j) = m ((c : Thread nD τ).loc main_arg2) (ix2 i j) ∧ bXb hR c t (ix2 r j) = m ((c : Thread nD τ).loc main_arg3) (ix2 i j) := by
  have key : ∀ e : S40960x256.Idx, (∀ a : Fin 2, (e a).val = cc0_transform_0 inb_S1_S1_0 numel1_S1 (tbl m) (grid0.coords t) a * S512x256.size a + 1 * (ix2 r j a).val) → e = ix2 i j := fun e h => by
    have h0 : (e 0).val = min t.val (nN m - 1) * 512 + 1 * r.val := by rw [h 0, ix_row hR]; rfl
    have h1 : (e 1).val = 0 * 256 + 1 * j.val := by rw [h 1, ix_row hR]; rfl
    funext a
    fin_cases a
    · exact Fin.ext (show (e 0).val = i.val by omega)
    · exact Fin.ext (show (e 1).val = j.val by omega)
  exact ⟨congrArg (m ((c : Thread nD τ).loc main_arg2)) (key ((((cfgM hR).win 0).blk t).view.emb (ix2 r j)) fun a => by fin_cases a <;> rfl),
    congrArg (m ((c : Thread nD τ).loc main_arg3)) (key ((((cfgM hR).win 1).blk t).view.emb (ix2 r j)) fun a => by fin_cases a <;> rfl)⟩

/-- The weights' blocks: their expert's matrices. -/
theorem proj_row (t : Fin grid0.N) (e : Fin 16) (he : (exW m (grid0.coords t)).toNat = e.val) (k : Fin 1024) (d : Fin 512) :
    bW1 hR c t (ix3 0 k d) = m ((c : Thread nD τ).loc main_arg4) (ix3 e k d) ∧ bW3 hR c t (ix3 0 k d) = m ((c : Thread nD τ).loc main_arg5) (ix3 e k d) := by
  have key : ∀ x : S16x1024x512.Idx, (∀ a : Fin 3, (x a).val = (![(exW m (grid0.coords t)).toNat, 0, 0] : Fin 3 → ℕ) a * S1x1024x512.size a + 1 * (ix3 (0 : Fin 1) k d a).val) → x = ix3 e k d := fun x h => by
    have h0 : (x 0).val = (exW m (grid0.coords t)).toNat * 1 + 1 * 0 := h 0
    have h1 : (x 1).val = 0 * 1024 + 1 * k.val := h 1
    have h2 : (x 2).val = 0 * 512 + 1 * d.val := h 2
    funext a
    fin_cases a
    · exact Fin.ext (show (x 0).val = e.val by omega)
    · exact Fin.ext (show (x 1).val = k.val by omega)
    · exact Fin.ext (show (x 2).val = d.val by omega)
  exact ⟨congrArg (m ((c : Thread nD τ).loc main_arg4)) (key ((((cfgM hR).win 2).blk t).view.emb (ix3 0 k d)) fun a => by fin_cases a <;> rfl),
    congrArg (m ((c : Thread nD τ).loc main_arg5)) (key ((((cfgM hR).win 3).blk t).view.emb (ix3 0 k d)) fun a => by fin_cases a <;> rfl)⟩

theorem back_row (t : Fin grid0.N) (e : Fin 16) (he : (exW m (grid0.coords t)).toNat = e.val) (d : Fin 512) (y : Fin 1024) :
    bW2 hR c t (ix3 0 d y) = m ((c : Thread nD τ).loc main_arg6) (ix3 e d y) := by
  have key : ∀ x : S16x512x1024.Idx, (∀ a : Fin 3, (x a).val = (![(exW m (grid0.coords t)).toNat, 0, 0] : Fin 3 → ℕ) a * S1x512x1024.size a + 1 * (ix3 (0 : Fin 1) d y a).val) → x = ix3 e d y := fun x h => by
    have h0 : (x 0).val = (exW m (grid0.coords t)).toNat * 1 + 1 * 0 := h 0
    have h1 : (x 1).val = 0 * 512 + 1 * d.val := h 1
    have h2 : (x 2).val = 0 * 1024 + 1 * y.val := h 2
    funext a
    fin_cases a
    · exact Fin.ext (show (x 0).val = e.val by omega)
    · exact Fin.ext (show (x 1).val = d.val by omega)
    · exact Fin.ext (show (x 2).val = y.val by omega)
  exact congrArg (m ((c : Thread nD τ).loc main_arg6)) (key ((((cfgM hR).win 4).blk t).view.emb (ix3 0 d y)) fun a => by fin_cases a <;> rfl)

/-- A row of the run's results, its expert's formula. -/
def rowIn (m : (ℓ : Loc nD τ sig) → Buf (Elt Ideal) ℓ) (c : Dev nD) (i : Fin 40960) (e : Fin 16) : Fin 1024 → EReal :=
  expertRow (rowOf (fun j => (m ((c : Thread nD τ).loc main_arg2) : IVec S40960x256 32) (ix2 i j)) (fun j => (m ((c : Thread nD τ).loc main_arg3) : IVec S40960x256 32) (ix2 i j)))
    (fun k d => (m ((c : Thread nD τ).loc main_arg4) : FVec Ideal S16x1024x512 .f32) (ix3 e k d)) (fun k d => (m ((c : Thread nD τ).loc main_arg5) : FVec Ideal S16x1024x512 .f32) (ix3 e k d))
    (fun d y => (m ((c : Thread nD τ).loc main_arg6) : FVec Ideal S16x512x1024 .f32) (ix3 e d y))

theorem outRes_row (i : Fin 40960) (j : Fin 512) (h : i.val / 512 < nN m) (e : Fin 16) (he : (teT m (ix1 ⟨i.val / 512, by omega⟩)).toNat = e.val) :
    outResA hR c (ix2 i j) = rowIn m c i e (colA j) ∧ outResB hR c (ix2 i j) = rowIn m c i e (colB j) := by
  have hk : (kp hR (i.val / 512)).val = i.val / 512 := by show min _ (nN m - 1) = _; omega
  have hin : inTile (ix2 i j) = ix2 (⟨i.val % 512, by omega⟩ : Fin 512) j := by
    funext a; fin_cases a <;> rfl
  have hx : (exW m (grid0.coords (kp hR (i.val / 512)))).toNat = e.val := by rw [exW_at _ ⟨i.val / 512, by omega⟩ hk, he]
  have hw := fun r : Fin 256 => words_row hR c (kp hR (i.val / 512)) (by omega) ⟨i.val % 512, by omega⟩ r i (by rw [hk]; show i.val = i.val / 512 * 512 + i.val % 512; omega)
  have hp := proj_row hR c (kp hR (i.val / 512)) e hx
  have hb := back_row hR c (kp hR (i.val / 512)) e hx
  have E : expertRow (rowOf (fun q => bXa hR c (kp hR (i.val / 512)) (ix2 ⟨i.val % 512, by omega⟩ q)) (fun q => bXb hR c (kp hR (i.val / 512)) (ix2 ⟨i.val % 512, by omega⟩ q)))
      (fun k d => bW1 hR c (kp hR (i.val / 512)) (ix3 0 k d)) (fun k d => bW3 hR c (kp hR (i.val / 512)) (ix3 0 k d)) (fun d y => bW2 hR c (kp hR (i.val / 512)) (ix3 0 d y))
      = rowIn m c i e :=
    congr (congr (congr (congrArg expertRow (congr (congrArg rowOf (funext fun q => (hw q).1)) (funext fun q => (hw q).2)))
      (funext fun k => funext fun d => (hp k d).1)) (funext fun k => funext fun d => (hp k d).2)) (funext fun d => funext fun y => hb d y)
  constructor
  · show tileA hR c (kp hR (i.val / 512)) (inTile (ix2 i j)) = _
    rw [hin]
    exact (outA_at _ _ _ _ _ _ j).trans (congrFun E (colA j))
  · show tileB hR c (kp hR (i.val / 512)) (inTile (ix2 i j)) = _
    rw [hin]
    exact (outB_at _ _ _ _ _ _ j).trans (congrFun E (colB j))

/-- The reference's memory holds the run's arguments. -/
structure Agree (m : (ℓ : Loc nD τ sig) → Buf (Elt Ideal) ℓ)
    (m' : (ℓ : Loc Cert.Reference2Ideal.nD Cert.Reference2Ideal.τ Cert.Reference2Ideal.sig) → Buf (Elt Ideal) ℓ) (c : Dev nD) : Prop where
  te : aTe m' c = m ((c : Thread nD τ).loc main_arg0)
  xa : aXa m' c = m ((c : Thread nD τ).loc main_arg2)
  xb : aXb m' c = m ((c : Thread nD τ).loc main_arg3)
  w1 : aW1 m' c = m ((c : Thread nD τ).loc main_arg4)
  w3 : aW3 m' c = m ((c : Thread nD τ).loc main_arg5)
  w2 : aW2 m' c = m ((c : Thread nD τ).loc main_arg6)

theorem allRows_in {m' : (ℓ : Loc Cert.Reference2Ideal.nD Cert.Reference2Ideal.τ Cert.Reference2Ideal.sig) → Buf (Elt Ideal) ℓ} (hA : Agree m m' c)
    (hte : ∀ j, (teT m j).toNat < 16) (i : Fin 40960) (y : Fin 1024) (e : Fin 16) (he : (teT m (ix1 ⟨i.val / 512, by omega⟩)).toNat = e.val) :
    allRows m' c (ix2 i y) = rowIn m c i e y := by
  have h0 : aTe m' c = teT m := by
    obtain rfl : c = 0 := Subsingleton.elim _ _
    exact hA.te
  rw [allRows_at m' c (by rw [h0]; exact hte) i y e (by rw [h0]; exact he), hA.xa, hA.xb, hA.w1, hA.w3, hA.w2]
  rfl

include hR in
/-- On the rows of the tiles in use the run's results are the reference's. -/
theorem results_agree {m' : (ℓ : Loc Cert.Reference2Ideal.nD Cert.Reference2Ideal.τ Cert.Reference2Ideal.sig) → Buf (Elt Ideal) ℓ} (hA : Agree m m' c)
    (i : S40960x512.Idx) (h : (i 0).val / 512 < nN m) :
    outResA hR c i = Cert.Reference2Ideal.Value.res_out0 m' c i ∧ outResB hR c i = Cert.Reference2Ideal.Value.res_out1 m' c i := by
  obtain ⟨r, j, rfl⟩ : ∃ (r : Fin 40960) (j : Fin 512), i = ix2 r j := ⟨i 0, i 1, eq_ix2 i⟩
  obtain ⟨e, he⟩ : ∃ e : Fin 16, (teT m (ix1 ⟨r.val / 512, by omega⟩)).toNat = e.val := ⟨⟨_, hR.te _⟩, rfl⟩
  obtain ⟨hA1, hB1⟩ := outRes_row hR c r j h e he
  refine ⟨hA1.trans ?_, hB1.trans ?_⟩
  · rw [resA_eq, halvesA_at]
    exact (allRows_in c hA hR.te r (colA j) e he).symm
  · rw [resB_eq, halvesB_at]
    exact (allRows_in c hA hR.te r (colB j) e he).symm

end Cert.Proof.Gmm

end
-- ==== Proof.GmmPre.lean ====
/-
  What the precondition of the experts' projections says of the two tables, and what the mask says of a row.
-/
module

public import proofs.«01_k».proof.Proof.GmmTab
public import proofs.«01_k».proof.Proof.Gen.Pre_tiles_in_range
public import proofs.«01_k».proof.Proof.Gen.On_rows_in_use
public import Idealize.ShloMosaic.Lib.Pointwise

@[expose] public section

noncomputable section

namespace Cert.Proof.Gmm

open Idealize.ShloMosaic

variable {F : FTy → Type} [FloatOps F] {te : IVec ⟨1, ![80]⟩ 32} {nt : IVec ⟨1, ![1]⟩ 32} {xa xb : IVec ⟨2, ![40960, 256]⟩ 32}
  {w1 w3 : FVec F ⟨3, ![16, 1024, 512]⟩ .f32} {w2 : FVec F ⟨3, ![16, 512, 1024]⟩ .f32}

theorem tables_in_range (h : Pre_tiles_in_range.fn (F := F) te nt xa xb w1 w3 w2 = fun _ => 1#1) :
    (∀ j, (te j).toNat < 16) ∧ 1 ≤ (nt (ix1 0)).toNat ∧ (nt (ix1 0)).toNat ≤ 80 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v n : BitVec 32, IntOp.andi (IntOp.andi (IntOp.andi (IntOp.cmpi .sge v 0#32) (IntOp.cmpi .slt v 16#32)) (IntOp.cmpi .sge n 1#32)) (IntOp.cmpi .sle n 80#32) = 1#1 →
      v.toNat < 16 ∧ 1 ≤ n.toNat ∧ n.toNat ≤ 80 := by
    intro v n e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have all : ∀ j, (te j).toNat < 16 ∧ 1 ≤ (nt (ix1 0)).toNat ∧ (nt (ix1 0)).toNat ≤ 80 := fun j => by
    have e := congrFun h j
    pointwise [Pre_tiles_in_range.fn] at e
    exact key _ _ e
  exact ⟨fun j => (all j).1, (all (ix1 0)).2⟩

theorem row_in_use (hn : (nt (ix1 0)).toNat ≤ 80) (i : (⟨2, ![40960, 512]⟩ : Shape).Idx)
    (h : (On_rows_in_use.fn (F := F) te nt xa xb w1 w3 w2).1 i = 1#1) : (i 0).val / 512 < (nt (ix1 0)).toNat := by
  have ofBool_eq_one (p : Bool) : (BitVec.ofBool p = 1#1) ↔ p = true := by cases p <;> decide
  have key : ∀ (n : BitVec 32) (r : ℕ), n.toNat ≤ 80 → r < 40960 → IntOp.cmpi .slt (BitVec.ofNat 32 r) (IntOp.muli n 512#32) = 1#1 → r / 512 < n.toNat := by
    intro n r hn hr e
    have hm : (n * 512#32).toNat = n.toNat * 512 := by
      rw [BitVec.toNat_mul, show (512#32 : BitVec 32).toNat = 512 from rfl]; omega
    simp only [IntOp.cmpi, IntOp.muli, ofBool_eq_one, BitVec.slt_eq_decide, decide_eq_true_eq, BitVec.toInt_eq_toNat_cond, hm, BitVec.toNat_ofNat,
      Nat.reducePow] at e
    omega
  have hr : (i 0).val < 40960 := (i 0).isLt
  refine key _ _ hn hr ?_
  pointwise [On_rows_in_use.fn] at h
  exact h

end Cert.Proof.Gmm

end
-- ==== Proof.CombVal.lean ====
/-
  The last sum: what a tile's body leaves, entry by entry, and what the two launches leave of the whole array.
-/
module

public import proofs.«01_k».proof.Proof.GmmVal
public import proofs.«01_k».proof.Proof.Gen.Kernel3Ideal.Frame
public import Idealize.ShloMosaic.Lib.Pipeline.ValueKit

@[expose] public section

set_option maxRecDepth 16384

noncomputable section

namespace Cert.Proof.Comb

open Cert.Proof.Gmm
open Cert.Kernel3Ideal Cert.Kernel3Ideal.Gen
open Idealize.ShloMosaic Idealize.ShloMosaic.TcCoe Idealize.SL.Sem

/-- One entry: the residual and the two experts' entries, each times its share. -/
def mixed (x : EReal) (route : Fin 128 → EReal) (a b a' b' : Fin 256 → BitVec 32) (k : Fin 1024) : EReal :=
  x + (route 2 * rowOf a b k + route 3 * rowOf a' b' k)

/-- A half of the array: its rows, the second choices' rows sixteen thousand rows below the first's. -/
def half (x : FVec Ideal ⟨2, ![16384, 1024]⟩ .f32) (ya yb : IVec ⟨2, ![32768, 256]⟩ 32) (route : FVec Ideal ⟨2, ![16384, 128]⟩ .f32) (i : Fin 16384) (k : Fin 1024) : EReal :=
  mixed (x (ix2 i k)) (fun q => route (ix2 i q)) (fun j => ya (ix2 ⟨i.val, by omega⟩ j)) (fun j => yb (ix2 ⟨i.val, by omega⟩ j))
    (fun j => ya (ix2 ⟨i.val + 16384, by omega⟩ j)) (fun j => yb (ix2 ⟨i.val + 16384, by omega⟩ j)) k

/-- The two halves, one below the other. -/
def both (f g : Fin 16384 → Fin 1024 → EReal) (i : (⟨2, ![32768, 1024]⟩ : Shape).Idx) : EReal :=
  if h : (i 0).val < 16384 then f ⟨(i 0).val, h⟩ (i 1) else g ⟨(i 0).val - 16384, by have h2 : (i 0).val < 32768 := (i 0).isLt; omega⟩ (i 1)

theorem both_top (f g : Fin 16384 → Fin 1024 → EReal) (i : Fin 32768) (k : Fin 1024) (h : i.val < 16384) : both f g (ix2 i k) = f ⟨i.val, h⟩ k := dif_pos h
theorem both_low (f g : Fin 16384 → Fin 1024 → EReal) (i : Fin 32768) (k : Fin 1024) (h : ¬ i.val < 16384) : both f g (ix2 i k) = g ⟨i.val - 16384, by omega⟩ k := dif_neg h

theorem pair_at (v0 : Vec Ideal S512x128 .f32) (a b a' b' : Vec Ideal S512x256 .i32) (r : Fin 512) (k : Fin 1024) :
    k0_pay2 (F := Ideal) v0 a b a' b' (ix2 r k)
      = v0 (ix2 r 2) * rowOf (fun j => a (ix2 r j)) (fun j => b (ix2 r j)) k + v0 (ix2 r 3) * rowOf (fun j => a' (ix2 r j)) (fun j => b' (ix2 r j)) k := by
  unfold rowOf
  pointwise [k0_pay2]
  rfl

theorem tile_at (x : Vec Ideal S512x1024 .f32) (a b a' b' : Vec Ideal S512x256 .i32) (v0 : Vec Ideal S512x128 .f32) (r : Fin 512) (k : Fin 1024) :
    k0_pay1 (F := Ideal) x (k0_pay2 v0 a b a' b') (ix2 r k)
      = mixed (x (ix2 r k)) (fun q => v0 (ix2 r q)) (fun j => a (ix2 r j)) (fun j => b (ix2 r j)) (fun j => a' (ix2 r j)) (fun j => b' (ix2 r j)) k := by
  unfold mixed
  rw [← pair_at]
  rfl

/-- A launch's tile, the same formula in both. -/
theorem out0_eq (x : Vec Ideal S512x1024 .f32) (a b a' b' : Vec Ideal S512x256 .i32) (v0 : Vec Ideal S512x128 .f32) :
    out0_6 (F := Ideal) x a b a' b' v0 = k0_pay1 x (k0_pay2 v0 a b a' b') := by
  frame_out

variable (V : (c : Dev nD) → (b : Ref sig .tc) → Buf (Elt Ideal) ((c : Thread nD τ).loc b)) (c : Dev nD)

theorem outs_eq (t : Fin cfg1.N) :
    outsAt1 (F := Ideal) V c t = k0_pay1 (iblk1 V c 0 t) (k0_pay2 (iblk1 V c 5 t) (iblk1 V c 1 t) (iblk1 V c 2 t) (iblk1 V c 3 t) (iblk1 V c 4 t)) := by
  unfold outsAt1
  frame_out
  rfl

theorem coord (t : Fin grid0.N) : (grid0.coords t 0).val = t.val := by
  revert t; decide +kernel

/-- Where a tile starts: at its point's place, or thirty-two tiles further. -/
theorem first_ix (t : Fin grid0.N) : cc0_transform_0 (grid0.coords t) = ![t.val, 0] ∧ cc0_transform_3 (grid0.coords t) = ![t.val + 32, 0] ∧ cc0_transform_6 (grid0.coords t) = ![t.val, 0]
    ∧ cc1_transform_7 (grid0.coords t) = ![t.val + 32, 0] := by
  revert t; decide +kernel

/-- An entry named by its coordinates. -/
theorem ix_key {M N : ℕ} (e : (⟨2, ![M, N]⟩ : Shape).Idx) (i : Fin M) (j : Fin N) (o : Fin 2 → ℕ) (p : ℕ) (ho : o = ![p, 0]) (r : Fin 512) (hi : i.val = p * 512 + r.val)
    (h : ∀ a : Fin 2, (e a).val = o a * (![512, N] : Fin 2 → ℕ) a + 1 * (ix2 r j a).val) : e = ix2 i j := by
  subst ho
  have h0 : (e 0).val = p * 512 + 1 * r.val := h 0
  have h1 : (e 1).val = 0 * N + 1 * j.val := h 1
  funext a
  fin_cases a
  · exact Fin.ext (show (e 0).val = i.val by omega)
  · exact Fin.ext (show (e 1).val = j.val by omega)

section first

variable (t : Fin grid0.N) (r : Fin 512) (i : Fin 16384) (hi : i.val = t.val * 512 + r.val)

include hi

/-- The blocks a point of the first launch reads. -/
theorem read0_x (k : Fin 1024) : iblk0 V c 0 t (ix2 r k) = V c main_arg0 (ix2 i k) :=
  congrArg (V c main_arg0) (ix_key (((cfg0.win 0).blk t).view.emb (ix2 r k)) i k _ t.val (first_ix t).1 r hi fun a => by fin_cases a <;> rfl)
theorem read0_a (j : Fin 256) : iblk0 V c 1 t (ix2 r j) = V c main_arg1 (ix2 ⟨i.val, by omega⟩ j) :=
  congrArg (V c main_arg1) (ix_key (((cfg0.win 1).blk t).view.emb (ix2 r j)) ⟨i.val, by omega⟩ j _ t.val (first_ix t).1 r hi fun a => by fin_cases a <;> rfl)
theorem read0_b (j : Fin 256) : iblk0 V c 2 t (ix2 r j) = V c main_arg2 (ix2 ⟨i.val, by omega⟩ j) :=
  congrArg (V c main_arg2) (ix_key (((cfg0.win 2).blk t).view.emb (ix2 r j)) ⟨i.val, by omega⟩ j _ t.val (first_ix t).1 r hi fun a => by fin_cases a <;> rfl)
theorem read0_a' (j : Fin 256) : iblk0 V c 3 t (ix2 r j) = V c main_arg1 (ix2 ⟨i.val + 16384, by omega⟩ j) :=
  congrArg (V c main_arg1) (ix_key (((cfg0.win 3).blk t).view.emb (ix2 r j)) ⟨i.val + 16384, by omega⟩ j _ (t.val + 32) (first_ix t).2.1 r (by show i.val + 16384 = _; omega) fun a => by fin_cases a <;> rfl)
theorem read0_b' (j : Fin 256) : iblk0 V c 4 t (ix2 r j) = V c main_arg2 (ix2 ⟨i.val + 16384, by omega⟩ j) :=
  congrArg (V c main_arg2) (ix_key (((cfg0.win 4).blk t).view.emb (ix2 r j)) ⟨i.val + 16384, by omega⟩ j _ (t.val + 32) (first_ix t).2.1 r (by show i.val + 16384 = _; omega) fun a => by fin_cases a <;> rfl)
theorem read0_r (q : Fin 128) : iblk0 V c 5 t (ix2 r q) = V c main_arg3 (ix2 i q) :=
  congrArg (V c main_arg3) (ix_key (((cfg0.win 5).blk t).view.emb (ix2 r q)) i q _ t.val (first_ix t).1 r hi fun a => by fin_cases a <;> rfl)

/-- And of the second. -/
theorem read1_x (k : Fin 1024) : iblk1 V c 0 t (ix2 r k) = V c main_arg4 (ix2 i k) :=
  congrArg (V c main_arg4) (ix_key (((cfg1.win 0).blk t).view.emb (ix2 r k)) i k _ t.val (first_ix t).1 r hi fun a => by fin_cases a <;> rfl)
theorem read1_a (j : Fin 256) : iblk1 V c 1 t (ix2 r j) = V c main_arg5 (ix2 ⟨i.val, by omega⟩ j) :=
  congrArg (V c main_arg5) (ix_key (((cfg1.win 1).blk t).view.emb (ix2 r j)) ⟨i.val, by omega⟩ j _ t.val (first_ix t).1 r hi fun a => by fin_cases a <;> rfl)
theorem read1_b (j : Fin 256) : iblk1 V c 2 t (ix2 r j) = V c main_arg6 (ix2 ⟨i.val, by omega⟩ j) :=
  congrArg (V c main_arg6) (ix_key (((cfg1.win 2).blk t).view.emb (ix2 r j)) ⟨i.val, by omega⟩ j _ t.val (first_ix t).1 r hi fun a => by fin_cases a <;> rfl)
theorem read1_a' (j : Fin 256) : iblk1 V c 3 t (ix2 r j) = V c main_arg5 (ix2 ⟨i.val + 16384, by omega⟩ j) :=
  congrArg (V c main_arg5) (ix_key (((cfg1.win 3).blk t).view.emb (ix2 r j)) ⟨i.val + 16384, by omega⟩ j _ (t.val + 32) (first_ix t).2.1 r (by show i.val + 16384 = _; omega) fun a => by fin_cases a <;> rfl)
theorem read1_b' (j : Fin 256) : iblk1 V c 4 t (ix2 r j) = V c main_arg6 (ix2 ⟨i.val + 16384, by omega⟩ j) :=
  congrArg (V c main_arg6) (ix_key (((cfg1.win 4).blk t).view.emb (ix2 r j)) ⟨i.val + 16384, by omega⟩ j _ (t.val + 32) (first_ix t).2.1 r (by show i.val + 16384 = _; omega) fun a => by fin_cases a <;> rfl)
theorem read1_r (q : Fin 128) : iblk1 V c 5 t (ix2 r q) = V c main_arg7 (ix2 i q) :=
  congrArg (V c main_arg7) (ix_key (((cfg1.win 5).blk t).view.emb (ix2 r q)) i q _ t.val (first_ix t).1 r hi fun a => by fin_cases a <;> rfl)

theorem tile0_at (k : Fin 1024) :
    out0_6 (F := Ideal) (iblk0 V c 0 t) (iblk0 V c 1 t) (iblk0 V c 2 t) (iblk0 V c 3 t) (iblk0 V c 4 t) (iblk0 V c 5 t) (ix2 r k)
      = half (V c main_arg0) (V c main_arg1) (V c main_arg2) (V c main_arg3) i k := by
  rw [out0_eq]
  refine (tile_at _ _ _ _ _ _ r k).trans ?_
  unfold half
  simp only [read0_x V c t r i hi, read0_a V c t r i hi, read0_b V c t r i hi, read0_a' V c t r i hi, read0_b' V c t r i hi, read0_r V c t r i hi]

theorem tile1_at (k : Fin 1024) :
    outsAt1 (F := Ideal) V c t (ix2 r k) = half (V c main_arg4) (V c main_arg5) (V c main_arg6) (V c main_arg7) i k := by
  rw [outs_eq]
  refine (tile_at _ _ _ _ _ _ r k).trans ?_
  unfold half
  simp only [read1_x V c t r i hi, read1_a V c t r i hi, read1_b V c t r i hi, read1_a' V c t r i hi, read1_b' V c t r i hi, read1_r V c t r i hi]

end first

/-- The array the run ends with, from the arguments as launched. -/
def whole (V : (c : Dev nD) → (b : Ref sig .tc) → Buf (Elt Ideal) ((c : Thread nD τ).loc b)) (c : Dev nD) : S32768x1024.Idx → EReal :=
  both (half (V c main_arg0) (V c main_arg1) (V c main_arg2) (V c main_arg3)) (half (V c main_arg4) (V c main_arg5) (V c main_arg6) (V c main_arg7))

theorem N_eq : grid0.N = 32 := rfl

theorem flushed0 (t : Fin cfg0.N) : (dat0 V c).flushed 6 t = ((cfg0.win 6).blk t).view.read (Elt Ideal) (whole V c) := by
  have key : ∀ (j : S512x1024.Idx) (i : S32768x1024.Idx), (∀ a : Fin 2, (i a).val = cc0_transform_6 (grid0.coords t) a * S512x1024.size a + 1 * (j a).val) →
      (dat0 V c).after 6 t j = whole V c i := fun j i h => by
    obtain ⟨r, k, rfl⟩ : ∃ (r : Fin 512) (k : Fin 1024), j = ix2 r k := ⟨j 0, j 1, eq_ix2 j⟩
    have ht : t.val < 32 := t.isLt
    have hr : t.val * 512 + r.val < 16384 := by omega
    obtain rfl := ix_key i ⟨t.val * 512 + r.val, by omega⟩ k _ t.val (first_ix t).2.2.1 r rfl h
    rw [after0_6]
    refine (tile0_at V c t r ⟨t.val * 512 + r.val, hr⟩ rfl k).trans ?_
    exact (both_top _ _ ⟨t.val * 512 + r.val, by omega⟩ k hr).symm
  funext j
  exact key j (((cfg0.win 6).blk t).view.emb j) fun a => by fin_cases a <;> rfl

theorem flushed1 (t : Fin cfg1.N) : (dat1 V c).flushed 6 t = ((cfg1.win 6).blk t).view.read (Elt Ideal) (whole V c) := by
  have key : ∀ (j : S512x1024.Idx) (i : S32768x1024.Idx), (∀ a : Fin 2, (i a).val = cc1_transform_7 (grid0.coords t) a * S512x1024.size a + 1 * (j a).val) →
      (dat1 V c).after 6 t j = whole V c i := fun j i h => by
    obtain ⟨r, k, rfl⟩ : ∃ (r : Fin 512) (k : Fin 1024), j = ix2 r k := ⟨j 0, j 1, eq_ix2 j⟩
    have ht : t.val < 32 := t.isLt
    have hr : ¬ (t.val + 32) * 512 + r.val < 16384 := by omega
    obtain rfl := ix_key i ⟨(t.val + 32) * 512 + r.val, by omega⟩ k _ (t.val + 32) (first_ix t).2.2.2 r rfl h
    rw [after1_6]
    refine (tile1_at V c t r ⟨(t.val + 32) * 512 + r.val - 16384, by omega⟩ (by show (t.val + 32) * 512 + r.val - 16384 = _; omega) k).trans ?_
    exact (both_low _ _ ⟨(t.val + 32) * 512 + r.val, by omega⟩ k hr).symm
  funext j
  exact key j (((cfg1.win 6).blk t).view.emb j) fun a => by fin_cases a <;> rfl

/-- The first launch leaves the first half. -/
theorem final0 (i : S32768x1024.Idx) (hi : (i 0).val < 16384) : (dat0 V c).arrAt 6 cfg0.N i = whole V c i := by
  obtain ⟨t, ht⟩ : ∃ t : Fin grid0.N, t.val = (i 0).val / 512 := ⟨⟨(i 0).val / 512, by rw [N_eq]; omega⟩, rfl⟩
  refine (dat0 V c).arrAt_apply_of_mem 6 (whole V c) (fun t _ => flushed0 V c t) cfg0.N t i t.isLt (flush0_6 t) ?_
  show i ∈ ((View.whole main_v0).slice ((cfg0.win 6).rect t)).set
  erw [View.set_slice_whole]
  refine (Pipeline.Window.mem_rect_iff (cfg0.win 6) t i (by rfl)).mpr fun a => ?_
  show cc0_transform_6 (grid0.coords t) a * S512x1024.size a ≤ (i a).val ∧ (i a).val < cc0_transform_6 (grid0.coords t) a * S512x1024.size a + S512x1024.size a
  rw [(first_ix t).2.2.1, ht]
  have h1 : (i 1).val < 1024 := (i 1).isLt
  fin_cases a
  · show (i 0).val / 512 * 512 ≤ (i 0).val ∧ (i 0).val < (i 0).val / 512 * 512 + 512
    omega
  · show 0 * 1024 ≤ (i 1).val ∧ (i 1).val < 0 * 1024 + 1024
    omega

/-- The second launch leaves the second half, and the first half as it found it. -/
theorem final1 (i : S32768x1024.Idx) (hi : ¬ (i 0).val < 16384) : (dat1 V c).arrAt 6 cfg1.N i = whole V c i := by
  have h0 : (i 0).val < 32768 := (i 0).isLt
  obtain ⟨t, ht⟩ : ∃ t : Fin grid0.N, t.val = (i 0).val / 512 - 32 := ⟨⟨(i 0).val / 512 - 32, by rw [N_eq]; omega⟩, rfl⟩
  refine (dat1 V c).arrAt_apply_of_mem 6 (whole V c) (fun t _ => flushed1 V c t) cfg1.N t i t.isLt (flush1_6 t) ?_
  show i ∈ ((View.whole main_v1).slice ((cfg1.win 6).rect t)).set
  erw [View.set_slice_whole]
  refine (Pipeline.Window.mem_rect_iff (cfg1.win 6) t i (by rfl)).mpr fun a => ?_
  show cc1_transform_7 (grid0.coords t) a * S512x1024.size a ≤ (i a).val ∧ (i a).val < cc1_transform_7 (grid0.coords t) a * S512x1024.size a + S512x1024.size a
  rw [(first_ix t).2.2.2, ht]
  have h1 : (i 1).val < 1024 := (i 1).isLt
  fin_cases a
  · show ((i 0).val / 512 - 32 + 32) * 512 ≤ (i 0).val ∧ (i 0).val < ((i 0).val / 512 - 32 + 32) * 512 + 512
    omega
  · show 0 * 1024 ≤ (i 1).val ∧ (i 1).val < 0 * 1024 + 1024
    omega

theorem kept1 (i : S32768x1024.Idx) (hi : (i 0).val < 16384) : (dat1 V c).arrAt 6 cfg1.N i = V c main_v1 i := by
  refine ((dat1 V c).arrAt_apply_of_forall_not_mem 6 cfg1.N i fun t _ _ => ?_).trans (congrFun (A_eq1 V c 6) i)
  show i ∉ ((View.whole main_v1).slice ((cfg1.win 6).rect t)).set
  erw [View.set_slice_whole]
  refine fun h => ?_
  have h := ((Pipeline.Window.mem_rect_iff (cfg1.win 6) t i (by rfl)).mp h 0).1
  have e : cc1_transform_7 (grid0.coords t) 0 * 512 ≤ (i 0).val := h
  rw [(first_ix t).2.2.2] at e
  have e : (t.val + 32) * 512 ≤ (i 0).val := e
  omega

end Cert.Proof.Comb

end
-- ==== Proof.CombRun.lean ====
/-
  The last sum's run: the first launch's half, copied into the second's array, and the second's half beside it.
-/
module

public import proofs.«01_k».proof.Proof.CombVal

@[expose] public section

set_option maxRecDepth 16384

noncomputable section

namespace Cert.Proof.Comb

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The array from the arguments as launched. -/
abbrev result (c : Dev nD) : S32768x1024.Idx → EReal := whole (V0 m ρ) c

/-- What the second launch finds in its own array is what the first one left in its. -/
theorem carried (c : Dev nD) : V2 m ρ c main_v1 = V1 m ρ c main_v0 := by
  show StableHlo.after hostOps1 (W1 m ρ c) (Proc.devRef .tc main_v1) = _
  after_results_simp
  rfl

theorem whole_entry (c : Dev nD) : whole (V2 m ρ) c = whole (V0 m ρ) c := by
  have e : ∀ a ∈ argRefs, V2 m ρ c a = V0 m ρ c a := fun a ha => W2_args m ρ c a ha
  unfold whole
  rw [e main_arg0 (by decide), e main_arg1 (by decide), e main_arg2 (by decide), e main_arg3 (by decide),
    e main_arg4 (by decide), e main_arg5 (by decide), e main_arg6 (by decide), e main_arg7 (by decide)]

theorem final (c : Dev nD) : W3 m ρ c (Proc.devRef .tc main_v1) = result m ρ c := by
  refine (W3_arr m ρ c 6).trans (funext fun i => ?_)
  by_cases hi : (i 0).val < 16384
  · rw [kept1 _ c i hi, carried]
    exact (congrFun (W1_arr m ρ c 6) i).trans (final0 _ c i hi)
  · rw [final1 _ c i hi, whole_entry]

set_option backward.isDefEq.respectTransparency.types false in
/-- The run, its result array named. -/
theorem run : θ_run defs (onTc (τ := τ) (main (F := Ideal))) ⟨m, fun _ => 0, ρ⟩ (fun r => (∀ c : Dev nD,
      r.2.mem ((c.tc : Thread nD τ).loc main_v1) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_v1 (by decide))).trans (final m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩), funext fun g => hz g (.inr (no_unscoped g.2))⟩)

end Cert.Proof.Comb

end
-- ==== Proof.CombRef.lean ====
/-
  The reference of the last sum, entry by entry: the run's formula.
-/
module

public import proofs.«01_k».proof.Proof.CombRun
public import proofs.«01_k».proof.Proof.Gen.Reference3Ideal.Run

@[expose] public section

set_option maxRecDepth 16384

noncomputable section

namespace Cert.Proof.Comb

open Cert.Proof.Gmm
open Cert.Reference3Ideal Cert.Reference3Ideal.Gen Cert.Reference3Ideal.Value
open Idealize.ShloMosaic Idealize.ShloMosaic.TcCoe

/-- The experts' rows, unpacked, in their order. -/
def rows (a b : IVec S32768x256 32) : FVec Ideal S2x16384x1024 .f32 :=
  shapeCast S2x16384x1024 (concatenate S32768x1024 1
    [⟨S32768x256, bitcastToFloat (F := Ideal) .f32 (andi a (broadcastInDim S32768x256 ![] bcast_S_S32768x256 (constantI S_ 32 4294901760#32)))⟩,
     ⟨S32768x256, bitcastToFloat (F := Ideal) .f32 (andi b (broadcastInDim S32768x256 ![] bcast_S_S32768x256 (constantI S_ 32 4294901760#32)))⟩,
     ⟨S32768x256, bitcastToFloat (F := Ideal) .f32 (Host.shli a (broadcastInDim S32768x256 ![] bcast_S_S32768x256 (constantI S_ 32 16#32)))⟩,
     ⟨S32768x256, bitcastToFloat (F := Ideal) .f32 (Host.shli b (broadcastInDim S32768x256 ![] bcast_S_S32768x256 (constantI S_ 32 16#32)))⟩]
    concatenates_S32768x256_S32768x256_S32768x256_S32768x256_S32768x1024_d1) shapeCasts_S32768x1024_S2x16384x1024

theorem rows_at (a b : IVec S32768x256 32) (s : Fin 2) (i : Fin 16384) (k : Fin 1024) :
    rows a b (ix3 s i k) = rowOf (fun j => a (ix2 ⟨s.val * 16384 + i.val, by omega⟩ j)) (fun j => b (ix2 ⟨s.val * 16384 + i.val, by omega⟩ j)) k := by
  pointwise [rows]
  rfl

/-- A half of the array. -/
def part (x : FVec Ideal S16384x1024 .f32) (y : FVec Ideal S2x16384x1024 .f32) (route : FVec Ideal S16384x128 .f32) : FVec Ideal S16384x1024 .f32 :=
  addf x (addf
    (mulf (broadcastInDim S16384x1024 ![0, 1] bcast_S16384x1_S16384x1024_0_1 (extractStridedSlice S16384x1 ![0, 0] (extractStridedSlice S16384x2 ![0, 2] route slices_S16384x128_S16384x2_0_2) slices_S16384x2_S16384x1_0_0))
      (shapeCast _ (extractStridedSlice S1x16384x1024 ![0, 0, 0] y slices_S2x16384x1024_S1x16384x1024_0_0_0) shapeCasts_S1x16384x1024_S16384x1024))
    (mulf (broadcastInDim S16384x1024 ![0, 1] bcast_S16384x1_S16384x1024_0_1 (extractStridedSlice S16384x1 ![0, 1] (extractStridedSlice S16384x2 ![0, 2] route slices_S16384x128_S16384x2_0_2) slices_S16384x2_S16384x1_0_1))
      (shapeCast _ (extractStridedSlice S1x16384x1024 ![1, 0, 0] y slices_S2x16384x1024_S1x16384x1024_1_0_0) shapeCasts_S1x16384x1024_S16384x1024)))

theorem part_at (x : FVec Ideal S16384x1024 .f32) (a b : IVec S32768x256 32) (route : FVec Ideal S16384x128 .f32) (i : Fin 16384) (k : Fin 1024) :
    part x (rows a b) route (ix2 i k) = half x a b route i k := by
  have e0 : (⟨(0 : Fin 2).val * 16384 + i.val, by omega⟩ : Fin 32768) = ⟨i.val, by omega⟩ := Fin.ext (by show 0 * 16384 + i.val = i.val; omega)
  have e1 : (⟨(1 : Fin 2).val * 16384 + i.val, by show 1 * 16384 + i.val < _; omega⟩ : Fin 32768) = ⟨i.val + 16384, by omega⟩ := Fin.ext (by show 1 * 16384 + i.val = i.val + 16384; omega)
  have r0 := rows_at a b 0 i k
  have r1 := rows_at a b 1 i k
  rw [e0] at r0
  rw [e1] at r1
  unfold half mixed
  rw [← r0, ← r1]
  generalize rows a b = y
  pointwise [part]

section
variable (m : (ℓ : Loc nD τ sig) → Buf (Elt Ideal) ℓ) (c : Dev nD)

/-- The reference's result, its halves named. -/
theorem res_eq : res_out0 m c = concatenate S32768x1024 0
    [⟨S16384x1024, part (m ((c : Thread nD τ).loc main_arg0)) (rows (m ((c : Thread nD τ).loc main_arg1)) (m ((c : Thread nD τ).loc main_arg2))) (m ((c : Thread nD τ).loc main_arg3))⟩,
     ⟨S16384x1024, part (m ((c : Thread nD τ).loc main_arg4)) (rows (m ((c : Thread nD τ).loc main_arg5)) (m ((c : Thread nD τ).loc main_arg6))) (m ((c : Thread nD τ).loc main_arg7))⟩]
    concatenates_S16384x1024_S16384x1024_S32768x1024_d0 := rfl

theorem halves_at (p q : FVec Ideal S16384x1024 .f32) (h) (i : Fin 32768) (k : Fin 1024) :
    concatenate S32768x1024 0 [⟨S16384x1024, p⟩, ⟨S16384x1024, q⟩] h (ix2 i k) = both (fun i k => p (ix2 i k)) (fun i k => q (ix2 i k)) (ix2 i k) := by
  by_cases hi : i.val < 16384
  · rw [both_top _ _ i k hi]
    pointwise
    rw [dif_pos hi]
  · rw [both_low _ _ i k hi]
    pointwise
    rw [dif_neg hi]

theorem res_at : res_out0 m c = both (half (m ((c : Thread nD τ).loc main_arg0)) (m ((c : Thread nD τ).loc main_arg1)) (m ((c : Thread nD τ).loc main_arg2)) (m ((c : Thread nD τ).loc main_arg3)))
    (half (m ((c : Thread nD τ).loc main_arg4)) (m ((c : Thread nD τ).loc main_arg5)) (m ((c : Thread nD τ).loc main_arg6)) (m ((c : Thread nD τ).loc main_arg7))) := by
  rw [res_eq]
  funext i
  obtain ⟨r, k, rfl⟩ : ∃ (r : Fin 32768) (k : Fin 1024), i = ix2 r k := ⟨i 0, i 1, eq_ix2 i⟩
  rw [halves_at]
  exact congrFun (congr (congrArg both (funext fun i => funext fun k => part_at _ _ _ _ i k)) (funext fun i => funext fun k => part_at _ _ _ _ i k)) _

end

end Cert.Proof.Comb

end
-- ==== Proof.Comb.lean ====
/-
  The last sum: the four statements about it.
-/
module

public import proofs.«01_k».proof.Defs
public import proofs.«01_k».proof.Proof.CombRef
public import proofs.«01_k».proof.Proof.Gen.Kernel3
public import proofs.«01_k».proof.Proof.Gen.Kernel3.Skeleton

@[expose] public section

noncomputable section

namespace Cert.Proof

open Idealize.ShloMosaic Idealize.SL.Sem

/-- The printed program is the ideal one's text, so its runs are that one's, read over the bits. -/
theorem same_text_combine : Cert.quiescent_Kernel3 = ∀ (m : (ℓ : Loc Cert.Kernel3Ideal.nD Cert.Kernel3Ideal.τ Cert.Kernel3Ideal.sig) → Buf (Elt Bits) ℓ) (ρ : Dev Cert.Kernel3Ideal.nD → PrngReg), True →
    θ_run (Cert.Kernel3Ideal.defs (F := Bits)) (onTc (τ := Cert.Kernel3Ideal.τ) (Cert.Kernel3Ideal.main (F := Bits))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0) := by
  sl_kernel_rfl

theorem frame_combine : Cert.quiescent_Kernel3 := same_text_combine ▸ fun m ρ _ => Cert.Kernel3Ideal.Gen.frame (F := Bits) m ρ

theorem frame_combine_ideal : Cert.quiescent_Kernel3Ideal := fun m ρ _ => Cert.Kernel3Ideal.Gen.frame m ρ

theorem frame_combine_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic_combine : Cert.algebraic_Kernel3Ideal_Reference3Ideal := by
  intro m ρ m' ρ' _ hagree
  refine ⟨fun c => Comb.result m ρ c, (θ_run Cert.Kernel3Ideal.defs _ _).mono (fun r h => h.1) (Comb.run m ρ), ?_⟩
  refine (θ_run Cert.Reference3Ideal.defs _ _).mono (fun r h c => ⟨(h c).1.trans ?_, (h c).2⟩) (Cert.Reference3Ideal.Value.run (F := Ideal) m' ρ')
  obtain ⟨h0, h1, h2, h3, h4, h5, h6, h7⟩ := hagree c
  refine (Comb.res_at m' c).trans ?_
  rw [h0, h1, h2, h3, h4, h5, h6, h7]
  rfl

end Cert.Proof

end
-- ==== Proof.InForm.lean ====
/-
  The input projection as a formula: its seven results, entry by entry, over the extended reals.
-/
module

public import proofs.«01_k».proof.Proof.GmmVal

@[expose] public section

noncomputable section

namespace Cert.Proof.Inp

open Cert.Proof.Gmm
open Idealize.ShloMosaic

/-- A row divided by the root of the mean of its squares, then weighed. -/
def norm (x w : Fin 1024 → EReal) (k : Fin 1024) : EReal :=
  x k * Ideal.rsqrt (Ideal.div (∑ j, x j * x j) (Ideal.ofBits .f32 1149239296#32) + Ideal.ofBits .f32 897988541#32) * w k

/-- The logistic function. -/
def logistic (h : EReal) : EReal := Ideal.div 1 (1 + Ideal.exp (-h))

variable (x : FVec Ideal ⟨3, ![8, 4096, 1024]⟩ .f32) (nw : FVec Ideal ⟨2, ![1, 1024]⟩ .f32) (w : FVec Ideal ⟨3, ![1, 1024, 4112]⟩ .f32)
  (bg : FVec Ideal ⟨2, ![1, 2048]⟩ .f32) (cw : FVec Ideal ⟨3, ![1, 7, 768]⟩ .f32) (cb : FVec Ideal ⟨2, ![1, 768]⟩ .f32)

/-- A token's row, the tokens of all sequences in one line. -/
def tokenRow (i : Fin 32768) (k : Fin 1024) : EReal := x (ix3 ⟨i.val / 4096, by omega⟩ ⟨i.val % 4096, by omega⟩ k)

/-- A token's row, normed, times a column of the weights. -/
def proj (i : Fin 32768) (j : Fin 4112) : EReal :=
  dotRow (norm (tokenRow x i) (fun k => nw (ix2 0 k))) (fun k j => w (ix3 0 k j)) j

/-- The token at distance `t - 3` in the same sequence, nothing beyond its ends. -/
def near (i : Fin 32768) (t : ℕ) (ch : Fin 768) : EReal :=
  if h : 3 ≤ i.val % 4096 + t ∧ i.val % 4096 + t < 4099 then proj x nw w ⟨i.val + t - 3, by omega⟩ ⟨1280 + ch.val, by omega⟩ else 0

/-- The seven taps and the bias. -/
def conv (i : Fin 32768) (ch : Fin 768) : EReal :=
  cb (ix2 0 ch) + near x nw w i 0 ch * cw (ix3 0 0 ch) + near x nw w i 1 ch * cw (ix3 0 1 ch) + near x nw w i 2 ch * cw (ix3 0 2 ch)
    + near x nw w i 3 ch * cw (ix3 0 3 ch) + near x nw w i 4 ch * cw (ix3 0 4 ch) + near x nw w i 5 ch * cw (ix3 0 5 ch) + near x nw w i 6 ch * cw (ix3 0 6 ch)

/-- The seven results. -/
def fQ (j : (⟨2, ![32768, 512]⟩ : Shape).Idx) : EReal := proj x nw w (j 0) ⟨(j 1).val, (j 1).isLt.trans (by decide)⟩
def fK (j : (⟨3, ![2, 32768, 64]⟩ : Shape).Idx) : EReal := proj x nw w (j 1) ⟨512 + ((j 0).val * 64 + (j 2).val), by have h : (j 0).val < 2 := (j 0).isLt; have h' : (j 2).val < 64 := (j 2).isLt; omega⟩
def fV (j : (⟨3, ![2, 32768, 64]⟩ : Shape).Idx) : EReal := proj x nw w (j 1) ⟨640 + ((j 0).val * 64 + (j 2).val), by have h : (j 0).val < 2 := (j 0).isLt; have h' : (j 2).val < 64 := (j 2).isLt; omega⟩
def fZ (j : (⟨2, ![32768, 512]⟩ : Shape).Idx) : EReal := proj x nw w (j 0) ⟨768 + (j 1).val, by have h : (j 1).val < 512 := (j 1).isLt; omega⟩
def fX (j : (⟨2, ![32768, 768]⟩ : Shape).Idx) : EReal := gate (conv x nw w cw cb (j 0) (j 1))
def fD (j : (⟨2, ![32768, 128]⟩ : Shape).Idx) : EReal := if h : (j 1).val < 16 then proj x nw w (j 0) ⟨2048 + (j 1).val, by omega⟩ else 0
def fG (j : (⟨2, ![32768, 2048]⟩ : Shape).Idx) : EReal := logistic (proj x nw w (j 0) ⟨2064 + (j 1).val, by have h : (j 1).val < 2048 := (j 1).isLt; omega⟩ + bg (ix2 0 (j 1)))

end Cert.Proof.Inp

end
-- ==== Proof.InRef.lean ====
/-
  The input projection's reference, entry by entry: the run's formula.
-/
module

public import proofs.«01_k».proof.Proof.InForm
public import proofs.«01_k».proof.Proof.Gen.Reference4Ideal
public import proofs.«01_k».proof.Proof.Gen.Reference4Ideal.Run

@[expose] public section

set_option maxRecDepth 16384

noncomputable section

namespace Cert.Proof.Inp

open Cert.Proof.Gmm
open Cert.Reference4Ideal Cert.Reference4Ideal.Gen Cert.Reference4Ideal.Value
open Idealize.ShloMosaic Idealize.ShloMosaic.TcCoe Idealize.SL.Sem

/-- The normed tokens. -/
def hidden (x : FVec Ideal S8x4096x1024 .f32) (nw : FVec Ideal S1x1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast _ nw shapeCasts_S1x1024_S1024)))

/-- All columns of the projection. -/
def columns (h : FVec Ideal S8x4096x1024 .f32) (w : FVec Ideal S1x1024x4112 .f32) : FVec Ideal S8x4096x4112 .f32 :=
  Host.dotGeneral dot_S8x4096x1024_S1024x4112_S8x4096x4112_2_0_01_1_n_n none h (shapeCast _ w shapeCasts_S1x1024x4112_S1024x4112)

theorem hidden_at (x : FVec Ideal S8x4096x1024 .f32) (nw : FVec Ideal S1x1024 .f32) (b : Fin 8) (s : Fin 4096) (k : Fin 1024) :
    hidden x nw (ix3 b s k) = norm (fun k => x (ix3 b s k)) (fun k => nw (ix2 0 k)) k := by
  unfold norm
  pointwise [hidden]

theorem columns_at (x : FVec Ideal S8x4096x1024 .f32) (nw : FVec Ideal S1x1024 .f32) (w : FVec Ideal S1x1024x4112 .f32) (b : Fin 8) (s : Fin 4096) (j : Fin 4112) :
    columns (hidden x nw) w (ix3 b s j) = dotRow (norm (fun k => x (ix3 b s k)) (fun k => nw (ix2 0 k))) (fun k j => w (ix3 0 k j)) j := by
  unfold dotRow
  simp only [← hidden_at]
  generalize hidden x nw = h
  pointwise [columns]

theorem columns_eq (x : FVec Ideal S8x4096x1024 .f32) (nw : FVec Ideal S1x1024 .f32) (w : FVec Ideal S1x1024x4112 .f32) (b : Fin 8) (s : Fin 4096) (j : Fin 4112)
    (i : Fin 32768) (hi : i.val = b.val * 4096 + s.val) : columns (hidden x nw) w (ix3 b s j) = proj x nw w i j := by
  obtain ⟨i, hlt⟩ := i
  subst hi
  rw [columns_at]
  unfold proj tokenRow
  have hb : (b.val * 4096 + s.val) / 4096 = b.val := by omega
  have hs : (b.val * 4096 + s.val) % 4096 = s.val := by omega
  simp only [hb, hs]

variable (p : FVec Ideal S8x4096x4112 .f32)

def tQ : FVec Ideal S32768x512 .f32 := shapeCast _ (extractStridedSlice S8x4096x512 ![0, 0, 0] p slices_S8x4096x4112_S8x4096x512_0_0_0) shapeCasts_S8x4096x512_S32768x512
def tK : FVec Ideal S2x32768x64 .f32 := transpose S2x32768x64 [1, 0, 2] (shapeCast _ (extractStridedSlice S8x4096x128 ![0, 0, 512] p slices_S8x4096x4112_S8x4096x128_0_0_512) shapeCasts_S8x4096x128_S32768x2x64) transposes_S32768x2x64_S2x32768x64_1_0_2
def tV : FVec Ideal S2x32768x64 .bf16 := truncf .bf16 (transpose S2x32768x64 [1, 0, 2] (shapeCast _ (extractStridedSlice S8x4096x128 ![0, 0, 640] p slices_S8x4096x4112_S8x4096x128_0_0_640) shapeCasts_S8x4096x128_S32768x2x64) transposes_S32768x2x64_S2x32768x64_1_0_2) bitsLt_bf16_f32
def tZ : FVec Ideal S32768x512 .f32 := shapeCast _ (extractStridedSlice S8x4096x512 ![0, 0, 768] p slices_S8x4096x4112_S8x4096x512_0_0_768) shapeCasts_S8x4096x512_S32768x512
def tD : FVec Ideal S32768x128 .f32 := pad S32768x128 ![0, 0] ![0, 112] ![0, 0] (shapeCast _ (extractStridedSlice S8x4096x16 ![0, 0, 2048] p slices_S8x4096x4112_S8x4096x16_0_0_2048) shapeCasts_S8x4096x16_S32768x16) (sitofp .f32 (constantI S_ 32 0#32)) pads_S32768x16_S32768x128_000_01120 h_S_
def tG (bg : FVec Ideal S1x2048 .f32) : FVec Ideal S32768x2048 .bf16 := truncf .bf16 (shapeCast _ (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (addf (extractStridedSlice S8x4096x2048 ![0, 0, 2064] p slices_S8x4096x4112_S8x4096x2048_0_0_2064) (broadcastInDim S8x4096x2048 ![0, 1, 2] bcast_S1x1x2048_S8x4096x2048_0_1_2 (broadcastInDim S1x1x2048 ![2] bcast_S2048_S1x1x2048_2 (shapeCast _ bg shapeCasts_S1x2048_S2048)))))))) shapeCasts_S8x4096x2048_S32768x2048) bitsLt_bf16_f32
/-- The convolution's input with its two margins. -/
def margins : FVec Ideal S8x4102x768 .f32 := pad S8x4102x768 ![0, 3, 0] ![0, 3, 0] ![0, 0, 0] (extractStridedSlice S8x4096x768 ![0, 0, 1280] p slices_S8x4096x4112_S8x4096x768_0_0_1280) (sitofp .f32 (constantI S_ 32 0#32)) pads_S8x4096x768_S8x4102x768_000_330_000 h_S_

/-- The convolution. -/
def taps (cw : FVec Ideal S1x7x768 .f32) (cb : FVec Ideal S1x768 .f32) : FVec Ideal S8x4096x768 .f32 :=
  addf (addf (addf (addf (addf (addf (addf (addf (broadcastInDim S8x4096x768 ![] bcast_S_S8x4096x768 (constant S_ .f32 0x00000000#32))
    (mulf (extractStridedSlice S8x4096x768 ![0, 0, 0] (margins p) slices_S8x4102x768_S8x4096x768_0_0_0) (broadcastInDim S8x4096x768 ![0, 1, 2] bcast_S1x1x768_S8x4096x768_0_1_2 (broadcastInDim S1x1x768 ![2] bcast_S768_S1x1x768_2 (shapeCast _ (extractStridedSlice S1x1x768 ![0, 0, 0] cw slices_S1x7x768_S1x1x768_0_0_0) shapeCasts_S1x1x768_S768)))))
    (mulf (extractStridedSlice S8x4096x768 ![0, 1, 0] (margins p) slices_S8x4102x768_S8x4096x768_0_1_0) (broadcastInDim S8x4096x768 ![0, 1, 2] bcast_S1x1x768_S8x4096x768_0_1_2 (broadcastInDim S1x1x768 ![2] bcast_S768_S1x1x768_2 (shapeCast _ (extractStridedSlice S1x1x768 ![0, 1, 0] cw slices_S1x7x768_S1x1x768_0_1_0) shapeCasts_S1x1x768_S768)))))
    (mulf (extractStridedSlice S8x4096x768 ![0, 2, 0] (margins p) slices_S8x4102x768_S8x4096x768_0_2_0) (broadcastInDim S8x4096x768 ![0, 1, 2] bcast_S1x1x768_S8x4096x768_0_1_2 (broadcastInDim S1x1x768 ![2] bcast_S768_S1x1x768_2 (shapeCast _ (extractStridedSlice S1x1x768 ![0, 2, 0] cw slices_S1x7x768_S1x1x768_0_2_0) shapeCasts_S1x1x768_S768)))))
    (mulf (extractStridedSlice S8x4096x768 ![0, 3, 0] (margins p) slices_S8x4102x768_S8x4096x768_0_3_0) (broadcastInDim S8x4096x768 ![0, 1, 2] bcast_S1x1x768_S8x4096x768_0_1_2 (broadcastInDim S1x1x768 ![2] bcast_S768_S1x1x768_2 (shapeCast _ (extractStridedSlice S1x1x768 ![0, 3, 0] cw slices_S1x7x768_S1x1x768_0_3_0) shapeCasts_S1x1x768_S768)))))
    (mulf (extractStridedSlice S8x4096x768 ![0, 4, 0] (margins p) slices_S8x4102x768_S8x4096x768_0_4_0) (broadcastInDim S8x4096x768 ![0, 1, 2] bcast_S1x1x768_S8x4096x768_0_1_2 (broadcastInDim S1x1x768 ![2] bcast_S768_S1x1x768_2 (shapeCast _ (extractStridedSlice S1x1x768 ![0, 4, 0] cw slices_S1x7x768_S1x1x768_0_4_0) shapeCasts_S1x1x768_S768)))))
    (mulf (extractStridedSlice S8x4096x768 ![0, 5, 0] (margins p) slices_S8x4102x768_S8x4096x768_0_5_0) (broadcastInDim S8x4096x768 ![0, 1, 2] bcast_S1x1x768_S8x4096x768_0_1_2 (broadcastInDim S1x1x768 ![2] bcast_S768_S1x1x768_2 (shapeCast _ (extractStridedSlice S1x1x768 ![0, 5, 0] cw slices_S1x7x768_S1x1x768_0_5_0) shapeCasts_S1x1x768_S768)))))
    (mulf (extractStridedSlice S8x4096x768 ![0, 6, 0] (margins p) slices_S8x4102x768_S8x4096x768_0_6_0) (broadcastInDim S8x4096x768 ![0, 1, 2] bcast_S1x1x768_S8x4096x768_0_1_2 (broadcastInDim S1x1x768 ![2] bcast_S768_S1x1x768_2 (shapeCast _ (extractStridedSlice S1x1x768 ![0, 6, 0] cw slices_S1x7x768_S1x1x768_0_6_0) shapeCasts_S1x1x768_S768)))))
    (broadcastInDim S8x4096x768 ![0, 1, 2] bcast_S1x1x768_S8x4096x768_0_1_2 (broadcastInDim S1x1x768 ![2] bcast_S768_S1x1x768_2 (shapeCast _ cb shapeCasts_S1x768_S768)))
def tX (q : FVec Ideal S8x4096x768 .f32) : FVec Ideal S32768x768 .f32 :=
  shapeCast _ (mulf q (Host.divf (broadcastInDim S8x4096x768 ![] bcast_S_S8x4096x768 (constant S_ .f32 0x3F800000#32)) (addf (broadcastInDim S8x4096x768 ![] bcast_S_S8x4096x768 (constant S_ .f32 0x3F800000#32)) (Host.exp (Host.negf q))))) shapeCasts_S8x4096x768_S32768x768

theorem word_zero : (FloatOps.sitofp .f32 0#32 : Ideal .f32) = 0 := by
  show (((0#32 : BitVec 32).toInt : ℝ) : EReal) = 0
  simp

theorem margins_at (b : Fin 8) (s : Fin 4102) (ch : Fin 768) : margins p (ix3 b s ch) = if h : 3 ≤ s.val ∧ s.val - 3 < 4096 then p (ix3 b ⟨s.val - 3, h.2⟩ ⟨1280 + ch.val, by omega⟩) else 0 := by
  rw [← word_zero]
  pointwise [margins]

theorem ref_taps_at (cw : FVec Ideal S1x7x768 .f32) (cb : FVec Ideal S1x768 .f32) (b : Fin 8) (s : Fin 4096) (ch : Fin 768) : taps p cw cb (ix3 b s ch)
    = margins p (ix3 b ⟨s.val, by omega⟩ ch) * cw (ix3 0 0 ch) + margins p (ix3 b ⟨1 + s.val, by omega⟩ ch) * cw (ix3 0 1 ch) + margins p (ix3 b ⟨2 + s.val, by omega⟩ ch) * cw (ix3 0 2 ch)
      + margins p (ix3 b ⟨3 + s.val, by omega⟩ ch) * cw (ix3 0 3 ch) + margins p (ix3 b ⟨4 + s.val, by omega⟩ ch) * cw (ix3 0 4 ch) + margins p (ix3 b ⟨5 + s.val, by omega⟩ ch) * cw (ix3 0 5 ch)
      + margins p (ix3 b ⟨6 + s.val, by omega⟩ ch) * cw (ix3 0 6 ch) + cb (ix2 0 ch) := by
  unfold taps
  generalize margins p = q
  pointwise

theorem tX_at (q : FVec Ideal S8x4096x768 .f32) (i : Fin 32768) (ch : Fin 768) : tX q (ix2 i ch) = gate (q (ix3 ⟨i.val / 4096, by omega⟩ ⟨i.val % 4096, by omega⟩ ch)) := by
  unfold gate
  pointwise [tX]

section
variable (x : FVec Ideal S8x4096x1024 .f32) (nw : FVec Ideal S1x1024 .f32) (w : FVec Ideal S1x1024x4112 .f32)
  (bg : FVec Ideal S1x2048 .f32) (cw : FVec Ideal S1x7x768 .f32) (cb : FVec Ideal S1x768 .f32)

theorem token_at (i : Fin 32768) (j : Fin 4112) : columns (hidden x nw) w (ix3 ⟨i.val / 4096, by omega⟩ ⟨i.val % 4096, by omega⟩ j) = proj x nw w i j :=
  columns_eq x nw w _ _ j i (by show i.val = i.val / 4096 * 4096 + i.val % 4096; omega)

theorem refQ : tQ (columns (hidden x nw) w) = fQ x nw w := by
  funext j
  obtain ⟨i, k, rfl⟩ : ∃ (i : Fin 32768) (k : Fin 512), j = ix2 i k := ⟨j 0, j 1, eq_ix2 j⟩
  refine Eq.trans ?_ (token_at x nw w i _)
  pointwise [tQ]
theorem refK : tK (columns (hidden x nw) w) = fK x nw w := by
  funext j
  obtain ⟨h, i, k, rfl⟩ : ∃ (h : Fin 2) (i : Fin 32768) (k : Fin 64), j = ix3 h i k := ⟨j 0, j 1, j 2, eq_ix3 j⟩
  refine Eq.trans ?_ (token_at x nw w i _)
  pointwise [tK]
theorem refV : tV (columns (hidden x nw) w) = fV x nw w := by
  funext j
  obtain ⟨h, i, k, rfl⟩ : ∃ (h : Fin 2) (i : Fin 32768) (k : Fin 64), j = ix3 h i k := ⟨j 0, j 1, j 2, eq_ix3 j⟩
  refine Eq.trans ?_ (token_at x nw w i _)
  pointwise [tV]
theorem refZ : tZ (columns (hidden x nw) w) = fZ x nw w := by
  funext j
  obtain ⟨i, k, rfl⟩ : ∃ (i : Fin 32768) (k : Fin 512), j = ix2 i k := ⟨j 0, j 1, eq_ix2 j⟩
  refine Eq.trans ?_ (token_at x nw w i _)
  pointwise [tZ]
theorem refD : tD (columns (hidden x nw) w) = fD x nw w := by
  funext j
  obtain ⟨i, k, rfl⟩ : ∃ (i : Fin 32768) (k : Fin 128), j = ix2 i k := ⟨j 0, j 1, eq_ix2 j⟩
  unfold fD
  have e := token_at x nw w i
  rw [← word_zero]
  generalize columns (hidden x nw) w = p at e ⊢
  pointwise [tD]
  simp only [e]
theorem refG : tG (columns (hidden x nw) w) bg = fG x nw w bg := by
  funext j
  obtain ⟨i, k, rfl⟩ : ∃ (i : Fin 32768) (k : Fin 2048), j = ix2 i k := ⟨j 0, j 1, eq_ix2 j⟩
  unfold fG logistic
  have e := token_at x nw w i
  generalize columns (hidden x nw) w = p at e ⊢
  pointwise [tG]
  simp only [e]

/-- A tap's input is the token at its distance, or nothing past the sequence's ends. -/
theorem margin_near (i : Fin 32768) (t : ℕ) (ch : Fin 768) (s : Fin 4102) (hs : s.val = t + i.val % 4096) :
    margins (columns (hidden x nw) w) (ix3 ⟨i.val / 4096, by omega⟩ s ch) = near x nw w i t ch := by
  obtain ⟨s, hlt⟩ := s
  subst hs
  rw [margins_at]
  unfold near
  by_cases h : 3 ≤ i.val % 4096 + t ∧ i.val % 4096 + t < 4099
  · rw [dif_pos h, dif_pos (by show 3 ≤ t + i.val % 4096 ∧ t + i.val % 4096 - 3 < 4096; omega)]
    exact columns_eq x nw w _ _ _ _ (by show i.val + t - 3 = i.val / 4096 * 4096 + (t + i.val % 4096 - 3); omega)
  · rw [dif_neg h, dif_neg (by show ¬(3 ≤ t + i.val % 4096 ∧ t + i.val % 4096 - 3 < 4096); omega)]

theorem refX : tX (taps (columns (hidden x nw) w) cw cb) = fX x nw w cw cb := by
  funext j
  obtain ⟨i, ch, rfl⟩ : ∃ (i : Fin 32768) (ch : Fin 768), j = ix2 i ch := ⟨j 0, j 1, eq_ix2 j⟩
  rw [tX_at, ref_taps_at]
  rw [margin_near x nw w i 0 ch _ (by show i.val % 4096 = _; omega), margin_near x nw w i 1 ch _ rfl, margin_near x nw w i 2 ch _ rfl, margin_near x nw w i 3 ch _ rfl,
    margin_near x nw w i 4 ch _ rfl, margin_near x nw w i 5 ch _ rfl, margin_near x nw w i 6 ch _ rfl]
  show gate _ = gate (conv x nw w cw cb i ch)
  unfold conv
  congr 1
  abel

end

section
variable (m : (ℓ : Loc nD τ sig) → Buf (Elt Ideal) ℓ) (ρ : Dev nD → PrngReg)

/-- The reference's run, its results the formulas. -/
theorem ref_run : θ_run defs (onTc (τ := τ) (main (F := Ideal))) ⟨m, fun _ => 0, ρ⟩ fun r => ∀ c : Dev nD,
      r.2.mem ((c : Thread nD τ).loc main_v78) = fQ (m ((c : Thread nD τ).loc main_arg0)) (m ((c : Thread nD τ).loc main_arg1)) (m ((c : Thread nD τ).loc main_arg2))
      ∧ r.2.mem ((c : Thread nD τ).loc main_v80) = fK (m ((c : Thread nD τ).loc main_arg0)) (m ((c : Thread nD τ).loc main_arg1)) (m ((c : Thread nD τ).loc main_arg2))
      ∧ r.2.mem ((c : Thread nD τ).loc main_v83) = fV (m ((c : Thread nD τ).loc main_arg0)) (m ((c : Thread nD τ).loc main_arg1)) (m ((c : Thread nD τ).loc main_arg2))
      ∧ r.2.mem ((c : Thread nD τ).loc main_v84) = fZ (m ((c : Thread nD τ).loc main_arg0)) (m ((c : Thread nD τ).loc main_arg1)) (m ((c : Thread nD τ).loc main_arg2))
      ∧ r.2.mem ((c : Thread nD τ).loc main_v86) = fX (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_v88) = fD (m ((c : Thread nD τ).loc main_arg0)) (m ((c : Thread nD τ).loc main_arg1)) (m ((c : Thread nD τ).loc main_arg2))
      ∧ r.2.mem ((c : Thread nD τ).loc main_v100) = fG (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Cert.Reference4Ideal.Value.run (F := Ideal) m ρ)
  obtain ⟨q, k, v, z, xc, d, g, h'⟩ := h c
  exact ⟨q.trans (refQ _ _ _), k.trans (refK _ _ _), v.trans (refV _ _ _), z.trans (refZ _ _ _), xc.trans (refX _ _ _ _ _), d.trans (refD _ _ _), g.trans (refG _ _ _ _), h'⟩

end

end Cert.Proof.Inp

end
-- ==== Proof.InHost.lean ====
/-
  What the host leaves for the input projection's launch, entry by entry.
-/
module

public import proofs.«01_k».proof.Proof.InForm
public import proofs.«01_k».proof.Proof.Gen.Kernel4Ideal.Value

@[expose] public section

set_option maxRecDepth 16384

noncomputable section

namespace Cert.Proof.Inp

open Cert.Proof.Gmm
open Cert.Kernel4Ideal Cert.Kernel4Ideal.Gen
open Idealize.ShloMosaic Idealize.ShloMosaic.TcCoe

variable (m : (ℓ : Loc nD τ sig) → Buf (Elt Ideal) ℓ) (c : Dev nD)

/-- The weights without their leading axis, narrowed. -/
def flat (w : FVec Ideal S1x1024x4112 .f32) : FVec Ideal S1024x4112 .bf16 := truncf .bf16 (shapeCast S1024x4112 w shapeCasts_S1x1024x4112_S1024x4112 : FVec Ideal S1024x4112 .f32) bitsLt_bf16_f32

theorem V_x_eq : V m c main_v0 = shapeCast S32768x1024 (m ((c : Thread nD τ).loc main_arg0) : FVec Ideal S8x4096x1024 .f32) shapeCasts_S8x4096x1024_S32768x1024 := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results_simp
  rfl

theorem V_xbc_eq : V m c main_v7 = extractStridedSlice S1024x768 ![0, 1280] (flat (m ((c : Thread nD τ).loc main_arg2))) slices_S1024x4112_S1024x768_0_1280 := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results_simp
  rfl

theorem V_nw_eq : V m c main_v15 = broadcastInDim S1x1024 ![1] bcast_S1024_S1x1024_1 (shapeCast S1024 (m ((c : Thread nD τ).loc main_arg1) : FVec Ideal S1x1024 .f32) shapeCasts_S1x1024_S1024) := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results_simp
  rfl

theorem V_bg_eq : V m c main_v17 = broadcastInDim S1x2048 ![1] bcast_S2048_S1x2048_1 (shapeCast S2048 (m ((c : Thread nD τ).loc main_arg3) : FVec Ideal S1x2048 .f32) shapeCasts_S1x2048_S2048) := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results_simp
  rfl

theorem V_cb_eq : V m c main_v19 = broadcastInDim S1x768 ![1] bcast_S768_S1x768_1 (shapeCast S768 (m ((c : Thread nD τ).loc main_arg5) : FVec Ideal S1x768 .f32) shapeCasts_S1x768_S768) := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results_simp
  rfl

theorem V_cw_eq : V m c main_v13 = pad S8x768 ![0, 0] ![1, 0] ![0, 0] (shapeCast S7x768 (m ((c : Thread nD τ).loc main_arg4) : FVec Ideal S1x7x768 .f32) shapeCasts_S1x7x768_S7x768) (sitofp .f32 (constantI S_ 32 0#32) : FVec Ideal S_ .f32) pads_S7x768_S8x768_010_000 h_S_ := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results_simp
  rfl

/-- The other columns, those of the steps padded to the lanes. -/
def rest (w : FVec Ideal S1x1024x4112 .f32) : FVec Ideal S1024x3456 .bf16 :=
  concatenate S1024x3456 1 [⟨S1024x512, extractStridedSlice S1024x512 ![0, 0] (flat w) slices_S1024x4112_S1024x512_0_0⟩,
    ⟨S1024x128, extractStridedSlice S1024x128 ![0, 512] (flat w) slices_S1024x4112_S1024x128_0_512⟩,
    ⟨S1024x128, extractStridedSlice S1024x128 ![0, 640] (flat w) slices_S1024x4112_S1024x128_0_640⟩,
    ⟨S1024x512, extractStridedSlice S1024x512 ![0, 768] (flat w) slices_S1024x4112_S1024x512_0_768⟩,
    ⟨S1024x2048, extractStridedSlice S1024x2048 ![0, 2064] (flat w) slices_S1024x4112_S1024x2048_0_2064⟩,
    ⟨S1024x128, pad S1024x128 ![0, 0] ![0, 112] ![0, 0] (extractStridedSlice S1024x16 ![0, 2048] (flat w) slices_S1024x4112_S1024x16_0_2048) (sitofp .bf16 (constantI S_ 32 0#32) : FVec Ideal S_ .bf16) pads_S1024x16_S1024x128_000_01120 h_S_⟩]
    concatenates_S1024x512_S1024x128_S1024x128_S1024x512_S1024x2048_S1024x128_S1024x3456_d1

theorem V_rest_eq : V m c main_v11 = rest (m ((c : Thread nD τ).loc main_arg2)) := by
  simp only [V, hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results_simp
  rfl

theorem row_of_cast (x : FVec Ideal S8x4096x1024 .f32) (i : Fin 32768) (k : Fin 1024) : shapeCast S32768x1024 x shapeCasts_S8x4096x1024_S32768x1024 (ix2 i k) = tokenRow x i k := by
  unfold tokenRow
  pointwise
theorem V_x (i : Fin 32768) (k : Fin 1024) : V m c main_v0 (ix2 i k) = tokenRow (m ((c : Thread nD τ).loc main_arg0)) i k :=
  (congrFun (V_x_eq m c) (ix2 i k)).trans (row_of_cast _ i k)
theorem V_xbc (k : Fin 1024) (ch : Fin 768) : V m c main_v7 (ix2 k ch) = m ((c : Thread nD τ).loc main_arg2) (ix3 0 k ⟨1280 + ch.val, by omega⟩) := by
  refine (congrFun (V_xbc_eq m c) (ix2 k ch)).trans ?_
  pointwise [flat]
theorem V_nw (k : Fin 1024) : V m c main_v15 (ix2 0 k) = m ((c : Thread nD τ).loc main_arg1) (ix2 0 k) := by
  refine (congrFun (V_nw_eq m c) (ix2 0 k)).trans ?_
  pointwise
theorem V_bg (k : Fin 2048) : V m c main_v17 (ix2 0 k) = m ((c : Thread nD τ).loc main_arg3) (ix2 0 k) := by
  refine (congrFun (V_bg_eq m c) (ix2 0 k)).trans ?_
  pointwise
theorem V_cb (k : Fin 768) : V m c main_v19 (ix2 0 k) = m ((c : Thread nD τ).loc main_arg5) (ix2 0 k) := by
  refine (congrFun (V_cb_eq m c) (ix2 0 k)).trans ?_
  pointwise
theorem tap_of_pad (x : FVec Ideal S1x7x768 .f32) (v : FVec Ideal S_ .f32) (t : Fin 7) (k : Fin 768) : pad S8x768 ![0, 0] ![1, 0] ![0, 0] (shapeCast S7x768 x shapeCasts_S1x7x768_S7x768) v pads_S7x768_S8x768_010_000 h_S_ (ix2 ⟨t.val, by omega⟩ k) = x (ix3 0 t k) := by
  have ht := t.isLt
  pointwise
theorem V_cw (t : Fin 7) (k : Fin 768) : V m c main_v13 (ix2 ⟨t.val, by omega⟩ k) = m ((c : Thread nD τ).loc main_arg4) (ix3 0 t k) :=
  (congrFun (V_cw_eq m c) _).trans (tap_of_pad _ _ t k)

/-- The narrow zero that pads the columns. -/
theorem narrow_zero : (FloatOps.sitofp .bf16 0#32 : Ideal .bf16) = 0 := by
  show (((0#32).toInt : ℝ) : EReal) = 0
  simp

theorem rest_low (w : FVec Ideal S1x1024x4112 .f32) (k : Fin 1024) (j : Fin 3456) (h : j.val < 1280) : rest w (ix2 k j) = w (ix3 0 k ⟨j.val, by omega⟩) := by
  pointwise [rest, flat]
  split_ifs
  all_goals first | omega | (congr 2 <;> (apply Fin.ext; simp only <;> omega))
theorem rest_mid (w : FVec Ideal S1x1024x4112 .f32) (k : Fin 1024) (j : Fin 3456) (h : 1280 ≤ j.val ∧ j.val < 3328) : rest w (ix2 k j) = w (ix3 0 k ⟨2064 + (j.val - 1280), by omega⟩) := by
  pointwise [rest, flat]
  split_ifs
  all_goals first | omega | (congr 2 <;> (apply Fin.ext; simp only <;> omega))
theorem rest_steps (w : FVec Ideal S1x1024x4112 .f32) (k : Fin 1024) (j : Fin 3456) (h : 3328 ≤ j.val) :
    rest w (ix2 k j) = if h' : j.val - 3328 < 16 then w (ix3 0 k ⟨2048 + (j.val - 3328), by omega⟩) else 0 := by
  by_cases h' : j.val - 3328 < 16
  · rw [dif_pos h']
    pointwise [rest, flat]
    split_ifs
    all_goals first | omega | (congr 2 <;> (apply Fin.ext; simp only <;> omega))
  · rw [dif_neg h']
    pointwise [rest, flat]
    split_ifs
    all_goals first | omega | exact narrow_zero

end Cert.Proof.Inp
-- ==== Proof.InVal.lean ====
/-
  The input projection's tile, entry by entry.
-/
module

public import proofs.«01_k».proof.Proof.InHost
public import Idealize.ShloMosaic.Lib.Pipeline.ValueKit

@[expose] public section

set_option maxRecDepth 16384

noncomputable section

namespace Cert.Proof.Inp

open Cert.Proof.Gmm
open Cert.Kernel4Ideal Cert.Kernel4Ideal.Gen
open Idealize.ShloMosaic Idealize.ShloMosaic.TcCoe

theorem pay2_at (x : Vec Ideal S512x1024 .f32) (w : Vec Ideal S1x1024 .f32) (r : Fin 512) (k : Fin 1024) :
    k0_pay2 (F := Ideal) x w (ix2 r k) = norm (fun j => x (ix2 r j)) (fun k => w (ix2 0 k)) k := by
  unfold norm
  pointwise [k0_pay2]
theorem top_at (v16 : FVec Ideal S512x1024 .bf16) (p : BitVec 32) (y z : Vec Ideal S8x1024 .f32) (w : Vec Ideal S1x1024 .f32) (u : Vec Ideal S1024x768 .bf16) (r : Fin 8) (ch : Fin 768) :
    k0_pay5 (F := Ideal) v16 p (k0_pay3 y z) (k0_pay4 y z) w u (ix2 ⟨r.val, by omega⟩ ch)
      = Scalar.select (Scalar.cmpi .sgt p 0#32) (dotRow (norm (fun j => y (ix2 r j)) (fun k => w (ix2 0 k))) (fun k j => u (ix2 k j)) ch) 0 := by
  have hr := r.isLt
  unfold norm dotRow
  pointwise [k0_pay5, k0_pay3, k0_pay4]
theorem mid_at (v16 : FVec Ideal S512x1024 .bf16) (p : BitVec 32) (v31 : FVec Ideal S16x1024 .f32) (v38 : FVec Ideal S16x1 .f32) (w : Vec Ideal S1x1024 .f32) (u : Vec Ideal S1024x768 .bf16) (r : Fin 512) (ch : Fin 768) :
    k0_pay5 (F := Ideal) v16 p v31 v38 w u (ix2 ⟨8 + r.val, by omega⟩ ch)
      = dotRow (fun k => v16 (ix2 r k)) (fun k j => u (ix2 k j)) ch := by
  have hr := r.isLt
  unfold dotRow
  pointwise [k0_pay5]
theorem low_at (v16 : FVec Ideal S512x1024 .bf16) (p : BitVec 32) (y z : Vec Ideal S8x1024 .f32) (w : Vec Ideal S1x1024 .f32) (u : Vec Ideal S1024x768 .bf16) (r : Fin 8) (ch : Fin 768) :
    k0_pay5 (F := Ideal) v16 p (k0_pay3 y z) (k0_pay4 y z) w u (ix2 ⟨520 + r.val, by omega⟩ ch)
      = Scalar.select (Scalar.cmpi .slt p 7#32) (dotRow (norm (fun j => z (ix2 r j)) (fun k => w (ix2 0 k))) (fun k j => u (ix2 k j)) ch) 0 := by
  have hr := r.isLt
  unfold norm dotRow
  pointwise [k0_pay5, k0_pay3, k0_pay4]
  have e1 : ¬ 520 + r.val < 8 := by omega
  have e2 : ¬ 520 + r.val - 8 < 512 := by omega
  have e3 : ¬ 520 + (520 + r.val - 8 - 512) < 512 := by omega
  have e4 : ¬ 520 + (520 + r.val - 8 - 512) - 512 < 8 := by omega
  have e5 : 520 + (520 + r.val - 8 - 512) - 512 - 8 = r.val := by omega
  simp only [dif_neg e1, dif_neg e2, dif_neg e3, dif_neg e4, e5]
theorem cols_at (v16 : FVec Ideal S512x1024 .bf16) (u : Vec Ideal S1024x3456 .bf16) (r : Fin 512) (k : Fin 3456) :
    k0_pay10 (F := Ideal) v16 u (ix2 r k) = dotRow (fun k => v16 (ix2 r k)) (fun k j => u (ix2 k j)) k := by
  unfold dotRow
  pointwise [k0_pay10]
theorem taps_at (v60 : FVec Ideal S528x768 .f32) (v77 : FVec Ideal S512x768 .f32) (v78 : FVec Ideal S512x768 .f32) (v80 : FVec Ideal S1x768 .f32) (v85 v91 v97 v103 : Vec Ideal S1x768 .f32) (r : Fin 512) (k : Fin 768) :
    k0_pay9 (F := Ideal) v60 v77 v78 v80 v85 v91 v97 v103 (ix2 r k)
      = gate (v77 (ix2 r k) + v78 (ix2 r k) * v80 (ix2 0 k) + v60 (ix2 ⟨8 + r.val, by omega⟩ k) * v85 (ix2 0 k) + v60 (ix2 ⟨9 + r.val, by omega⟩ k) * v91 (ix2 0 k)
          + v60 (ix2 ⟨10 + r.val, by omega⟩ k) * v97 (ix2 0 k) + v60 (ix2 ⟨11 + r.val, by omega⟩ k) * v103 (ix2 0 k)) := by
  unfold gate
  pointwise [k0_pay9]
  simp only [zero_sub]
theorem first_taps_at (v16 : FVec Ideal S512x1024 .bf16) (p : BitVec 32) (v31 : FVec Ideal S16x1024 .f32) (v38 : FVec Ideal S16x1 .f32) (w : Vec Ideal S1x1024 .f32) (u : Vec Ideal S1024x768 .bf16)
    (b a a' : Vec Ideal S1x768 .f32) (r : Fin 512) (ch : Fin 768) :
    k0_pay6 (F := Ideal) v16 p v31 v38 w u b a a' (ix2 r ch)
      = b (ix2 0 ch) + k0_pay5 v16 p v31 v38 w u (ix2 ⟨5 + r.val, by omega⟩ ch) * a (ix2 0 ch) + k0_pay5 v16 p v31 v38 w u (ix2 ⟨6 + r.val, by omega⟩ ch) * a' (ix2 0 ch) := by
  unfold k0_pay6
  generalize k0_pay5 v16 p v31 v38 w u = f
  pointwise
theorem third_tap_at (v16 : FVec Ideal S512x1024 .bf16) (p : BitVec 32) (v31 : FVec Ideal S16x1024 .f32) (v38 : FVec Ideal S16x1 .f32) (w : Vec Ideal S1x1024 .f32) (u : Vec Ideal S1024x768 .bf16) (r : Fin 512) (ch : Fin 768) :
    k0_pay7 (F := Ideal) v16 p v31 v38 w u (ix2 r ch) = k0_pay5 v16 p v31 v38 w u (ix2 ⟨7 + r.val, by omega⟩ ch) := by
  unfold k0_pay7
  generalize k0_pay5 v16 p v31 v38 w u = f
  pointwise
theorem third_weight_at (a : Vec Ideal S1x768 .f32) (ch : Fin 768) : k0_pay8 (F := Ideal) a (ix2 0 ch) = a (ix2 0 ch) := by
  pointwise [k0_pay8]
theorem gates_at (f : FVec Ideal S512x3456 .f32) (b : Vec Ideal S1x2048 .f32) (r : Fin 512) (k : Fin 2048) :
    k0_pay1 (F := Ideal) (k0_pay21 f b) (ix2 r k) = logistic (f (ix2 r ⟨1280 + k.val, by omega⟩) + b (ix2 0 k)) := by
  unfold logistic
  pointwise [k0_pay1, k0_pay21]
  simp only [zero_sub]
theorem steps_at (f : FVec Ideal S512x3456 .f32) (r : Fin 512) (k : Fin 128) : k0_pay15 (F := Ideal) f (ix2 r k) = f (ix2 r ⟨3328 + k.val, by omega⟩) := by
  pointwise [k0_pay15]

variable (i : grid0.Coords) (x0 : Vec Ideal S512x1024 .f32) (x1 x2 : Vec Ideal S8x1024 .f32) (x3 : Vec Ideal S1x1024 .f32) (x4 : Vec Ideal S1024x3456 .bf16) (x5 : Vec Ideal S1024x768 .bf16) (x6 : Vec Ideal S1x2048 .f32) (x7 : Vec Ideal S8x768 .f32) (x8 : Vec Ideal S1x768 .f32)
/-- A row of the tile, normed, times a column. -/
def tileCol (r : Fin 512) (j : Fin 3456) : EReal := dotRow (norm (fun q => x0 (ix2 r q)) (fun q => x3 (ix2 0 q))) (fun k j => x4 (ix2 k j)) j
theorem tileCol_eq (r : Fin 512) (j : Fin 3456) : k0_pay10 (F := Ideal) (k0_pay2 x0 x3) x4 (ix2 r j) = tileCol x0 x3 x4 r j := by
  refine (cols_at _ _ r j).trans ?_
  unfold tileCol
  simp only [pay2_at]
theorem outQ_at (r : Fin 512) (j : Fin 512) : out0_9 (F := Ideal) i x0 x1 x2 x3 x4 x5 x6 x7 x8 (ix2 r j) = tileCol x0 x3 x4 r ⟨j.val, by omega⟩ := by
  frame_out [k0_pay22, k0_pay23, k0_pay24, k0_pay25, k0_pay26, k0_pay27]
  rw [← tileCol_eq]
  unfold k0_pay11
  generalize k0_pay10 (F := Ideal) (k0_pay2 x0 x3) x4 = f
  pointwise
theorem outZ_at (r : Fin 512) (j : Fin 512) : out0_12 (F := Ideal) i x0 x1 x2 x3 x4 x5 x6 x7 x8 (ix2 r j) = tileCol x0 x3 x4 r ⟨768 + j.val, by omega⟩ := by
  frame_out [k0_pay22, k0_pay23, k0_pay24, k0_pay25, k0_pay26, k0_pay27]
  rw [← tileCol_eq]
  unfold k0_pay14
  generalize k0_pay10 (F := Ideal) (k0_pay2 x0 x3) x4 = f
  pointwise
theorem outD_at (r : Fin 512) (j : Fin 128) : out0_14 (F := Ideal) i x0 x1 x2 x3 x4 x5 x6 x7 x8 (ix2 r j) = tileCol x0 x3 x4 r ⟨3328 + j.val, by omega⟩ := by
  frame_out [k0_pay22, k0_pay23, k0_pay24, k0_pay25, k0_pay26, k0_pay27]
  rw [← tileCol_eq]
  exact steps_at _ r j
theorem outG_at (r : Fin 512) (j : Fin 2048) : out0_15 (F := Ideal) i x0 x1 x2 x3 x4 x5 x6 x7 x8 (ix2 r j) = logistic (tileCol x0 x3 x4 r ⟨1280 + j.val, by omega⟩ + x6 (ix2 0 j)) := by
  frame_out [k0_pay22, k0_pay23, k0_pay24, k0_pay25, k0_pay26, k0_pay27]
  rw [← tileCol_eq]
  exact gates_at _ _ r j
theorem outK_at (h : Fin 2) (r : Fin 512) (j : Fin 64) : out0_10 (F := Ideal) i x0 x1 x2 x3 x4 x5 x6 x7 x8 (ix3 h r j) = tileCol x0 x3 x4 r ⟨512 + (h.val * 64 + j.val), by omega⟩ := by
  frame_out [k0_pay22, k0_pay23, k0_pay24, k0_pay25, k0_pay26, k0_pay27]
  rw [← tileCol_eq]
  unfold k0_pay19 k0_pay17 k0_pay12
  generalize k0_pay10 (F := Ideal) (k0_pay2 x0 x3) x4 = f
  canon_tiles
  all_goals
    obtain ⟨a, r', j', rfl⟩ : ∃ (a : Fin 1) (r' : Fin 512) (j' : Fin 64), x = ix3 a r' j' := ⟨x 0, x 1, x 2, eq_ix3 x⟩
    obtain rfl : r = r' := Fin.ext h1
    obtain rfl : j = j' := Fin.ext h2
  · have e : h.val = 1 + a.val := h0
    pointwise
    congr 2
    apply Fin.ext
    show _ = 512 + (h.val * 64 + j.val)
    simp only
    omega
  · have e : h.val = a.val := h0
    pointwise
    congr 2
    apply Fin.ext
    show _ = 512 + (h.val * 64 + j.val)
    simp only
    omega
theorem outV_at (h : Fin 2) (r : Fin 512) (j : Fin 64) : out0_11 (F := Ideal) i x0 x1 x2 x3 x4 x5 x6 x7 x8 (ix3 h r j) = tileCol x0 x3 x4 r ⟨640 + (h.val * 64 + j.val), by omega⟩ := by
  frame_out [k0_pay22, k0_pay23, k0_pay24, k0_pay25, k0_pay26, k0_pay27]
  rw [← tileCol_eq]
  unfold k0_pay20 k0_pay18 k0_pay16 k0_pay13
  generalize k0_pay10 (F := Ideal) (k0_pay2 x0 x3) x4 = f
  canon_tiles
  all_goals
    obtain ⟨a, r', j', rfl⟩ : ∃ (a : Fin 1) (r' : Fin 512) (j' : Fin 64), x = ix3 a r' j' := ⟨x 0, x 1, x 2, eq_ix3 x⟩
    obtain rfl : r = r' := Fin.ext h1
    obtain rfl : j = j' := Fin.ext h2
  · have e : h.val = 1 + a.val := h0
    pointwise
    congr 2
    apply Fin.ext
    show _ = 640 + (h.val * 64 + j.val)
    simp only
    omega
  · have e : h.val = a.val := h0
    pointwise
    congr 2
    apply Fin.ext
    show _ = 640 + (h.val * 64 + j.val)
    simp only
    omega

/-- A tile's place in its sequence, as the body computes it. -/
def place (n : ℕ) : BitVec 32 := Scalar.select (Scalar.andi (Scalar.xori (Scalar.cmpi .slt (Scalar.remsi (BitVec.ofNat 32 n) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 n) (Scalar.select (Scalar.cmpi .eq 8#32 0#32) 1#32 8#32)) 0#32)) (Scalar.addi (Scalar.remsi (BitVec.ofNat 32 n) (Scalar.select (Scalar.cmpi .eq 8#32 0#32) 1#32 8#32)) (Scalar.select (Scalar.cmpi .eq 8#32 0#32) 1#32 8#32)) (Scalar.remsi (BitVec.ofNat 32 n) (Scalar.select (Scalar.cmpi .eq 8#32 0#32) 1#32 8#32))
theorem place_eq : ∀ n : Fin 64, place n.val = BitVec.ofNat 32 (n.val % 8) := by decide +kernel

theorem tap (a : Fin 8) (ch : Fin 768) (inb : ∀ q, (![a.val, 0] : Fin 2 → ℕ) q + S1x768.size q ≤ S8x768.size q) :
    View.ld (Val := Elt Ideal) (e' := .f32) x7 (Rect.unit (s := S8x768) ![a.val, 0] S1x768.size inb) (ix2 0 ch) = x7 (ix2 a ch) :=
  View.ld_unit_apply_of _ _ _ _ _ _ fun q => by fin_cases q <;> simp

/-- The rows the taps read: the tile's, between eight rows of its neighbours. -/
def rows (R : Fin 528) (ch : Fin 768) : EReal := k0_pay5 (F := Ideal) (k0_pay2 x0 x3) (place (i 0).val) (k0_pay3 x1 x2) (k0_pay4 x1 x2) x3 x5 (ix2 R ch)

theorem outX_at (r : Fin 512) (ch : Fin 768) : out0_13 (F := Ideal) i x0 x1 x2 x3 x4 x5 x6 x7 x8 (ix2 r ch)
    = gate (x8 (ix2 0 ch) + rows i x0 x1 x2 x3 x5 ⟨5 + r.val, by omega⟩ ch * x7 (ix2 0 ch) + rows i x0 x1 x2 x3 x5 ⟨6 + r.val, by omega⟩ ch * x7 (ix2 1 ch)
        + rows i x0 x1 x2 x3 x5 ⟨7 + r.val, by omega⟩ ch * x7 (ix2 2 ch) + rows i x0 x1 x2 x3 x5 ⟨8 + r.val, by omega⟩ ch * x7 (ix2 3 ch)
        + rows i x0 x1 x2 x3 x5 ⟨9 + r.val, by omega⟩ ch * x7 (ix2 4 ch) + rows i x0 x1 x2 x3 x5 ⟨10 + r.val, by omega⟩ ch * x7 (ix2 5 ch)
        + rows i x0 x1 x2 x3 x5 ⟨11 + r.val, by omega⟩ ch * x7 (ix2 6 ch)) := by
  frame_out [k0_pay22, k0_pay23, k0_pay24, k0_pay25, k0_pay26, k0_pay27]
  refine (taps_at _ _ _ _ _ _ _ _ r ch).trans ?_
  rw [first_taps_at, third_tap_at, third_weight_at]
  unfold rows place
  erw [tap x7 0 ch, tap x7 1 ch, tap x7 2 ch, tap x7 3 ch, tap x7 4 ch, tap x7 5 ch, tap x7 6 ch]

end Cert.Proof.Inp

end
-- ==== Proof.InTile.lean ====
/-
  The input projection's tiles over the host's arrays: what each point's body leaves is its rows of the formula.
-/
module

public import proofs.«01_k».proof.Proof.InVal

@[expose] public section

set_option maxRecDepth 16384

noncomputable section

namespace Cert.Proof.Inp

open Cert.Proof.Gmm
open Cert.Kernel4Ideal Cert.Kernel4Ideal.Gen
open Idealize.ShloMosaic Idealize.ShloMosaic.TcCoe Idealize.SL.Sem

variable (m : (ℓ : Loc nD τ sig) → Buf (Elt Ideal) ℓ) (c : Dev nD)

/-- The arguments as launched. -/
abbrev aX : FVec Ideal S8x4096x1024 .f32 := m ((c : Thread nD τ).loc main_arg0)
abbrev aN : FVec Ideal S1x1024 .f32 := m ((c : Thread nD τ).loc main_arg1)
abbrev aW : FVec Ideal S1x1024x4112 .f32 := m ((c : Thread nD τ).loc main_arg2)
abbrev aB : FVec Ideal S1x2048 .f32 := m ((c : Thread nD τ).loc main_arg3)
abbrev aC : FVec Ideal S1x7x768 .f32 := m ((c : Thread nD τ).loc main_arg4)
abbrev aD : FVec Ideal S1x768 .f32 := m ((c : Thread nD τ).loc main_arg5)

theorem coord (t : Fin grid0.N) : (grid0.coords t 0).val = t.val := by
  revert t; decide +kernel

theorem N_eq : grid0.N = 64 := rfl

/-- Where a point's blocks start: the tile, and the eight rows before and after it. -/
theorem own_ix (t : Fin grid0.N) : cc0_transform_0 (grid0.coords t) = ![t.val, 0] := by
  revert t; decide +kernel
theorem prev_ix (t : Fin grid0.N) : cc0_transform_1 (grid0.coords t) = ![t.val * 64 - 1, 0] := by
  revert t; decide +kernel
theorem next_ix (t : Fin grid0.N) : cc0_transform_2 (grid0.coords t) = ![min (t.val * 64 + 64) 4095, 0] := by
  revert t; decide +kernel
theorem all_ix (t : Fin grid0.N) : cc0_transform_3 (grid0.coords t) = ![0, 0] := by
  revert t; decide +kernel
theorem head_ix (t : Fin grid0.N) : cc0_transform_10 (grid0.coords t) = ![0, t.val, 0] := by
  revert t; decide +kernel

/-- An entry named by its coordinates. -/
theorem ix_key {M N B : ℕ} (e : (⟨2, ![M, N]⟩ : Shape).Idx) (i : Fin M) (j : Fin N) (o : Fin 2 → ℕ) (p : ℕ) (ho : o = ![p, 0]) (r : Fin B) (hi : i.val = p * B + r.val)
    (h : ∀ a : Fin 2, (e a).val = o a * (![B, N] : Fin 2 → ℕ) a + 1 * (ix2 r j a).val) : e = ix2 i j := by
  subst ho
  have h0 : (e 0).val = p * B + 1 * r.val := h 0
  have h1 : (e 1).val = 0 * N + 1 * j.val := h 1
  funext a
  fin_cases a
  · exact Fin.ext (show (e 0).val = i.val by omega)
  · exact Fin.ext (show (e 1).val = j.val by omega)

theorem ix3_key {A M N B : ℕ} (e : (⟨3, ![A, M, N]⟩ : Shape).Idx) (q : Fin A) (i : Fin M) (j : Fin N) (o : Fin 3 → ℕ) (p : ℕ) (ho : o = ![0, p, 0]) (r : Fin B) (hi : i.val = p * B + r.val)
    (h : ∀ a : Fin 3, (e a).val = o a * (![A, B, N] : Fin 3 → ℕ) a + 1 * (ix3 q r j a).val) : e = ix3 q i j := by
  subst ho
  have h0 : (e 0).val = 0 * A + 1 * q.val := h 0
  have h1 : (e 1).val = p * B + 1 * r.val := h 1
  have h2 : (e 2).val = 0 * N + 1 * j.val := h 2
  funext a
  fin_cases a
  · exact Fin.ext (show (e 0).val = q.val by omega)
  · exact Fin.ext (show (e 1).val = i.val by omega)
  · exact Fin.ext (show (e 2).val = j.val by omega)

variable (t : Fin 64)

theorem read_x (r : Fin 512) (i : Fin 32768) (hi : i.val = t.val * 512 + r.val) (k : Fin 1024) : iblk m c 0 t (ix2 r k) = tokenRow (aX m c) i k :=
  (congrArg (V m c main_v0) (ix_key (((cfg0.win 0).blk t).view.emb (ix2 r k)) i k _ t.val (own_ix t) r hi fun a => by fin_cases a <;> rfl)).trans (V_x m c i k)
theorem read_prev (r : Fin 8) (i : Fin 32768) (hi : i.val = (t.val * 64 - 1) * 8 + r.val) (k : Fin 1024) : iblk m c 1 t (ix2 r k) = tokenRow (aX m c) i k :=
  (congrArg (V m c main_v0) (ix_key (((cfg0.win 1).blk t).view.emb (ix2 r k)) i k _ (t.val * 64 - 1) (prev_ix t) r hi fun a => by fin_cases a <;> rfl)).trans (V_x m c i k)
theorem read_next (r : Fin 8) (i : Fin 32768) (hi : i.val = min (t.val * 64 + 64) 4095 * 8 + r.val) (k : Fin 1024) : iblk m c 2 t (ix2 r k) = tokenRow (aX m c) i k :=
  (congrArg (V m c main_v0) (ix_key (((cfg0.win 2).blk t).view.emb (ix2 r k)) i k _ (min (t.val * 64 + 64) 4095) (next_ix t) r hi fun a => by fin_cases a <;> rfl)).trans (V_x m c i k)
theorem read_nw (k : Fin 1024) : iblk m c 3 t (ix2 0 k) = aN m c (ix2 0 k) :=
  (congrArg (V m c main_v15) (ix_key (((cfg0.win 3).blk t).view.emb (ix2 0 k)) 0 k _ 0 (all_ix t) (0 : Fin 1) rfl fun a => by fin_cases a <;> rfl)).trans (V_nw m c k)
theorem read_rest (k : Fin 1024) (j : Fin 3456) : iblk m c 4 t (ix2 k j) = rest (aW m c) (ix2 k j) :=
  (congrArg (V m c main_v11) (ix_key (((cfg0.win 4).blk t).view.emb (ix2 k j)) k j _ 0 (all_ix t) k (by omega) fun a => by fin_cases a <;> rfl)).trans (congrFun (V_rest_eq m c) (ix2 k j))
theorem read_xbc (k : Fin 1024) (ch : Fin 768) : iblk m c 5 t (ix2 k ch) = aW m c (ix3 0 k ⟨1280 + ch.val, by omega⟩) :=
  (congrArg (V m c main_v7) (ix_key (((cfg0.win 5).blk t).view.emb (ix2 k ch)) k ch _ 0 (all_ix t) k (by omega) fun a => by fin_cases a <;> rfl)).trans (V_xbc m c k ch)
theorem read_bg (j : Fin 2048) : iblk m c 6 t (ix2 0 j) = aB m c (ix2 0 j) :=
  (congrArg (V m c main_v17) (ix_key (((cfg0.win 6).blk t).view.emb (ix2 0 j)) 0 j _ 0 (all_ix t) (0 : Fin 1) rfl fun a => by fin_cases a <;> rfl)).trans (V_bg m c j)
theorem read_cw (a : Fin 7) (ch : Fin 768) : iblk m c 7 t (ix2 (⟨a.val, by omega⟩ : Fin 8) ch) = aC m c (ix3 0 a ch) :=
  (congrArg (V m c main_v13) (ix_key (((cfg0.win 7).blk t).view.emb (ix2 ⟨a.val, by omega⟩ ch)) ⟨a.val, by omega⟩ ch _ 0 (all_ix t) (⟨a.val, by omega⟩ : Fin 8) (by show a.val = 0 * 8 + a.val; omega) fun a => by fin_cases a <;> rfl)).trans (V_cw m c a ch)
theorem read_cb (ch : Fin 768) : iblk m c 8 t (ix2 0 ch) = aD m c (ix2 0 ch) :=
  (congrArg (V m c main_v19) (ix_key (((cfg0.win 8).blk t).view.emb (ix2 0 ch)) 0 ch _ 0 (all_ix t) (0 : Fin 1) rfl fun a => by fin_cases a <;> rfl)).trans (V_cb m c ch)

/-- A row normed and multiplied, from equal rows and equal columns. -/
theorem proj_of (y nw : Fin 1024 → EReal) {N : ℕ} (u : Fin 1024 → Fin N → EReal) (j : Fin N) (x : FVec Ideal ⟨3, ![8, 4096, 1024]⟩ .f32) (a : FVec Ideal ⟨2, ![1, 1024]⟩ .f32) (w : FVec Ideal ⟨3, ![1, 1024, 4112]⟩ .f32) (i : Fin 32768) (j' : Fin 4112)
    (hy : ∀ k, y k = tokenRow x i k) (hn : ∀ k, nw k = a (ix2 0 k)) (hu : ∀ k, u k j = w (ix3 0 k j')) : dotRow (norm y nw) u j = proj x a w i j' := by
  unfold proj dotRow
  obtain rfl : y = tokenRow x i := funext hy
  obtain rfl : nw = fun k => a (ix2 0 k) := funext hn
  simp only [hu]

section own

variable (r : Fin 512) (i : Fin 32768) (hi : i.val = t.val * 512 + r.val)

include hi

theorem col_low (j : Fin 3456) (h : j.val < 1280) : tileCol (iblk m c 0 t) (iblk m c 3 t) (iblk m c 4 t) r j = proj (aX m c) (aN m c) (aW m c) i ⟨j.val, by omega⟩ :=
  proj_of _ _ _ j _ _ _ i _ (read_x m c t r i hi) (read_nw m c t) fun k => (read_rest m c t k j).trans (rest_low _ k j h)
theorem col_mid (j : Fin 3456) (h : 1280 ≤ j.val ∧ j.val < 3328) : tileCol (iblk m c 0 t) (iblk m c 3 t) (iblk m c 4 t) r j = proj (aX m c) (aN m c) (aW m c) i ⟨2064 + (j.val - 1280), by omega⟩ :=
  proj_of _ _ _ j _ _ _ i _ (read_x m c t r i hi) (read_nw m c t) fun k => (read_rest m c t k j).trans (rest_mid _ k j h)
theorem col_steps (j : Fin 3456) (h : 3328 ≤ j.val) : tileCol (iblk m c 0 t) (iblk m c 3 t) (iblk m c 4 t) r j
    = if h' : j.val - 3328 < 16 then proj (aX m c) (aN m c) (aW m c) i ⟨2048 + (j.val - 3328), by omega⟩ else 0 := by
  by_cases h' : j.val - 3328 < 16
  · rw [dif_pos h']
    exact proj_of _ _ _ j _ _ _ i _ (read_x m c t r i hi) (read_nw m c t) fun k => (read_rest m c t k j).trans ((rest_steps _ k j h).trans (dif_pos h'))
  · rw [dif_neg h']
    unfold tileCol dotRow
    refine Finset.sum_eq_zero fun k _ => ?_
    exact (congrArg (norm _ _ k * ·) ((read_rest m c t k j).trans ((rest_steps _ k j h).trans (dif_neg h')))).trans (mul_zero _)

end own

theorem sgt_zero : ∀ p : Fin 8, Scalar.cmpi .sgt (BitVec.ofNat 32 p.val) 0#32 = if p.val = 0 then 0#1 else 1#1 := by decide
theorem slt_seven : ∀ p : Fin 8, Scalar.cmpi .slt (BitVec.ofNat 32 p.val) 7#32 = if p.val = 7 then 0#1 else 1#1 := by decide

theorem one_selects (a b : EReal) : Scalar.select 1#1 a b = a := rfl
theorem zero_selects (a b : EReal) : Scalar.select 0#1 a b = b := rfl

/-- Where the taps' columns and rows stand. -/
abbrev narrowCol (ch : Fin 768) : Fin 4112 := ⟨1280 + ch.val, by omega⟩
abbrev topRow (r : Fin 8) : Fin 528 := ⟨r.val, by omega⟩
abbrev midRow (r : Fin 512) : Fin 528 := ⟨8 + r.val, by omega⟩
abbrev lowRow (r : Fin 8) : Fin 528 := ⟨520 + r.val, by omega⟩

/-- Whether the tile starts a sequence, and whether it ends one. -/
theorem starts : Scalar.cmpi .sgt (place (grid0.coords t 0).val) 0#32 = if t.val % 8 = 0 then 0#1 else 1#1 :=
  (congrArg (fun n => Scalar.cmpi .sgt (place n) 0#32) (coord t)).trans ((congrArg (fun p => Scalar.cmpi .sgt p 0#32) (place_eq t)).trans (sgt_zero ⟨t.val % 8, Nat.mod_lt _ (by decide)⟩))
theorem ends : Scalar.cmpi .slt (place (grid0.coords t 0).val) 7#32 = if t.val % 8 = 7 then 0#1 else 1#1 :=
  (congrArg (fun n => Scalar.cmpi .slt (place n) 7#32) (coord t)).trans ((congrArg (fun p => Scalar.cmpi .slt p 7#32) (place_eq t)).trans (slt_seven ⟨t.val % 8, Nat.mod_lt _ (by decide)⟩))

/-- The rows the taps read: first the eight before the tile, none at a sequence's start. -/
theorem rows_top (r : Fin 8) (ch : Fin 768) (h0 : t.val % 8 = 0) : rows (grid0.coords t) (iblk m c 0 t) (iblk m c 1 t) (iblk m c 2 t) (iblk m c 3 t) (iblk m c 5 t) (topRow r) ch = 0 := by
  unfold rows
  refine (top_at _ _ _ _ _ _ r ch).trans ((congrArg (fun b => Scalar.select b (_ : EReal) 0) ((starts t).trans (if_pos h0))).trans (zero_selects _ _))
theorem rows_top' (r : Fin 8) (ch : Fin 768) (h0 : ¬ t.val % 8 = 0) (i : Fin 32768) (hi : i.val = (t.val * 64 - 1) * 8 + r.val) :
    rows (grid0.coords t) (iblk m c 0 t) (iblk m c 1 t) (iblk m c 2 t) (iblk m c 3 t) (iblk m c 5 t) (topRow r) ch = proj (aX m c) (aN m c) (aW m c) i (narrowCol ch) := by
  unfold rows
  refine (top_at _ _ _ _ _ _ r ch).trans ((congrArg (fun b => Scalar.select b (_ : EReal) 0) ((starts t).trans (if_neg h0))).trans ((one_selects _ _).trans ?_))
  exact proj_of _ _ _ ch _ _ _ i _ (read_prev m c t r i hi) (read_nw m c t) fun k => read_xbc m c t k ch
/-- Then the tile's own. -/
theorem rows_mid (r : Fin 512) (ch : Fin 768) (i : Fin 32768) (hi : i.val = t.val * 512 + r.val) :
    rows (grid0.coords t) (iblk m c 0 t) (iblk m c 1 t) (iblk m c 2 t) (iblk m c 3 t) (iblk m c 5 t) (midRow r) ch = proj (aX m c) (aN m c) (aW m c) i (narrowCol ch) := by
  unfold rows
  refine (mid_at _ _ _ _ _ _ r ch).trans ?_
  simp only [pay2_at]
  exact proj_of _ _ _ ch _ _ _ i _ (read_x m c t r i hi) (read_nw m c t) fun k => read_xbc m c t k ch
/-- Last the eight after it, none at a sequence's end. -/
theorem rows_low (r : Fin 8) (ch : Fin 768) (h0 : t.val % 8 = 7) : rows (grid0.coords t) (iblk m c 0 t) (iblk m c 1 t) (iblk m c 2 t) (iblk m c 3 t) (iblk m c 5 t) (lowRow r) ch = 0 := by
  unfold rows
  refine (low_at _ _ _ _ _ _ r ch).trans ((congrArg (fun b => Scalar.select b (_ : EReal) 0) ((ends t).trans (if_pos h0))).trans (zero_selects _ _))
theorem rows_low' (r : Fin 8) (ch : Fin 768) (h0 : ¬ t.val % 8 = 7) (i : Fin 32768) (hi : i.val = min (t.val * 64 + 64) 4095 * 8 + r.val) :
    rows (grid0.coords t) (iblk m c 0 t) (iblk m c 1 t) (iblk m c 2 t) (iblk m c 3 t) (iblk m c 5 t) (lowRow r) ch = proj (aX m c) (aN m c) (aW m c) i (narrowCol ch) := by
  unfold rows
  refine (low_at _ _ _ _ _ _ r ch).trans ((congrArg (fun b => Scalar.select b (_ : EReal) 0) ((ends t).trans (if_neg h0))).trans ((one_selects _ _).trans ?_))
  exact proj_of _ _ _ ch _ _ _ i _ (read_next m c t r i hi) (read_nw m c t) fun k => read_xbc m c t k ch

theorem rows_near (r : Fin 512) (i : Fin 32768) (hi : i.val = t.val * 512 + r.val) (a : ℕ) (R : Fin 528) (hR : R.val = 5 + a + r.val) (ch : Fin 768) :
    rows (grid0.coords t) (iblk m c 0 t) (iblk m c 1 t) (iblk m c 2 t) (iblk m c 3 t) (iblk m c 5 t) R ch = near (aX m c) (aN m c) (aW m c) i a ch := by
  have hr := r.isLt
  have hi' := i.isLt
  have hR' := R.isLt
  by_cases h : 3 ≤ i.val % 4096 + a ∧ i.val % 4096 + a < 4099
  · refine Eq.trans ?_ (dif_pos h).symm
    by_cases h1 : R.val < 8
    · have h0 : ¬ t.val % 8 = 0 := by omega
      exact rows_top' m c t ⟨R.val, h1⟩ ch h0 _ (by show i.val + a - 3 = (t.val * 64 - 1) * 8 + R.val; omega)
    · by_cases h2 : R.val < 520
      · obtain ⟨q, e⟩ : ∃ q : Fin 512, R = ⟨8 + q.val, by omega⟩ := ⟨⟨R.val - 8, by omega⟩, Fin.ext (by show R.val = 8 + (R.val - 8); omega)⟩
        have hq : R.val = 8 + q.val := congrArg Fin.val e
        rw [e]
        exact rows_mid m c t q ch _ (by show i.val + a - 3 = t.val * 512 + q.val; omega)
      · obtain ⟨q, e⟩ : ∃ q : Fin 8, R = ⟨520 + q.val, by omega⟩ := ⟨⟨R.val - 520, by omega⟩, Fin.ext (by show R.val = 520 + (R.val - 520); omega)⟩
        have hq : R.val = 520 + q.val := congrArg Fin.val e
        rw [e]
        have h0 : ¬ t.val % 8 = 7 := by omega
        exact rows_low' m c t q ch h0 _ (by show i.val + a - 3 = min (t.val * 64 + 64) 4095 * 8 + q.val; omega)
  · refine Eq.trans ?_ (dif_neg h).symm
    by_cases h1 : R.val < 8
    · exact rows_top m c t ⟨R.val, h1⟩ ch (by omega)
    · have h2 : ¬ R.val < 520 := by omega
      obtain ⟨q, e⟩ : ∃ q : Fin 8, R = ⟨520 + q.val, by omega⟩ := ⟨⟨R.val - 520, by omega⟩, Fin.ext (by show R.val = 520 + (R.val - 520); omega)⟩
      have hq : R.val = 520 + q.val := congrArg Fin.val e
      rw [e]
      exact rows_low m c t q ch (by omega)

section outs

variable (r : Fin 512) (i : Fin 32768) (hi : i.val = t.val * 512 + r.val)

include hi

theorem tileQ (j : Fin 512) : out0_9 (F := Ideal) (grid0.coords t) (iblk m c 0 t) (iblk m c 1 t) (iblk m c 2 t) (iblk m c 3 t) (iblk m c 4 t) (iblk m c 5 t) (iblk m c 6 t) (iblk m c 7 t) (iblk m c 8 t) (ix2 r j)
    = fQ (aX m c) (aN m c) (aW m c) (ix2 i j) :=
  (outQ_at _ _ _ _ _ _ _ _ _ _ r j).trans (col_low m c t r i hi _ (by show j.val < 1280; omega))
theorem tileZ (j : Fin 512) : out0_12 (F := Ideal) (grid0.coords t) (iblk m c 0 t) (iblk m c 1 t) (iblk m c 2 t) (iblk m c 3 t) (iblk m c 4 t) (iblk m c 5 t) (iblk m c 6 t) (iblk m c 7 t) (iblk m c 8 t) (ix2 r j)
    = fZ (aX m c) (aN m c) (aW m c) (ix2 i j) :=
  (outZ_at _ _ _ _ _ _ _ _ _ _ r j).trans (col_low m c t r i hi _ (by show 768 + j.val < 1280; omega))
theorem tileK (q : Fin 2) (j : Fin 64) : out0_10 (F := Ideal) (grid0.coords t) (iblk m c 0 t) (iblk m c 1 t) (iblk m c 2 t) (iblk m c 3 t) (iblk m c 4 t) (iblk m c 5 t) (iblk m c 6 t) (iblk m c 7 t) (iblk m c 8 t) (ix3 q r j)
    = fK (aX m c) (aN m c) (aW m c) (ix3 q i j) :=
  (outK_at _ _ _ _ _ _ _ _ _ _ q r j).trans (col_low m c t r i hi _ (by show 512 + (q.val * 64 + j.val) < 1280; omega))
theorem tileV (q : Fin 2) (j : Fin 64) : out0_11 (F := Ideal) (grid0.coords t) (iblk m c 0 t) (iblk m c 1 t) (iblk m c 2 t) (iblk m c 3 t) (iblk m c 4 t) (iblk m c 5 t) (iblk m c 6 t) (iblk m c 7 t) (iblk m c 8 t) (ix3 q r j)
    = fV (aX m c) (aN m c) (aW m c) (ix3 q i j) :=
  (outV_at _ _ _ _ _ _ _ _ _ _ q r j).trans (col_low m c t r i hi _ (by show 640 + (q.val * 64 + j.val) < 1280; omega))
theorem tileD (j : Fin 128) : out0_14 (F := Ideal) (grid0.coords t) (iblk m c 0 t) (iblk m c 1 t) (iblk m c 2 t) (iblk m c 3 t) (iblk m c 4 t) (iblk m c 5 t) (iblk m c 6 t) (iblk m c 7 t) (iblk m c 8 t) (ix2 r j)
    = fD (aX m c) (aN m c) (aW m c) (ix2 i j) := by
  refine (outD_at _ _ _ _ _ _ _ _ _ _ r j).trans ((col_steps m c t r i hi _ (by show 3328 ≤ 3328 + j.val; omega)).trans ?_)
  have e : 3328 + j.val - 3328 = j.val := by omega
  simp only [e]
  rfl
theorem tileG (j : Fin 2048) : out0_15 (F := Ideal) (grid0.coords t) (iblk m c 0 t) (iblk m c 1 t) (iblk m c 2 t) (iblk m c 3 t) (iblk m c 4 t) (iblk m c 5 t) (iblk m c 6 t) (iblk m c 7 t) (iblk m c 8 t) (ix2 r j)
    = fG (aX m c) (aN m c) (aW m c) (aB m c) (ix2 i j) := by
  refine (outG_at _ _ _ _ _ _ _ _ _ _ r j).trans ?_
  rw [col_mid m c t r i hi _ ⟨by show 1280 ≤ 1280 + j.val; omega, by show 1280 + j.val < 3328; omega⟩, read_bg]
  have e : 1280 + j.val - 1280 = j.val := by omega
  simp only [e]
  rfl
theorem tileX (ch : Fin 768) : out0_13 (F := Ideal) (grid0.coords t) (iblk m c 0 t) (iblk m c 1 t) (iblk m c 2 t) (iblk m c 3 t) (iblk m c 4 t) (iblk m c 5 t) (iblk m c 6 t) (iblk m c 7 t) (iblk m c 8 t) (ix2 r ch)
    = fX (aX m c) (aN m c) (aW m c) (aC m c) (aD m c) (ix2 i ch) := by
  refine (outX_at _ _ _ _ _ _ _ _ _ _ r ch).trans ?_
  have e0 := rows_near m c t r i hi 0 ⟨5 + r.val, by omega⟩ (by show 5 + r.val = 5 + 0 + r.val; omega) ch
  have e1 := rows_near m c t r i hi 1 ⟨6 + r.val, by omega⟩ (by show 6 + r.val = 5 + 1 + r.val; omega) ch
  have e2 := rows_near m c t r i hi 2 ⟨7 + r.val, by omega⟩ (by show 7 + r.val = 5 + 2 + r.val; omega) ch
  have e3 := rows_near m c t r i hi 3 ⟨8 + r.val, by omega⟩ (by show 8 + r.val = 5 + 3 + r.val; omega) ch
  have e4 := rows_near m c t r i hi 4 ⟨9 + r.val, by omega⟩ (by show 9 + r.val = 5 + 4 + r.val; omega) ch
  have e5 := rows_near m c t r i hi 5 ⟨10 + r.val, by omega⟩ (by show 10 + r.val = 5 + 5 + r.val; omega) ch
  have e6 := rows_near m c t r i hi 6 ⟨11 + r.val, by omega⟩ (by show 11 + r.val = 5 + 6 + r.val; omega) ch
  have c0 : iblk m c 7 t (ix2 0 ch) = aC m c (ix3 0 0 ch) := read_cw m c t 0 ch
  have c1 : iblk m c 7 t (ix2 1 ch) = aC m c (ix3 0 1 ch) := read_cw m c t 1 ch
  have c2 : iblk m c 7 t (ix2 2 ch) = aC m c (ix3 0 2 ch) := read_cw m c t 2 ch
  have c3 : iblk m c 7 t (ix2 3 ch) = aC m c (ix3 0 3 ch) := read_cw m c t 3 ch
  have c4 : iblk m c 7 t (ix2 4 ch) = aC m c (ix3 0 4 ch) := read_cw m c t 4 ch
  have c5 : iblk m c 7 t (ix2 5 ch) = aC m c (ix3 0 5 ch) := read_cw m c t 5 ch
  have c6 : iblk m c 7 t (ix2 6 ch) = aC m c (ix3 0 6 ch) := read_cw m c t 6 ch
  have b := read_cb m c t ch
  simp only [e0, e1, e2, e3, e4, e5, e6, c0, c1, c2, c3, c4, c5, c6, b]
  rfl

end outs

end Cert.Proof.Inp

end
-- ==== Proof.InRun.lean ====
/-
  The input projection's launch leaves the formula in its seven arrays.
-/
module

public import proofs.«01_k».proof.Proof.InTile

@[expose] public section

set_option maxRecDepth 16384

noncomputable section

namespace Cert.Proof.Inp

open Cert.Proof.Gmm
open Cert.Kernel4Ideal Cert.Kernel4Ideal.Gen
open Idealize.ShloMosaic Idealize.ShloMosaic.TcCoe Idealize.SL.Sem

variable (m : (ℓ : Loc nD τ sig) → Buf (Elt Ideal) ℓ) (c : Dev nD)

/-- A tile's row among all rows. -/
def place_of (t : Fin 64) (r : Fin 512) : Fin 32768 := ⟨t.val * 512 + r.val, by omega⟩

theorem finalQ : (dats m 0 c).arrAt 9 cfg0.N = (fQ (aX m c) (aN m c) (aW m c) : S32768x512.Idx → EReal) := by
  refine (dats m 0 c).arrAt_eq_of_covers 9 (fQ (aX m c) (aN m c) (aW m c)) (by decide +kernel) fun t _ y => ?_
  have key : ∀ (j : S512x512.Idx) (i : S32768x512.Idx), (∀ a : Fin 2, (i a).val = cc0_transform_9 (grid0.coords t) a * S512x512.size a + 1 * (j a).val) →
      (dats m 0 c).after 9 t j = fQ (aX m c) (aN m c) (aW m c) i := fun j i h => by
    obtain ⟨r, k, rfl⟩ : ∃ (r : Fin 512) (k : Fin 512), j = ix2 r k := ⟨j 0, j 1, eq_ix2 j⟩
    obtain rfl := ix_key i (place_of t r) k _ t.val (own_ix t) r rfl h
    rw [after0_9]
    exact tileQ m c t r (place_of t r) rfl k
  exact key y (((cfg0.win 9).blk t).view.emb y) fun a => by fin_cases a <;> rfl

theorem finalK : (dats m 0 c).arrAt 10 cfg0.N = (fK (aX m c) (aN m c) (aW m c) : S2x32768x64.Idx → EReal) := by
  refine (dats m 0 c).arrAt_eq_of_covers 10 (fK (aX m c) (aN m c) (aW m c)) (by decide +kernel) fun t _ y => ?_
  have key : ∀ (j : S2x512x64.Idx) (i : S2x32768x64.Idx), (∀ a : Fin 3, (i a).val = cc0_transform_10 (grid0.coords t) a * S2x512x64.size a + 1 * (j a).val) →
      (dats m 0 c).after 10 t j = fK (aX m c) (aN m c) (aW m c) i := fun j i h => by
    obtain ⟨q, r, k, rfl⟩ : ∃ (q : Fin 2) (r : Fin 512) (k : Fin 64), j = ix3 q r k := ⟨j 0, j 1, j 2, eq_ix3 j⟩
    obtain rfl := ix3_key i q (place_of t r) k _ t.val (head_ix t) r rfl h
    rw [after0_10]
    exact tileK m c t r (place_of t r) rfl q k
  exact key y (((cfg0.win 10).blk t).view.emb y) fun a => by fin_cases a <;> rfl

theorem finalV : (dats m 0 c).arrAt 11 cfg0.N = (fV (aX m c) (aN m c) (aW m c) : S2x32768x64.Idx → EReal) := by
  refine (dats m 0 c).arrAt_eq_of_covers 11 (fV (aX m c) (aN m c) (aW m c)) (by decide +kernel) fun t _ y => ?_
  have key : ∀ (j : S2x512x64.Idx) (i : S2x32768x64.Idx), (∀ a : Fin 3, (i a).val = cc0_transform_11 (grid0.coords t) a * S2x512x64.size a + 1 * (j a).val) →
      (dats m 0 c).after 11 t j = fV (aX m c) (aN m c) (aW m c) i := fun j i h => by
    obtain ⟨q, r, k, rfl⟩ : ∃ (q : Fin 2) (r : Fin 512) (k : Fin 64), j = ix3 q r k := ⟨j 0, j 1, j 2, eq_ix3 j⟩
    obtain rfl := ix3_key i q (place_of t r) k _ t.val (head_ix t) r rfl h
    rw [after0_11]
    exact tileV m c t r (place_of t r) rfl q k
  exact key y (((cfg0.win 11).blk t).view.emb y) fun a => by fin_cases a <;> rfl

theorem finalZ : (dats m 0 c).arrAt 12 cfg0.N = (fZ (aX m c) (aN m c) (aW m c) : S32768x512.Idx → EReal) := by
  refine (dats m 0 c).arrAt_eq_of_covers 12 (fZ (aX m c) (aN m c) (aW m c)) (by decide +kernel) fun t _ y => ?_
  have key : ∀ (j : S512x512.Idx) (i : S32768x512.Idx), (∀ a : Fin 2, (i a).val = cc0_transform_12 (grid0.coords t) a * S512x512.size a + 1 * (j a).val) →
      (dats m 0 c).after 12 t j = fZ (aX m c) (aN m c) (aW m c) i := fun j i h => by
    obtain ⟨r, k, rfl⟩ : ∃ (r : Fin 512) (k : Fin 512), j = ix2 r k := ⟨j 0, j 1, eq_ix2 j⟩
    obtain rfl := ix_key i (place_of t r) k _ t.val (own_ix t) r rfl h
    rw [after0_12]
    exact tileZ m c t r (place_of t r) rfl k
  exact key y (((cfg0.win 12).blk t).view.emb y) fun a => by fin_cases a <;> rfl

theorem finalX : (dats m 0 c).arrAt 13 cfg0.N = (fX (aX m c) (aN m c) (aW m c) (aC m c) (aD m c) : S32768x768.Idx → EReal) := by
  refine (dats m 0 c).arrAt_eq_of_covers 13 (fX (aX m c) (aN m c) (aW m c) (aC m c) (aD m c)) (by decide +kernel) fun t _ y => ?_
  have key : ∀ (j : S512x768.Idx) (i : S32768x768.Idx), (∀ a : Fin 2, (i a).val = cc0_transform_13 (grid0.coords t) a * S512x768.size a + 1 * (j a).val) →
      (dats m 0 c).after 13 t j = fX (aX m c) (aN m c) (aW m c) (aC m c) (aD m c) i := fun j i h => by
    obtain ⟨r, k, rfl⟩ : ∃ (r : Fin 512) (k : Fin 768), j = ix2 r k := ⟨j 0, j 1, eq_ix2 j⟩
    obtain rfl := ix_key i (place_of t r) k _ t.val (own_ix t) r rfl h
    rw [after0_13]
    exact tileX m c t r (place_of t r) rfl k
  exact key y (((cfg0.win 13).blk t).view.emb y) fun a => by fin_cases a <;> rfl

theorem finalD : (dats m 0 c).arrAt 14 cfg0.N = (fD (aX m c) (aN m c) (aW m c) : S32768x128.Idx → EReal) := by
  refine (dats m 0 c).arrAt_eq_of_covers 14 (fD (aX m c) (aN m c) (aW m c)) (by decide +kernel) fun t _ y => ?_
  have key : ∀ (j : S512x128.Idx) (i : S32768x128.Idx), (∀ a : Fin 2, (i a).val = cc0_transform_14 (grid0.coords t) a * S512x128.size a + 1 * (j a).val) →
      (dats m 0 c).after 14 t j = fD (aX m c) (aN m c) (aW m c) i := fun j i h => by
    obtain ⟨r, k, rfl⟩ : ∃ (r : Fin 512) (k : Fin 128), j = ix2 r k := ⟨j 0, j 1, eq_ix2 j⟩
    obtain rfl := ix_key i (place_of t r) k _ t.val (own_ix t) r rfl h
    rw [after0_14]
    exact tileD m c t r (place_of t r) rfl k
  exact key y (((cfg0.win 14).blk t).view.emb y) fun a => by fin_cases a <;> rfl

theorem finalG : (dats m 0 c).arrAt 15 cfg0.N = (fG (aX m c) (aN m c) (aW m c) (aB m c) : S32768x2048.Idx → EReal) := by
  refine (dats m 0 c).arrAt_eq_of_covers 15 (fG (aX m c) (aN m c) (aW m c) (aB m c)) (by decide +kernel) fun t _ y => ?_
  have key : ∀ (j : S512x2048.Idx) (i : S32768x2048.Idx), (∀ a : Fin 2, (i a).val = cc0_transform_15 (grid0.coords t) a * S512x2048.size a + 1 * (j a).val) →
      (dats m 0 c).after 15 t j = fG (aX m c) (aN m c) (aW m c) (aB m c) i := fun j i h => by
    obtain ⟨r, k, rfl⟩ : ∃ (r : Fin 512) (k : Fin 2048), j = ix2 r k := ⟨j 0, j 1, eq_ix2 j⟩
    obtain rfl := ix_key i (place_of t r) k _ t.val (own_ix t) r rfl h
    rw [after0_15]
    exact tileG m c t r (place_of t r) rfl k
  exact key y (((cfg0.win 15).blk t).view.emb y) fun a => by fin_cases a <;> rfl

/-- What the run ends with. -/
theorem run (ρ : Dev nD → PrngReg) : θ_run defs (onTc (τ := τ) (main (F := Ideal))) ⟨m, fun _ => 0, ρ⟩ fun r => ∀ c : Dev nD,
      r.2.mem ((c : Thread nD τ).loc main_v20_0) = fQ (aX m c) (aN m c) (aW m c)
      ∧ r.2.mem ((c : Thread nD τ).loc main_v20_1) = fK (aX m c) (aN m c) (aW m c)
      ∧ r.2.mem ((c : Thread nD τ).loc main_v20_2) = fV (aX m c) (aN m c) (aW m c)
      ∧ r.2.mem ((c : Thread nD τ).loc main_v20_3) = fZ (aX m c) (aN m c) (aW m c)
      ∧ r.2.mem ((c : Thread nD τ).loc main_v20_4) = fX (aX m c) (aN m c) (aW m c) (aC m c) (aD m c)
      ∧ r.2.mem ((c : Thread nD τ).loc main_v20_5) = fD (aX m c) (aN m c) (aW m c)
      ∧ r.2.mem ((c : Thread nD τ).loc main_v20_6) = fG (aX m c) (aN m c) (aW m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Cert.Kernel4Ideal.Value.run_blocks m ρ)
  obtain ⟨h0, h1, h2, h3, h4, h5, h6, ha⟩ := h c
  exact ⟨h0.trans (finalQ m c), h1.trans (finalK m c), h2.trans (finalV m c), h3.trans (finalZ m c), h4.trans (finalX m c), h5.trans (finalD m c), h6.trans (finalG m c), ha⟩

end Cert.Proof.Inp

end
-- ==== Proof.Inp.lean ====
/-
  The input projection: the four statements about it.
-/
module

public import proofs.«01_k».proof.Defs
public import proofs.«01_k».proof.Proof.InRef
public import proofs.«01_k».proof.Proof.InRun
public import proofs.«01_k».proof.Proof.Gen.Kernel4
public import proofs.«01_k».proof.Proof.Gen.Kernel4.Skeleton

@[expose] public section

noncomputable section

namespace Cert.Proof

open Idealize.ShloMosaic Idealize.SL.Sem

/-- The printed program is the ideal one's text, so its runs are that one's, read over the bits. -/
theorem same_text_project : Cert.quiescent_Kernel4 = ∀ (m : (ℓ : Loc Cert.Kernel4Ideal.nD Cert.Kernel4Ideal.τ Cert.Kernel4Ideal.sig) → Buf (Elt Bits) ℓ) (ρ : Dev Cert.Kernel4Ideal.nD → PrngReg), True →
    θ_run (Cert.Kernel4Ideal.defs (F := Bits)) (onTc (τ := Cert.Kernel4Ideal.τ) (Cert.Kernel4Ideal.main (F := Bits))) ⟨m, fun _ => 0, ρ⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0) := by
  sl_kernel_rfl

theorem frame_project : Cert.quiescent_Kernel4 := same_text_project ▸ fun m ρ _ => Cert.Kernel4Ideal.Gen.frame (F := Bits) m ρ

theorem frame_project_ideal : Cert.quiescent_Kernel4Ideal := fun m ρ _ => Cert.Kernel4Ideal.Gen.frame m ρ

theorem frame_project_reference : Cert.quiescent_Reference4Ideal := fun m ρ _ =>
  (θ_run Cert.Reference4Ideal.defs _ _).mono (fun r h => ⟨fun c => (h c).2.2.2.2.2.2.2, Idealize.ShloMosaic.sem_eq_zero_of_no_sems (by decide) r.2⟩)
    (Inp.ref_run m ρ)

theorem algebraic_project : Cert.algebraic_Kernel4Ideal_Reference4Ideal := by
  intro m ρ m' ρ' _ hagree
  refine ⟨fun c => Inp.fQ (Inp.aX m c) (Inp.aN m c) (Inp.aW m c), fun c => Inp.fK (Inp.aX m c) (Inp.aN m c) (Inp.aW m c), fun c => Inp.fV (Inp.aX m c) (Inp.aN m c) (Inp.aW m c),
    fun c => Inp.fZ (Inp.aX m c) (Inp.aN m c) (Inp.aW m c), fun c => Inp.fX (Inp.aX m c) (Inp.aN m c) (Inp.aW m c) (Inp.aC m c) (Inp.aD m c), fun c => Inp.fD (Inp.aX m c) (Inp.aN m c) (Inp.aW m c),
    fun c => Inp.fG (Inp.aX m c) (Inp.aN m c) (Inp.aW m c) (Inp.aB m c), Inp.run m ρ, ?_⟩
  refine (θ_run Cert.Reference4Ideal.defs _ _).mono (fun r h c => ?_) (Inp.ref_run m' ρ')
  obtain ⟨h0, h1, h2, h3, h4, h5, h6, ha⟩ := h c
  obtain ⟨e0, e1, e2, e3, e4, e5⟩ := hagree c
  rw [e0, e1, e2] at h0 h1 h2 h3 h5
  rw [e0, e1, e2, e4, e5] at h4
  rw [e0, e1, e2, e3] at h6
  exact ⟨h0, h1, h2, h3, h4, h5, h6, ha⟩

end Cert.Proof

end
-- ==== Proof.OutForm.lean ====
/-
  The output projection as a formula: the tokens after it and their norms' two halves, entry by entry, over the extended
  reals, for the second half of the tokens.
-/
module

public import proofs.«01_k».proof.Proof.InForm

@[expose] public section

noncomputable section

namespace Cert.Proof.Outp

open Cert.Proof.Gmm Cert.Proof.Inp
open Idealize.ShloMosaic

/-- The two branches' projections, each times its gates. -/
def merge (g : Fin 2048 → EReal) (a s : Fin 512 → EReal) (wa ws : Fin 512 → Fin 1024 → EReal) (k : Fin 1024) : EReal :=
  g ⟨k.val, by omega⟩ * dotRow a wa k + g ⟨1024 + k.val, by omega⟩ * dotRow s ws k

/-- A token's row after the projection. -/
def after (x : Fin 1024 → EReal) (g : Fin 2048 → EReal) (a s : Fin 512 → EReal) (wa ws : Fin 512 → Fin 1024 → EReal) (wo : Fin 1024 → Fin 1024 → EReal) (k : Fin 1024) : EReal :=
  x k + dotRow (merge g a s wa ws) wo k

/-- A token's row, the tokens of all sequences in one line. -/
def tok {K : ℕ} (x : (⟨3, ![8, 4096, K]⟩ : Shape).Idx → EReal) (i : Fin 32768) (k : Fin K) : EReal := x (ix3 ⟨i.val / 4096, by omega⟩ ⟨i.val % 4096, by omega⟩ k)

variable (x : FVec Ideal ⟨3, ![8, 4096, 1024]⟩ .f32) (s a : FVec Ideal ⟨3, ![8, 4096, 512]⟩ .bf16) (g : FVec Ideal ⟨2, ![32768, 2048]⟩ .bf16)
  (ws wa : FVec Ideal ⟨3, ![1, 512, 1024]⟩ .f32) (wo : FVec Ideal ⟨3, ![1, 1024, 1024]⟩ .f32) (nw : FVec Ideal ⟨2, ![1, 1024]⟩ .f32)

/-- The row of token `i`. -/
def token (i : Fin 32768) (k : Fin 1024) : EReal :=
  after (tok x i) (fun k => g (ix2 i k)) (tok a i) (tok s i) (fun k j => wa (ix3 0 k j)) (fun k j => ws (ix3 0 k j)) (fun k j => wo (ix3 0 k j)) k

/-- Its norm. -/
def normed (i : Fin 32768) (k : Fin 1024) : EReal := Inp.norm (token x s a g ws wa wo i) (fun k => nw (ix2 0 k)) k

/-- A row of the second half, among all rows. -/
abbrev second (i : Fin 16384) : Fin 32768 := ⟨16384 + i.val, by omega⟩

/-- The three results. -/
def fT (j : (⟨2, ![16384, 1024]⟩ : Shape).Idx) : EReal := token x s a g ws wa wo (second (j 0)) (j 1)
def fA (j : (⟨2, ![16384, 512]⟩ : Shape).Idx) : EReal := normed x s a g ws wa wo nw (second (j 0)) (colA (j 1))
def fB (j : (⟨2, ![16384, 512]⟩ : Shape).Idx) : EReal := normed x s a g ws wa wo nw (second (j 0)) (colB (j 1))

end Cert.Proof.Outp

end
-- ==== Proof.OutRef.lean ====
/-
  The output projection's reference, entry by entry: the run's formula.
-/
module

public import proofs.«01_k».proof.Proof.OutForm
public import proofs.«01_k».proof.Proof.Gen.Reference5Ideal
public import proofs.«01_k».proof.Proof.Gen.Reference5Ideal.Run

@[expose] public section

set_option maxRecDepth 16384

noncomputable section

namespace Cert.Proof.Outp

open Cert.Proof.Gmm Cert.Proof.Inp
open Cert.Reference5Ideal Cert.Reference5Ideal.Gen Cert.Reference5Ideal.Value
open Idealize.ShloMosaic Idealize.ShloMosaic.TcCoe Idealize.SL.Sem

/-- A branch's projection. -/
def branch (a : FVec Ideal S8x4096x512 .bf16) (w : FVec Ideal S1x512x1024 .f32) : FVec Ideal S8x4096x1024 .f32 :=
  Host.dotGeneral dot_S8x4096x512_S512x1024_S8x4096x1024_2_0_01_1_n_n none (extf .f32 a bitsLt_bf16_f32) (shapeCast _ w shapeCasts_S1x512x1024_S512x1024)

/-- The gates, sequence by sequence. -/
def gates (g : FVec Ideal S32768x2048 .bf16) : FVec Ideal S8x4096x2048 .f32 := shapeCast _ (extf .f32 g bitsLt_bf16_f32) shapeCasts_S32768x2048_S8x4096x2048

/-- The two branches, each times its gates. -/
def mixed (g : FVec Ideal S8x4096x2048 .f32) (a s : FVec Ideal S8x4096x1024 .f32) : FVec Ideal S8x4096x1024 .f32 :=
  addf (mulf (extractStridedSlice S8x4096x1024 ![0, 0, 0] g slices_S8x4096x2048_S8x4096x1024_0_0_0) a)
    (mulf (extractStridedSlice S8x4096x1024 ![0, 0, 1024] g slices_S8x4096x2048_S8x4096x1024_0_0_1024) s)

/-- The tokens after the projection. -/
def tokens (x h : FVec Ideal S8x4096x1024 .f32) (w : FVec Ideal S1x1024x1024 .f32) : FVec Ideal S8x4096x1024 .f32 :=
  addf x (Host.dotGeneral dot_S8x4096x1024_S1024x1024_S8x4096x1024_2_0_01_1_n_n none h (shapeCast _ w shapeCasts_S1x1024x1024_S1024x1024))

/-- Their norms. -/
def norms (x : FVec Ideal S8x4096x1024 .f32) (nw : FVec Ideal S1x1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast _ nw shapeCasts_S1x1024_S1024)))

/-- The second half's tokens, and the two halves of their norms. -/
def lastT (x : FVec Ideal S8x4096x1024 .f32) : FVec Ideal S16384x1024 .f32 := extractStridedSlice S16384x1024 ![16384, 0] (shapeCast _ x shapeCasts_S8x4096x1024_S32768x1024) slices_S32768x1024_S16384x1024_16384_0
def narrow (h : FVec Ideal S8x4096x1024 .f32) : FVec Ideal S32768x1024 .bf16 := truncf .bf16 (shapeCast S32768x1024 h shapeCasts_S8x4096x1024_S32768x1024 : FVec Ideal S32768x1024 .f32) bitsLt_bf16_f32
def lastA (h : FVec Ideal S32768x1024 .bf16) : FVec Ideal S16384x512 .bf16 :=
  fn_main_v36 (F := Ideal) (extractStridedSlice S16384x256 ![16384, 0] h slices_S32768x1024_S16384x256_16384_0) (extractStridedSlice S16384x256 ![16384, 512] h slices_S32768x1024_S16384x256_16384_512)
def lastB (h : FVec Ideal S32768x1024 .bf16) : FVec Ideal S16384x512 .bf16 :=
  fn_main_v39 (F := Ideal) (extractStridedSlice S16384x256 ![16384, 256] h slices_S32768x1024_S16384x256_16384_256) (extractStridedSlice S16384x256 ![16384, 768] h slices_S32768x1024_S16384x256_16384_768)

theorem branch_at (a : FVec Ideal S8x4096x512 .bf16) (w : FVec Ideal S1x512x1024 .f32) (b : Fin 8) (s : Fin 4096) (k : Fin 1024) :
    branch a w (ix3 b s k) = dotRow (fun k => a (ix3 b s k)) (fun k j => w (ix3 0 k j)) k := by
  unfold dotRow
  pointwise [branch]

theorem gates_at (g : FVec Ideal S32768x2048 .bf16) (b : Fin 8) (s : Fin 4096) (k : Fin 2048) : gates g (ix3 b s k) = g (ix2 ⟨b.val * 4096 + s.val, by omega⟩ k) := by
  pointwise [gates]

theorem mixed_at (g : FVec Ideal S8x4096x2048 .f32) (p q : FVec Ideal S8x4096x1024 .f32) (b : Fin 8) (s : Fin 4096) (k : Fin 1024) :
    mixed g p q (ix3 b s k) = g (ix3 b s ⟨k.val, by omega⟩) * p (ix3 b s k) + g (ix3 b s ⟨1024 + k.val, by omega⟩) * q (ix3 b s k) := by
  pointwise [mixed]

theorem tokens_at (x h : FVec Ideal S8x4096x1024 .f32) (w : FVec Ideal S1x1024x1024 .f32) (b : Fin 8) (s : Fin 4096) (k : Fin 1024) :
    tokens x h w (ix3 b s k) = x (ix3 b s k) + dotRow (fun k => h (ix3 b s k)) (fun k j => w (ix3 0 k j)) k := by
  unfold dotRow
  pointwise [tokens]

theorem norms_at (x : FVec Ideal S8x4096x1024 .f32) (nw : FVec Ideal S1x1024 .f32) (b : Fin 8) (s : Fin 4096) (k : Fin 1024) :
    norms x nw (ix3 b s k) = Inp.norm (fun k => x (ix3 b s k)) (fun k => nw (ix2 0 k)) k := by
  unfold Inp.norm
  pointwise [norms]

theorem lastT_at (x : FVec Ideal S8x4096x1024 .f32) (i : Fin 16384) (k : Fin 1024) : lastT x (ix2 i k) = tok x (second i) k := by
  unfold tok
  pointwise [lastT]

theorem narrow_at (h : FVec Ideal S8x4096x1024 .f32) (i : Fin 32768) (k : Fin 1024) : narrow h (ix2 i k) = tok h i k := by
  unfold tok
  pointwise [narrow]

theorem lastA_at (h : FVec Ideal S32768x1024 .bf16) (i : Fin 16384) (k : Fin 512) : lastA h (ix2 i k) = h (ix2 (second i) (colA k)) := by
  unfold colA
  pointwise [lastA, fn_main_v36]
  split_ifs <;> rfl

theorem lastB_at (h : FVec Ideal S32768x1024 .bf16) (i : Fin 16384) (k : Fin 512) : lastB h (ix2 i k) = h (ix2 (second i) (colB k)) := by
  unfold colB
  pointwise [lastB, fn_main_v39]
  split_ifs <;> rfl

section
variable (x : FVec Ideal S8x4096x1024 .f32) (s a : FVec Ideal S8x4096x512 .bf16) (g : FVec Ideal S32768x2048 .bf16)
  (ws wa : FVec Ideal S1x512x1024 .f32) (wo : FVec Ideal S1x1024x1024 .f32) (nw : FVec Ideal S1x1024 .f32)

theorem token_row (i : Fin 32768) (k : Fin 1024) : tok (tokens x (mixed (gates g) (branch a wa) (branch s ws)) wo) i k = token x s a g ws wa wo i k := by
  have hi : (⟨i.val / 4096 * 4096 + i.val % 4096, by omega⟩ : Fin 32768) = i := Fin.ext (by show i.val / 4096 * 4096 + i.val % 4096 = i.val; omega)
  show tokens x (mixed (gates g) (branch a wa) (branch s ws)) wo (ix3 _ _ k) = _
  rw [tokens_at]
  unfold token after
  refine congrArg (_ + ·) (congrFun (congrFun (congrArg dotRow (funext fun k => ?_)) _) k)
  rw [mixed_at, branch_at, branch_at, gates_at, gates_at]
  show g (ix2 ⟨i.val / 4096 * 4096 + i.val % 4096, _⟩ _) * _ + g (ix2 ⟨i.val / 4096 * 4096 + i.val % 4096, _⟩ _) * _ = _
  rw [hi]
  rfl

theorem norm_row (i : Fin 32768) (k : Fin 1024) : tok (norms (tokens x (mixed (gates g) (branch a wa) (branch s ws)) wo) nw) i k = normed x s a g ws wa wo nw i k := by
  show norms _ nw (ix3 _ _ k) = _
  rw [norms_at]
  exact congrFun (congrFun (congrArg Inp.norm (funext fun k => token_row x s a g ws wa wo i k)) _) k

theorem refT : lastT (tokens x (mixed (gates g) (branch a wa) (branch s ws)) wo) = fT x s a g ws wa wo := by
  funext j
  obtain ⟨i, k, rfl⟩ : ∃ (i : Fin 16384) (k : Fin 1024), j = ix2 i k := ⟨j 0, j 1, eq_ix2 j⟩
  exact (lastT_at _ i k).trans (token_row x s a g ws wa wo (second i) k)
theorem refA : lastA (narrow (norms (tokens x (mixed (gates g) (branch a wa) (branch s ws)) wo) nw)) = fA x s a g ws wa wo nw := by
  funext j
  obtain ⟨i, k, rfl⟩ : ∃ (i : Fin 16384) (k : Fin 512), j = ix2 i k := ⟨j 0, j 1, eq_ix2 j⟩
  exact (lastA_at _ i k).trans ((narrow_at _ _ _).trans (norm_row x s a g ws wa wo nw (second i) (colA k)))
theorem refB : lastB (narrow (norms (tokens x (mixed (gates g) (branch a wa) (branch s ws)) wo) nw)) = fB x s a g ws wa wo nw := by
  funext j
  obtain ⟨i, k, rfl⟩ : ∃ (i : Fin 16384) (k : Fin 512), j = ix2 i k := ⟨j 0, j 1, eq_ix2 j⟩
  exact (lastB_at _ i k).trans ((narrow_at _ _ _).trans (norm_row x s a g ws wa wo nw (second i) (colB k)))

end

section
variable (m : (ℓ : Loc nD τ sig) → Buf (Elt Ideal) ℓ) (ρ : Dev nD → PrngReg)

/-- The reference's run, its results the formulas. -/
theorem ref_run : θ_run defs (onTc (τ := τ) (main (F := Ideal))) ⟨m, fun _ => 0, ρ⟩ fun r => ∀ c : Dev nD,
      r.2.mem ((c : Thread nD τ).loc main_v33) = fT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v36) = fA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v39) = fB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r h c => ?_) (Cert.Reference5Ideal.Value.run (F := Ideal) m ρ)
  obtain ⟨t, a, b, h'⟩ := h c
  exact ⟨t.trans (refT _ _ _ _ _ _ _), a.trans (refA _ _ _ _ _ _ _ _), b.trans (refB _ _ _ _ _ _ _ _), h'⟩

end

end Cert.Proof.Outp

end
-- ==== Proof.OutVal.lean ====
/-
  The output projection's tile, entry by entry.
-/
module

public import proofs.«01_k».proof.Proof.OutForm
public import proofs.«01_k».proof.Proof.Gen.Kernel5Ideal.Skeleton
public import Idealize.ShloMosaic.Lib.Pipeline.ValueKit

@[expose] public section

set_option maxRecDepth 16384

noncomputable section

namespace Cert.Proof.Outp

open Cert.Proof.Gmm Cert.Proof.Inp
open Cert.Kernel5Ideal Cert.Kernel5Ideal.Gen
open Idealize.ShloMosaic Idealize.ShloMosaic.TcCoe

theorem merge_at (g : Vec Ideal S128x2048 .bf16) (a : Vec Ideal S128x512 .bf16) (wa : Vec Ideal S512x1024 .bf16) (s : Vec Ideal S128x512 .bf16) (ws : Vec Ideal S512x1024 .bf16) (r : Fin 128) (k : Fin 1024) :
    k0_pay6 (F := Ideal) g a wa s ws (ix2 r k)
      = merge (fun k => g (ix2 r k)) (fun k => a (ix2 r k)) (fun k => s (ix2 r k)) (fun k j => wa (ix2 k j)) (fun k j => ws (ix2 k j)) k := by
  unfold merge dotRow
  pointwise [k0_pay6]

theorem after_at (p : FVec Ideal S128x1024 .f32) (x : Vec Ideal S128x1024 .f32) (wo : Vec Ideal S1024x1024 .bf16) (r : Fin 128) (k : Fin 1024) :
    k0_pay22 (F := Ideal) p x wo (ix2 r k) = x (ix2 r k) + dotRow (fun k => p (ix2 r k)) (fun k j => wo (ix2 k j)) k := by
  unfold dotRow
  pointwise [k0_pay22]

theorem norm_at (p : FVec Ideal S128x1024 .f32) (w : Vec Ideal S1x1024 .f32) (r : Fin 128) (k : Fin 1024) :
    k0_pay30 (F := Ideal) p w (ix2 r k) = Inp.norm (fun k => p (ix2 r k)) (fun k => w (ix2 0 k)) k := by
  unfold Inp.norm
  pointwise [k0_pay30]

theorem halfA_at (p : FVec Ideal S128x1024 .f32) (w : Vec Ideal S1x1024 .f32) (r : Fin 128) (j : Fin 512) :
    k0_pay33 (F := Ideal) p w (ix2 r j) = Inp.norm (fun k => p (ix2 r k)) (fun k => w (ix2 0 k)) (colA j) := by
  rw [← norm_at]
  unfold k0_pay33 k0_pay32 colA
  generalize k0_pay30 p w = q
  pointwise
  split <;> rfl

theorem halfB_at (p : FVec Ideal S128x1024 .f32) (w : Vec Ideal S1x1024 .f32) (r : Fin 128) (j : Fin 512) :
    k0_pay34 (F := Ideal) p w (ix2 r j) = Inp.norm (fun k => p (ix2 r k)) (fun k => w (ix2 0 k)) (colB j) := by
  rw [← norm_at]
  unfold k0_pay34 k0_pay32 colB
  generalize k0_pay30 p w = q
  pointwise
  split <;> rfl

section same

variable (g : Vec Ideal S128x2048 .bf16) (a : Vec Ideal S128x512 .bf16) (wa : Vec Ideal S512x1024 .bf16) (s : Vec Ideal S128x512 .bf16) (ws : Vec Ideal S512x1024 .bf16)
  (p : FVec Ideal S128x1024 .f32) (x : Vec Ideal S128x1024 .f32) (wo : Vec Ideal S1024x1024 .bf16) (w : Vec Ideal S1x1024 .f32)

/-- The eight blocks of a tile are all computed as the first is. -/
theorem merge1 : k0_pay9 (k0_pay7 g a wa) (k0_pay8 g) s ws = k0_pay6 g a wa s ws := rfl
theorem merge2 : k0_pay10 g a wa s ws = k0_pay6 g a wa s ws := rfl
theorem merge3 : k0_pay13 (k0_pay11 g a wa) (k0_pay12 g) s ws = k0_pay6 g a wa s ws := rfl
theorem merge4 : k0_pay14 g a wa s ws = k0_pay6 g a wa s ws := rfl
theorem merge5 : k0_pay17 (k0_pay15 g a wa) (k0_pay16 g) s ws = k0_pay6 g a wa s ws := rfl
theorem merge6 : k0_pay18 g a wa s ws = k0_pay6 g a wa s ws := rfl
theorem merge7 : k0_pay21 (k0_pay19 g a wa) (k0_pay20 g) s ws = k0_pay6 g a wa s ws := rfl
theorem after1 : k0_pay23 p x wo = k0_pay22 p x wo := rfl
theorem after2 : k0_pay24 p x wo = k0_pay22 p x wo := rfl
theorem after3 : k0_pay25 p x wo = k0_pay22 p x wo := rfl
theorem after4 : k0_pay26 p x wo = k0_pay22 p x wo := rfl
theorem after5 : k0_pay27 p x wo = k0_pay22 p x wo := rfl
theorem after6 : k0_pay28 p x wo = k0_pay22 p x wo := rfl
theorem after7 : k0_pay29 p x wo = k0_pay22 p x wo := rfl
theorem halfA1 : k0_pay39 p (k0_pay35 p) w = k0_pay33 p w := rfl
theorem halfA2 : k0_pay44 p w = k0_pay33 p w := rfl
theorem halfA3 : k0_pay49 p w = k0_pay33 p w := rfl
theorem halfA4 : k0_pay55 (k0_pay53 p w) (k0_pay54 p w) = k0_pay33 p w := rfl
theorem halfA5 : k0_pay60 p w = k0_pay33 p w := rfl
theorem halfA6 : k0_pay66 p (k0_pay62 p) w = k0_pay33 p w := rfl
theorem halfA7 : k0_pay71 p w = k0_pay33 p w := rfl
theorem halfB1 : k0_pay40 p (k0_pay35 p) w = k0_pay34 p w := rfl
theorem halfB2 : k0_pay45 p w = k0_pay34 p w := rfl
theorem halfB3 : k0_pay50 p w = k0_pay34 p w := rfl
theorem halfB4 : k0_pay56 (k0_pay53 p w) = k0_pay34 p w := rfl
theorem halfB5 : k0_pay61 p w = k0_pay34 p w := rfl
theorem halfB6 : k0_pay67 p (k0_pay62 p) w = k0_pay34 p w := rfl
theorem halfB7 : k0_pay72 p w = k0_pay34 p w := rfl

end same

end Cert.Proof.Outp

end
-- ==== Proof.OutTile.lean ====
/-
  What each point's body leaves in the three arrays, over the blocks it reads.
-/
module

public import proofs.«01_k».proof.Proof.OutVal
public import proofs.«01_k».proof.Proof.Gen.Kernel5Ideal.Frame

@[expose] public section

set_option maxRecDepth 16384

noncomputable section

namespace Cert.Proof.Outp

open Cert.Proof.Gmm Cert.Proof.Inp
open Cert.Kernel5Ideal Cert.Kernel5Ideal.Gen
open Idealize.ShloMosaic Idealize.ShloMosaic.TcCoe

section piece

variable (x0 : Vec Ideal S1024x1024 .f32) (x1 x2 : Vec Ideal S1024x512 .bf16) (x3 : Vec Ideal S1024x2048 .bf16) (x4 x5 : Vec Ideal S512x1024 .bf16) (x6 : Vec Ideal S1024x1024 .bf16) (x7 : Vec Ideal S1x1024 .f32)

/-- A row of the tile after the projection. -/
def tileRow (r k : Fin 1024) : EReal :=
  after (fun k => x0 (ix2 r k)) (fun k => x3 (ix2 r k)) (fun k => x2 (ix2 r k)) (fun k => x1 (ix2 r k)) (fun k j => x5 (ix2 k j)) (fun k j => x4 (ix2 k j)) (fun k j => x6 (ix2 k j)) k

/-- Rows read from a block on. -/
theorem ld_row {e : EltTy} {N : ℕ} (x : (⟨2, ![1024, N]⟩ : Shape).Idx → Elt Ideal e) (o : ℕ) (inb : ∀ q, (![o, 0] : Fin 2 → ℕ) q + (![128, N] : Fin 2 → ℕ) q ≤ (⟨2, ![1024, N]⟩ : Shape).size q)
    (r : Fin 1024) (r' : Fin 128) (h : r.val = o + r'.val) (k : Fin N) :
    View.ld (Val := Elt Ideal) (e' := e) x (Rect.unit (s := ⟨2, ![1024, N]⟩) ![o, 0] ![128, N] inb) (ix2 r' k) = x (ix2 r k) :=
  View.ld_unit_apply_of _ _ _ _ _ _ fun q => by fin_cases q <;> simp [h]

variable (o : ℕ) (i3 : ∀ q, (![o, 0] : Fin 2 → ℕ) q + (![128, 2048] : Fin 2 → ℕ) q ≤ S1024x2048.size q) (i1 i2 : ∀ q, (![o, 0] : Fin 2 → ℕ) q + (![128, 512] : Fin 2 → ℕ) q ≤ S1024x512.size q)
  (i0 : ∀ q, (![o, 0] : Fin 2 → ℕ) q + (![128, 1024] : Fin 2 → ℕ) q ≤ S1024x1024.size q)

/-- The block of rows from `o` on. -/
abbrev blk : FVec Ideal S128x1024 .f32 :=
  k0_pay22 (k0_pay6 (View.ld (Val := Elt Ideal) (e' := .bf16) x3 (Rect.unit (s := S1024x2048) ![o, 0] ![128, 2048] i3)) (View.ld (Val := Elt Ideal) (e' := .bf16) x2 (Rect.unit (s := S1024x512) ![o, 0] ![128, 512] i2)) x5
    (View.ld (Val := Elt Ideal) (e' := .bf16) x1 (Rect.unit (s := S1024x512) ![o, 0] ![128, 512] i1)) x4) (View.ld (Val := Elt Ideal) (e' := .f32) x0 (Rect.unit (s := S1024x1024) ![o, 0] ![128, 1024] i0)) x6

theorem blk_at (r : Fin 1024) (r' : Fin 128) (h : r.val = o + r'.val) (k : Fin 1024) : blk x0 x1 x2 x3 x4 x5 x6 o i3 i1 i2 i0 (ix2 r' k) = tileRow x0 x1 x2 x3 x4 x5 x6 r k := by
  refine (after_at _ _ _ r' k).trans ?_
  unfold tileRow after
  have e0 := ld_row (e := .f32) x0 o i0 r r' h
  have e1 := ld_row (e := .bf16) x1 o i1 r r' h
  have e2 := ld_row (e := .bf16) x2 o i2 r r' h
  have e3 := ld_row (e := .bf16) x3 o i3 r r' h
  refine congrArg₂ (· + ·) (e0 k) ?_
  refine congrArg (fun p => dotRow p (fun k j => x6 (ix2 k j)) k) (funext fun q => (merge_at _ _ _ _ _ r' q).trans ?_)
  rw [show (fun k => View.ld (Val := Elt Ideal) (e' := .bf16) x3 (Rect.unit (s := S1024x2048) ![o, 0] ![128, 2048] i3) (ix2 r' k)) = fun k => x3 (ix2 r k) from funext e3,
    show (fun k => View.ld (Val := Elt Ideal) (e' := .bf16) x2 (Rect.unit (s := S1024x512) ![o, 0] ![128, 512] i2) (ix2 r' k)) = fun k => x2 (ix2 r k) from funext e2,
    show (fun k => View.ld (Val := Elt Ideal) (e' := .bf16) x1 (Rect.unit (s := S1024x512) ![o, 0] ![128, 512] i1) (ix2 r' k)) = fun k => x1 (ix2 r k) from funext e1]

theorem pieceT (r k : Fin 1024) (x : S128x1024.Idx) (h0 : r.val = o + (x 0).val) (h1 : k.val = (x 1).val) :
    blk x0 x1 x2 x3 x4 x5 x6 o i3 i1 i2 i0 x = tileRow x0 x1 x2 x3 x4 x5 x6 r k := by
  obtain ⟨r', k', rfl⟩ : ∃ (r' : Fin 128) (k' : Fin 1024), x = ix2 r' k' := ⟨x 0, x 1, eq_ix2 x⟩
  obtain rfl : k = k' := Fin.ext h1
  exact blk_at x0 x1 x2 x3 x4 x5 x6 o i3 i1 i2 i0 r r' h0 k

theorem pieceA (r : Fin 1024) (k : Fin 512) (x : S128x512.Idx) (h0 : r.val = o + (x 0).val) (h1 : k.val = (x 1).val) :
    k0_pay33 (blk x0 x1 x2 x3 x4 x5 x6 o i3 i1 i2 i0) x7 x = Inp.norm (tileRow x0 x1 x2 x3 x4 x5 x6 r) (fun k => x7 (ix2 0 k)) (colA k) := by
  obtain ⟨r', k', rfl⟩ : ∃ (r' : Fin 128) (k' : Fin 512), x = ix2 r' k' := ⟨x 0, x 1, eq_ix2 x⟩
  obtain rfl : k = k' := Fin.ext h1
  exact (halfA_at _ _ r' k).trans (congrArg (fun p => Inp.norm p _ (colA k)) (funext fun q => blk_at x0 x1 x2 x3 x4 x5 x6 o i3 i1 i2 i0 r r' h0 q))

theorem pieceB (r : Fin 1024) (k : Fin 512) (x : S128x512.Idx) (h0 : r.val = o + (x 0).val) (h1 : k.val = (x 1).val) :
    k0_pay34 (blk x0 x1 x2 x3 x4 x5 x6 o i3 i1 i2 i0) x7 x = Inp.norm (tileRow x0 x1 x2 x3 x4 x5 x6 r) (fun k => x7 (ix2 0 k)) (colB k) := by
  obtain ⟨r', k', rfl⟩ : ∃ (r' : Fin 128) (k' : Fin 512), x = ix2 r' k' := ⟨x 0, x 1, eq_ix2 x⟩
  obtain rfl : k = k' := Fin.ext h1
  exact (halfB_at _ _ r' k).trans (congrArg (fun p => Inp.norm p _ (colB k)) (funext fun q => blk_at x0 x1 x2 x3 x4 x5 x6 o i3 i1 i2 i0 r r' h0 q))

end piece

variable (m : (ℓ : Loc nD τ sig) → Buf (Elt Ideal) ℓ) (c : Dev nD)

theorem outT_at (t : Fin cfg0.N) (r k : Fin 1024) : (outsAt0 m c t.val t.isLt).1 (ix2 r k)
    = tileRow (iblk m c 0 t) (iblk m c 1 t) (iblk m c 2 t) (iblk m c 3 t) (iblk m c 4 t) (iblk m c 5 t) (iblk m c 6 t) r k := by
  by_cases h : t.val % 16 = 0
  · rw [outsAt0_A m c t h]
    generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10
    frame_out
    simp only [merge1, merge2, merge3, merge4, merge5, merge6, merge7, after1, after2, after3, after4, after5, after6, after7]
    canon_tiles
    all_goals
      refine pieceT x0 x1 x2 x3 x4 x5 x6 _ _ _ _ _ r k x ?_ h1
      first | exact h0 | exact h0.trans (Nat.zero_add _).symm
  · rw [outsAt0_B m c t h]
    generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10
    frame_out
    simp only [merge1, merge2, merge3, merge4, merge5, merge6, merge7, after1, after2, after3, after4, after5, after6, after7]
    canon_tiles
    all_goals
      refine pieceT x0 x1 x2 x3 x4 x5 x6 _ _ _ _ _ r k x ?_ h1
      first | exact h0 | exact h0.trans (Nat.zero_add _).symm

theorem outA_at (t : Fin cfg0.N) (r : Fin 1024) (k : Fin 512) : (outsAt0 m c t.val t.isLt).2.1 (ix2 r k)
    = Inp.norm (tileRow (iblk m c 0 t) (iblk m c 1 t) (iblk m c 2 t) (iblk m c 3 t) (iblk m c 4 t) (iblk m c 5 t) (iblk m c 6 t) r) (fun k => iblk m c 7 t (ix2 0 k)) (colA k) := by
  by_cases h : t.val % 16 = 0
  · rw [outsAt0_A m c t h]
    generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10
    frame_out
    simp only [merge1, merge2, merge3, merge4, merge5, merge6, merge7, after1, after2, after3, after4, after5, after6, after7, halfA1, halfA2, halfA3, halfA4, halfA5, halfA6, halfA7]
    canon_tiles
    all_goals
      refine pieceA x0 x1 x2 x3 x4 x5 x6 x7 _ _ _ _ _ r k x ?_ h1
      first | exact h0 | exact h0.trans (Nat.zero_add _).symm
  · rw [outsAt0_B m c t h]
    generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10
    frame_out
    simp only [merge1, merge2, merge3, merge4, merge5, merge6, merge7, after1, after2, after3, after4, after5, after6, after7, halfA1, halfA2, halfA3, halfA4, halfA5, halfA6, halfA7]
    canon_tiles
    all_goals
      refine pieceA x0 x1 x2 x3 x4 x5 x6 x7 _ _ _ _ _ r k x ?_ h1
      first | exact h0 | exact h0.trans (Nat.zero_add _).symm

theorem outB_at (t : Fin cfg0.N) (r : Fin 1024) (k : Fin 512) : (outsAt0 m c t.val t.isLt).2.2.1 (ix2 r k)
    = Inp.norm (tileRow (iblk m c 0 t) (iblk m c 1 t) (iblk m c 2 t) (iblk m c 3 t) (iblk m c 4 t) (iblk m c 5 t) (iblk m c 6 t) r) (fun k => iblk m c 7 t (ix2 0 k)) (colB k) := by
  by_cases h : t.val % 16 = 0
  · rw [outsAt0_A m c t h]
    generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10
    frame_out
    simp only [merge1, merge2, merge3, merge4, merge5, merge6, merge7, after1, after2, after3, after4, after5, after6, after7, halfB1, halfB2, halfB3, halfB4, halfB5, halfB6, halfB7]
    canon_tiles
    all_goals
      refine pieceB x0 x1 x2 x3 x4 x5 x6 x7 _ _ _ _ _ r k x ?_ h1
      first | exact h0 | exact h0.trans (Nat.zero_add _).symm
  · rw [outsAt0_B m c t h]
    generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10
    frame_out
    simp only [merge1, merge2, merge3, merge4, merge5, merge6, merge7, after1, after2, after3, after4, after5, after6, after7, halfB1, halfB2, halfB3, halfB4, halfB5, halfB6, halfB7]
    canon_tiles
    all_goals
      refine pieceB x0 x1 x2 x3 x4 x5 x6 x7 _ _ _ _ _ r k x ?_ h1
      first | exact h0 | exact h0.trans (Nat.zero_add _).symm

end Cert.Proof.Outp

end
-- ==== Proof.OutHost.lean ====
/-
  What the host leaves for the output projection's launch, entry by entry, and the blocks its points read.
-/
module

public import proofs.«01_k».proof.Proof.OutTile

@[expose] public section

set_option maxRecDepth 16384

noncomputable section

namespace Cert.Proof.Outp

open Cert.Proof.Gmm Cert.Proof.Inp
open Cert.Kernel5Ideal Cert.Kernel5Ideal.Gen
open Idealize.ShloMosaic Idealize.ShloMosaic.TcCoe

variable (m : (ℓ : Loc nD τ sig) → Buf (Elt Ideal) ℓ) (c : Dev nD)

/-- The arguments as launched. -/
abbrev aX : FVec Ideal S8x4096x1024 .f32 := m ((c : Thread nD τ).loc main_arg0)
abbrev aS : FVec Ideal S8x4096x512 .bf16 := m ((c : Thread nD τ).loc main_arg1)
abbrev aA : FVec Ideal S8x4096x512 .bf16 := m ((c : Thread nD τ).loc main_arg2)
abbrev aG : FVec Ideal S32768x2048 .bf16 := m ((c : Thread nD τ).loc main_arg3)
abbrev aWs : FVec Ideal S1x512x1024 .f32 := m ((c : Thread nD τ).loc main_arg4)
abbrev aWa : FVec Ideal S1x512x1024 .f32 := m ((c : Thread nD τ).loc main_arg5)
abbrev aWo : FVec Ideal S1x1024x1024 .f32 := m ((c : Thread nD τ).loc main_arg6)
abbrev aN : FVec Ideal S1x1024 .f32 := m ((c : Thread nD τ).loc main_arg7)

theorem V_x_eq : V m c main_v22 = shapeCast S32768x1024 (aX m c) shapeCasts_S8x4096x1024_S32768x1024 := by
  simp only [V, hostOps0, hostOps0_1, hostOps0_2, hostOps0_3, hostOps0_4, hostOps0_5, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl
theorem V_s_eq : V m c main_v23 = shapeCast S32768x512 (aS m c) shapeCasts_S8x4096x512_S32768x512 := by
  simp only [V, hostOps0, hostOps0_1, hostOps0_2, hostOps0_3, hostOps0_4, hostOps0_5, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl
theorem V_a_eq : V m c main_v24 = shapeCast S32768x512 (aA m c) shapeCasts_S8x4096x512_S32768x512 := by
  simp only [V, hostOps0, hostOps0_1, hostOps0_2, hostOps0_3, hostOps0_4, hostOps0_5, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl
theorem V_g_eq : V m c main_arg3 = aG m c := by
  simp only [V, hostOps0, hostOps0_1, hostOps0_2, hostOps0_3, hostOps0_4, hostOps0_5, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
theorem V_ws_eq : V m c main_v14 = (truncf .bf16 (shapeCast S512x1024 (aWs m c) shapeCasts_S1x512x1024_S512x1024 : FVec Ideal S512x1024 .f32) bitsLt_bf16_f32 : FVec Ideal S512x1024 .bf16) := by
  simp only [V, hostOps0, hostOps0_1, hostOps0_2, hostOps0_3, hostOps0_4, hostOps0_5, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl
theorem V_wa_eq : V m c main_v16 = (truncf .bf16 (shapeCast S512x1024 (aWa m c) shapeCasts_S1x512x1024_S512x1024 : FVec Ideal S512x1024 .f32) bitsLt_bf16_f32 : FVec Ideal S512x1024 .bf16) := by
  simp only [V, hostOps0, hostOps0_1, hostOps0_2, hostOps0_3, hostOps0_4, hostOps0_5, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl
theorem V_wo_eq : V m c main_v18 = (truncf .bf16 (shapeCast S1024x1024 (aWo m c) shapeCasts_S1x1024x1024_S1024x1024 : FVec Ideal S1024x1024 .f32) bitsLt_bf16_f32 : FVec Ideal S1024x1024 .bf16) := by
  simp only [V, hostOps0, hostOps0_1, hostOps0_2, hostOps0_3, hostOps0_4, hostOps0_5, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl
theorem V_n_eq : V m c main_v20 = broadcastInDim S1x1024 ![1] bcast_S1024_S1x1024_1 (shapeCast S1024 (aN m c) shapeCasts_S1x1024_S1024) := by
  simp only [V, hostOps0, hostOps0_1, hostOps0_2, hostOps0_3, hostOps0_4, hostOps0_5, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp
  rfl

theorem wide_row (x : FVec Ideal S8x4096x1024 .f32) (i : Fin 32768) (k : Fin 1024) : shapeCast S32768x1024 x shapeCasts_S8x4096x1024_S32768x1024 (ix2 i k) = tok x i k := by
  unfold tok
  pointwise
theorem half_row (x : FVec Ideal S8x4096x512 .bf16) (i : Fin 32768) (k : Fin 512) : shapeCast S32768x512 x shapeCasts_S8x4096x512_S32768x512 (ix2 i k) = tok x i k := by
  unfold tok
  pointwise
theorem V_x (i : Fin 32768) (k : Fin 1024) : V m c main_v22 (ix2 i k) = tok (aX m c) i k := (congrFun (V_x_eq m c) (ix2 i k)).trans (wide_row _ i k)
theorem V_s (i : Fin 32768) (k : Fin 512) : V m c main_v23 (ix2 i k) = tok (aS m c) i k := (congrFun (V_s_eq m c) (ix2 i k)).trans (half_row _ i k)
theorem V_a (i : Fin 32768) (k : Fin 512) : V m c main_v24 (ix2 i k) = tok (aA m c) i k := (congrFun (V_a_eq m c) (ix2 i k)).trans (half_row _ i k)
theorem V_ws (k : Fin 512) (j : Fin 1024) : V m c main_v14 (ix2 k j) = aWs m c (ix3 0 k j) := by
  refine (congrFun (V_ws_eq m c) (ix2 k j)).trans ?_
  pointwise
theorem V_wa (k : Fin 512) (j : Fin 1024) : V m c main_v16 (ix2 k j) = aWa m c (ix3 0 k j) := by
  refine (congrFun (V_wa_eq m c) (ix2 k j)).trans ?_
  pointwise
theorem V_wo (k : Fin 1024) (j : Fin 1024) : V m c main_v18 (ix2 k j) = aWo m c (ix3 0 k j) := by
  refine (congrFun (V_wo_eq m c) (ix2 k j)).trans ?_
  pointwise
theorem V_n (k : Fin 1024) : V m c main_v20 (ix2 0 k) = aN m c (ix2 0 k) := by
  refine (congrFun (V_n_eq m c) (ix2 0 k)).trans ?_
  pointwise

/-- Where a point's blocks start: sixteen tiles into the inputs, at its own place in the outputs. -/
theorem in_ix (t : Fin grid0.N) : cc0_transform_0 (grid0.coords t) = ![t.val + 16, 0] := by
  revert t; decide +kernel
theorem out_ix (t : Fin grid0.N) : cc0_transform_11 (grid0.coords t) = ![t.val, 0] := by
  revert t; decide +kernel
theorem whole_ix (t : Fin grid0.N) : cc0_transform_4 (grid0.coords t) = ![0, 0] := by
  revert t; decide +kernel

/-- An entry named by its coordinates. -/
theorem at_key {M N B : ℕ} (e : (⟨2, ![M, N]⟩ : Shape).Idx) (i : Fin M) (j : Fin N) (o : Fin 2 → ℕ) (p : ℕ) (ho : o = ![p, 0]) (r : Fin B) (hi : i.val = p * B + r.val)
    (h : ∀ a : Fin 2, (e a).val = o a * (![B, N] : Fin 2 → ℕ) a + 1 * (ix2 r j a).val) : e = ix2 i j := by
  subst ho
  have h0 : (e 0).val = p * B + 1 * r.val := h 0
  have h1 : (e 1).val = 0 * N + 1 * j.val := h 1
  funext a
  fin_cases a
  · exact Fin.ext (show (e 0).val = i.val by omega)
  · exact Fin.ext (show (e 1).val = j.val by omega)

variable (t : Fin 16) (r : Fin 1024) (i : Fin 32768) (hi : i.val = (t.val + 16) * 1024 + r.val)

theorem see_x (hi : i.val = (t.val + 16) * 1024 + r.val) (k : Fin 1024) : iblk m c 0 t (ix2 r k) = tok (aX m c) i k :=
  (congrArg (V m c main_v22) (at_key (((cfg0.win 0).blk t).view.emb (ix2 r k)) i k _ (t.val + 16) (in_ix t) r hi fun a => by fin_cases a <;> rfl)).trans (V_x m c i k)
theorem see_s (hi : i.val = (t.val + 16) * 1024 + r.val) (k : Fin 512) : iblk m c 1 t (ix2 r k) = tok (aS m c) i k :=
  (congrArg (V m c main_v23) (at_key (((cfg0.win 1).blk t).view.emb (ix2 r k)) i k _ (t.val + 16) (in_ix t) r hi fun a => by fin_cases a <;> rfl)).trans (V_s m c i k)
theorem see_a (hi : i.val = (t.val + 16) * 1024 + r.val) (k : Fin 512) : iblk m c 2 t (ix2 r k) = tok (aA m c) i k :=
  (congrArg (V m c main_v24) (at_key (((cfg0.win 2).blk t).view.emb (ix2 r k)) i k _ (t.val + 16) (in_ix t) r hi fun a => by fin_cases a <;> rfl)).trans (V_a m c i k)
theorem see_g (hi : i.val = (t.val + 16) * 1024 + r.val) (k : Fin 2048) : iblk m c 3 t (ix2 r k) = aG m c (ix2 i k) :=
  (congrArg (V m c main_arg3) (at_key (((cfg0.win 3).blk t).view.emb (ix2 r k)) i k _ (t.val + 16) (in_ix t) r hi fun a => by fin_cases a <;> rfl)).trans (congrFun (V_g_eq m c) (ix2 i k))
theorem see_ws (k : Fin 512) (j : Fin 1024) : iblk m c 4 t (ix2 k j) = aWs m c (ix3 0 k j) :=
  (congrArg (V m c main_v14) (at_key (((cfg0.win 4).blk t).view.emb (ix2 k j)) k j _ 0 (whole_ix t) k (by omega) fun a => by fin_cases a <;> rfl)).trans (V_ws m c k j)
theorem see_wa (k : Fin 512) (j : Fin 1024) : iblk m c 5 t (ix2 k j) = aWa m c (ix3 0 k j) :=
  (congrArg (V m c main_v16) (at_key (((cfg0.win 5).blk t).view.emb (ix2 k j)) k j _ 0 (whole_ix t) k (by omega) fun a => by fin_cases a <;> rfl)).trans (V_wa m c k j)
theorem see_wo (k : Fin 1024) (j : Fin 1024) : iblk m c 6 t (ix2 k j) = aWo m c (ix3 0 k j) :=
  (congrArg (V m c main_v18) (at_key (((cfg0.win 6).blk t).view.emb (ix2 k j)) k j _ 0 (whole_ix t) k (by omega) fun a => by fin_cases a <;> rfl)).trans (V_wo m c k j)
theorem see_n (k : Fin 1024) : iblk m c 7 t (ix2 0 k) = aN m c (ix2 0 k) :=
  (congrArg (V m c main_v20) (at_key (((cfg0.win 7).blk t).view.emb (ix2 0 k)) 0 k _ 0 (whole_ix t) (0 : Fin 1) rfl fun a => by fin_cases a <;> rfl)).trans (V_n m c k)

/-- A tile's row is the token's. -/
theorem row_eq (hi : i.val = (t.val + 16) * 1024 + r.val) :
    tileRow (iblk m c 0 t) (iblk m c 1 t) (iblk m c 2 t) (iblk m c 3 t) (iblk m c 4 t) (iblk m c 5 t) (iblk m c 6 t) r = token (aX m c) (aS m c) (aA m c) (aG m c) (aWs m c) (aWa m c) (aWo m c) i := by
  funext k
  unfold tileRow token
  have e0 := funext fun k => see_x m c t r i hi k
  have e1 := funext fun k => see_s m c t r i hi k
  have e2 := funext fun k => see_a m c t r i hi k
  have e3 := funext fun k => see_g m c t r i hi k
  have e4 := funext fun k => funext fun j => see_ws m c t k j
  have e5 := funext fun k => funext fun j => see_wa m c t k j
  have e6 := funext fun k => funext fun j => see_wo m c t k j
  exact congr (congr (congr (congr (congr (congr (congr (congrArg after e0) e3) e2) e1) e5) e4) e6) rfl

end Cert.Proof.Outp

end
-- ==== Proof.OutRun.lean ====
/-
  The output projection's launch leaves the formula in the three arrays it returns.
-/
module

public import proofs.«01_k».proof.Proof.OutHost
public import proofs.«01_k».proof.Proof.Gen.Kernel5Ideal.Value

@[expose] public section

set_option maxRecDepth 16384

noncomputable section

namespace Cert.Proof.Outp

open Cert.Proof.Gmm Cert.Proof.Inp
open Cert.Kernel5Ideal Cert.Kernel5Ideal.Gen
open Idealize.ShloMosaic Idealize.ShloMosaic.TcCoe Idealize.SL.Sem

variable (m : (ℓ : Loc nD τ sig) → Buf (Elt Ideal) ℓ) (c : Dev nD)

/-- A tile's row among the second half's rows. -/
def spot (t : Fin 16) (r : Fin 1024) : Fin 16384 := ⟨t.val * 1024 + r.val, by omega⟩
theorem spot_row (t : Fin 16) (r : Fin 1024) : (second (spot t r)).val = (t.val + 16) * 1024 + r.val := by
  show 16384 + (t.val * 1024 + r.val) = _
  omega

theorem leaveT (t : Fin 16) (r : Fin 1024) (k : Fin 1024) :
    (outsAt0 m c t.val t.isLt).1 (ix2 r k) = fT (aX m c) (aS m c) (aA m c) (aG m c) (aWs m c) (aWa m c) (aWo m c) (ix2 (spot t r) k) :=
  (outT_at m c t r k).trans (congrFun (row_eq m c t r (second (spot t r)) (spot_row t r)) k)
theorem leaveA (t : Fin 16) (r : Fin 1024) (k : Fin 512) :
    (outsAt0 m c t.val t.isLt).2.1 (ix2 r k) = fA (aX m c) (aS m c) (aA m c) (aG m c) (aWs m c) (aWa m c) (aWo m c) (aN m c) (ix2 (spot t r) k) :=
  (outA_at m c t r k).trans (congrFun (congr (congrArg Inp.norm (row_eq m c t r (second (spot t r)) (spot_row t r))) (funext fun k => see_n m c t k)) (colA k))
theorem leaveB (t : Fin 16) (r : Fin 1024) (k : Fin 512) :
    (outsAt0 m c t.val t.isLt).2.2.1 (ix2 r k) = fB (aX m c) (aS m c) (aA m c) (aG m c) (aWs m c) (aWa m c) (aWo m c) (aN m c) (ix2 (spot t r) k) :=
  (outB_at m c t r k).trans (congrFun (congr (congrArg Inp.norm (row_eq m c t r (second (spot t r)) (spot_row t r))) (funext fun k => see_n m c t k)) (colB k))

theorem finalT : (dats m 0 c).arrAt 11 cfg0.N = (fT (aX m c) (aS m c) (aA m c) (aG m c) (aWs m c) (aWa m c) (aWo m c) : S16384x1024.Idx → EReal) := by
  refine (dats m 0 c).arrAt_eq_of_covers 11 (fT (aX m c) (aS m c) (aA m c) (aG m c) (aWs m c) (aWa m c) (aWo m c)) (by decide +kernel) fun t _ y => ?_
  have key : ∀ (j : S1024x1024.Idx) (i : S16384x1024.Idx), (∀ a : Fin 2, (i a).val = cc0_transform_11 (grid0.coords t) a * S1024x1024.size a + 1 * (j a).val) →
      (dats m 0 c).after 11 t j = fT (aX m c) (aS m c) (aA m c) (aG m c) (aWs m c) (aWa m c) (aWo m c) i := fun j i h => by
    obtain ⟨r, k, rfl⟩ : ∃ (r : Fin 1024) (k : Fin 1024), j = ix2 r k := ⟨j 0, j 1, eq_ix2 j⟩
    obtain rfl := at_key i (spot t r) k _ t.val (out_ix t) r rfl h
    rw [after0_11]
    exact leaveT m c t r k
  exact key y (((cfg0.win 11).blk t).view.emb y) fun a => by fin_cases a <;> rfl

theorem finalA : (dats m 0 c).arrAt 12 cfg0.N = (fA (aX m c) (aS m c) (aA m c) (aG m c) (aWs m c) (aWa m c) (aWo m c) (aN m c) : S16384x512.Idx → EReal) := by
  refine (dats m 0 c).arrAt_eq_of_covers 12 (fA (aX m c) (aS m c) (aA m c) (aG m c) (aWs m c) (aWa m c) (aWo m c) (aN m c)) (by decide +kernel) fun t _ y => ?_
  have key : ∀ (j : S1024x512.Idx) (i : S16384x512.Idx), (∀ a : Fin 2, (i a).val = cc0_transform_12 (grid0.coords t) a * S1024x512.size a + 1 * (j a).val) →
      (dats m 0 c).after 12 t j = fA (aX m c) (aS m c) (aA m c) (aG m c) (aWs m c) (aWa m c) (aWo m c) (aN m c) i := fun j i h => by
    obtain ⟨r, k, rfl⟩ : ∃ (r : Fin 1024) (k : Fin 512), j = ix2 r k := ⟨j 0, j 1, eq_ix2 j⟩
    obtain rfl := at_key i (spot t r) k _ t.val (out_ix t) r rfl h
    rw [after0_12]
    exact leaveA m c t r k
  exact key y (((cfg0.win 12).blk t).view.emb y) fun a => by fin_cases a <;> rfl

theorem finalB : (dats m 0 c).arrAt 13 cfg0.N = (fB (aX m c) (aS m c) (aA m c) (aG m c) (aWs m c) (aWa m c) (aWo m c) (aN m c) : S16384x512.Idx → EReal) := by
  refine (dats m 0 c).arrAt_eq_of_covers 13 (fB (aX m c) (aS m c) (aA m c) (aG m c) (aWs m c) (aWa m c) (aWo m c) (aN m c)) (by decide +kernel) fun t _ y => ?_
  have key : ∀ (j : S1024x512.Idx) (i : S16384x512.Idx), (∀ a : Fin 2, (i a).val = cc0_transform_13 (grid0.coords t) a * S1024x512.size a + 1 * (j a).val) →
      (dats m 0 c).after 13 t j = fB (aX m c) (aS m c) (aA m c) (aG m c) (aWs m c) (aWa m c) (aWo m c) (aN m c) i := fun j i h => by
    obtain ⟨r, k, rfl⟩ : ∃ (r : Fin 1024) (k : Fin 512), j = ix2 r k := ⟨j 0, j 1, eq_ix2 j⟩
    obtain rfl := at_key i (spot t r) k _ t.val (out_ix t) r rfl h
    rw [after0_13]
    exact leaveB m c t r k
  exact key y (((cfg0.win 13).blk t).view.emb y) fun a => by fin_cases a <;> rfl

/-- What the run ends with. -/
theorem run (ρ : Dev nD → PrngReg) : θ_run defs (onTc (τ := τ) (main (F := Ideal))) ⟨m, fun _ => 0, ρ⟩ fun r => ∀ c : Dev nD,
      r.2.mem ((c : Thread nD τ).loc main_v27_0) = fT (aX m c) (aS m c) (aA m c) (aG m c) (aWs m c) (aWa m c) (aWo m c)
      ∧ r.2.mem ((c : Thread nD τ).loc main_v27_1) = fA (aX m c) (aS m c) (aA m c) (aG m c) (aWs m c) (aWa m c) (aWo m c) (aN m c)
      ∧ r.2.mem ((c : Thread nD τ).loc main_v27_2) = fB (aX m c) (aS m c) (aA m c) (aG m c) (aWs m c) (aWa m c) (aWo m c) (aN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r h c => ?_) (Cert.Kernel5Ideal.Value.run_blocks m ρ)
  obtain ⟨h0, h1, h2, _, _, _, ha⟩ := h c
  exact ⟨h0.trans (finalT m c), h1.trans (finalA m c), h2.trans (finalB m c), ha⟩

end Cert.Proof.Outp

end
-- ==== Proof.Outp.lean ====
/-
  The output projection: the four statements about it.
-/
module

public import proofs.«01_k».proof.Defs
public import proofs.«01_k».proof.Proof.OutRef
public import proofs.«01_k».proof.Proof.OutRun
public import proofs.«01_k».proof.Proof.Gen.Kernel5
public import proofs.«01_k».proof.Proof.Gen.Kernel5.Skeleton

@[expose] public section

noncomputable section

namespace Cert.Proof

open Idealize.ShloMosaic Idealize.SL.Sem

/-- The printed program is the ideal one's text, so its runs are that one's, read over the bits. -/
theorem same_text_output : Cert.quiescent_Kernel5 = ∀ (m : (ℓ : Loc Cert.Kernel5Ideal.nD Cert.Kernel5Ideal.τ Cert.Kernel5Ideal.sig) → Buf (Elt Bits) ℓ) (ρ : Dev Cert.Kernel5Ideal.nD → PrngReg), True →
    θ_run (Cert.Kernel5Ideal.defs (F := Bits)) (onTc (τ := Cert.Kernel5Ideal.τ) (Cert.Kernel5Ideal.main (F := Bits))) ⟨m, fun _ => 0, ρ⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0) := by
  sl_kernel_rfl

theorem frame_output : Cert.quiescent_Kernel5 := same_text_output ▸ fun m ρ _ => Cert.Kernel5Ideal.Gen.frame (F := Bits) m ρ

theorem frame_output_ideal : Cert.quiescent_Kernel5Ideal := fun m ρ _ => Cert.Kernel5Ideal.Gen.frame m ρ

theorem frame_output_reference : Cert.quiescent_Reference5Ideal := fun m ρ _ =>
  (θ_run Cert.Reference5Ideal.defs _ _).mono (fun r h => ⟨fun c => (h c).2.2.2, Idealize.ShloMosaic.sem_eq_zero_of_no_sems (by decide) r.2⟩)
    (Outp.ref_run m ρ)

theorem algebraic_output : Cert.algebraic_Kernel5Ideal_Reference5Ideal := by
  intro m ρ m' ρ' _ hagree
  refine ⟨fun c => Outp.fT (Outp.aX m c) (Outp.aS m c) (Outp.aA m c) (Outp.aG m c) (Outp.aWs m c) (Outp.aWa m c) (Outp.aWo m c),
    fun c => Outp.fA (Outp.aX m c) (Outp.aS m c) (Outp.aA m c) (Outp.aG m c) (Outp.aWs m c) (Outp.aWa m c) (Outp.aWo m c) (Outp.aN m c),
    fun c => Outp.fB (Outp.aX m c) (Outp.aS m c) (Outp.aA m c) (Outp.aG m c) (Outp.aWs m c) (Outp.aWa m c) (Outp.aWo m c) (Outp.aN m c), Outp.run m ρ, ?_⟩
  refine (θ_run Cert.Reference5Ideal.defs _ _).mono (fun r h c => ?_) (Outp.ref_run m' ρ')
  obtain ⟨h0, h1, h2, ha⟩ := h c
  obtain ⟨e0, e1, e2, e3, e4, e5, e6, e7, _⟩ := hagree c
  rw [e0, e1, e2, e3, e4, e5, e6] at h0
  rw [e0, e1, e2, e3, e4, e5, e6, e7] at h1 h2
  exact ⟨h0, h1, h2, ha⟩

end Cert.Proof

end
-- ==== Proof.FirstForm.lean ====
/-
  The output projection of the first half of the tokens, as a formula.
-/
module

public import proofs.«01_k».proof.Proof.OutForm

@[expose] public section

noncomputable section

namespace Cert.Proof.Outp

open Cert.Proof.Gmm Cert.Proof.Inp
open Idealize.ShloMosaic

variable (x : FVec Ideal ⟨3, ![8, 4096, 1024]⟩ .f32) (s a : FVec Ideal ⟨3, ![8, 4096, 512]⟩ .bf16) (g : FVec Ideal ⟨2, ![32768, 2048]⟩ .bf16)
  (ws wa : FVec Ideal ⟨3, ![1, 512, 1024]⟩ .f32) (wo : FVec Ideal ⟨3, ![1, 1024, 1024]⟩ .f32) (nw : FVec Ideal ⟨2, ![1, 1024]⟩ .f32)

/-- A row of the first half, among all rows. -/
abbrev firstRow (i : Fin 16384) : Fin 32768 := ⟨i.val, by omega⟩

/-- The three results. -/
def gT (j : (⟨2, ![16384, 1024]⟩ : Shape).Idx) : EReal := token x s a g ws wa wo (firstRow (j 0)) (j 1)
def gA (j : (⟨2, ![16384, 512]⟩ : Shape).Idx) : EReal := normed x s a g ws wa wo nw (firstRow (j 0)) (colA (j 1))
def gB (j : (⟨2, ![16384, 512]⟩ : Shape).Idx) : EReal := normed x s a g ws wa wo nw (firstRow (j 0)) (colB (j 1))

end Cert.Proof.Outp

end
-- ==== Proof.FirstRef.lean ====
/-
  The output projection's reference on the first half of the tokens, entry by entry: the tokens and norms are the second half's
  terms, sliced elsewhere.
-/
module

public import proofs.«01_k».proof.Proof.FirstForm
public import proofs.«01_k».proof.Proof.OutRef
public import proofs.«01_k».proof.Proof.Gen.Reference6Ideal
public import proofs.«01_k».proof.Proof.Gen.Reference6Ideal.Run

@[expose] public section

set_option maxRecDepth 16384

noncomputable section

namespace Cert.Proof.Outp

open Cert.Proof.Gmm Cert.Proof.Inp
open Cert.Reference6Ideal Cert.Reference6Ideal.Gen Cert.Reference6Ideal.Value
open Idealize.ShloMosaic Idealize.ShloMosaic.TcCoe Idealize.SL.Sem

def headT (x : FVec Ideal S8x4096x1024 .f32) : FVec Ideal S16384x1024 .f32 := extractStridedSlice S16384x1024 ![0, 0] (shapeCast _ x shapeCasts_S8x4096x1024_S32768x1024) slices_S32768x1024_S16384x1024_0_0
def headA (h : FVec Ideal S32768x1024 .bf16) : FVec Ideal S16384x512 .bf16 :=
  fn_main_v36 (F := Ideal) (extractStridedSlice S16384x256 ![0, 0] h slices_S32768x1024_S16384x256_0_0) (extractStridedSlice S16384x256 ![0, 512] h slices_S32768x1024_S16384x256_0_512)
def headB (h : FVec Ideal S32768x1024 .bf16) : FVec Ideal S16384x512 .bf16 :=
  fn_main_v39 (F := Ideal) (extractStridedSlice S16384x256 ![0, 256] h slices_S32768x1024_S16384x256_0_256) (extractStridedSlice S16384x256 ![0, 768] h slices_S32768x1024_S16384x256_0_768)

theorem headT_at (x : FVec Ideal S8x4096x1024 .f32) (i : Fin 16384) (k : Fin 1024) : headT x (ix2 i k) = tok x (firstRow i) k := by
  unfold tok
  pointwise [headT]
theorem headA_at (h : FVec Ideal S32768x1024 .bf16) (i : Fin 16384) (k : Fin 512) : headA h (ix2 i k) = h (ix2 (firstRow i) (colA k)) := by
  unfold colA
  pointwise [headA, fn_main_v36]
  split_ifs <;> rfl
theorem headB_at (h : FVec Ideal S32768x1024 .bf16) (i : Fin 16384) (k : Fin 512) : headB h (ix2 i k) = h (ix2 (firstRow i) (colB k)) := by
  unfold colB
  pointwise [headB, fn_main_v39]
  split_ifs <;> rfl

section
variable (x : FVec Ideal S8x4096x1024 .f32) (s a : FVec Ideal S8x4096x512 .bf16) (g : FVec Ideal S32768x2048 .bf16)
  (ws wa : FVec Ideal S1x512x1024 .f32) (wo : FVec Ideal S1x1024x1024 .f32) (nw : FVec Ideal S1x1024 .f32)

theorem ref_headT : headT (tokens x (mixed (gates g) (branch a wa) (branch s ws)) wo) = gT x s a g ws wa wo := by
  funext j
  obtain ⟨i, k, rfl⟩ : ∃ (i : Fin 16384) (k : Fin 1024), j = ix2 i k := ⟨j 0, j 1, eq_ix2 j⟩
  exact (headT_at _ i k).trans (token_row x s a g ws wa wo (firstRow i) k)
theorem ref_headA : headA (narrow (norms (tokens x (mixed (gates g) (branch a wa) (branch s ws)) wo) nw)) = gA x s a g ws wa wo nw := by
  funext j
  obtain ⟨i, k, rfl⟩ : ∃ (i : Fin 16384) (k : Fin 512), j = ix2 i k := ⟨j 0, j 1, eq_ix2 j⟩
  exact (headA_at _ i k).trans ((narrow_at _ _ _).trans (norm_row x s a g ws wa wo nw (firstRow i) (colA k)))
theorem ref_headB : headB (narrow (norms (tokens x (mixed (gates g) (branch a wa) (branch s ws)) wo) nw)) = gB x s a g ws wa wo nw := by
  funext j
  obtain ⟨i, k, rfl⟩ : ∃ (i : Fin 16384) (k : Fin 512), j = ix2 i k := ⟨j 0, j 1, eq_ix2 j⟩
  exact (headB_at _ i k).trans ((narrow_at _ _ _).trans (norm_row x s a g ws wa wo nw (firstRow i) (colB k)))

end

section
variable (m : (ℓ : Loc nD τ sig) → Buf (Elt Ideal) ℓ) (ρ : Dev nD → PrngReg)

/-- The reference's run, its results the formulas. -/
theorem ref_run_first : θ_run defs (onTc (τ := τ) (main (F := Ideal))) ⟨m, fun _ => 0, ρ⟩ fun r => ∀ c : Dev nD,
      r.2.mem ((c : Thread nD τ).loc main_v33) = gT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v36) = gA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v39) = gB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r h c => ?_) (Cert.Reference6Ideal.Value.run (F := Ideal) m ρ)
  obtain ⟨t, a, b, h'⟩ := h c
  exact ⟨t.trans (ref_headT _ _ _ _ _ _ _), a.trans (ref_headA _ _ _ _ _ _ _ _), b.trans (ref_headB _ _ _ _ _ _ _ _), h'⟩

end

end Cert.Proof.Outp

end
-- ==== Proof.FirstTile.lean ====
/-
  What each point's body leaves in the three arrays, over the blocks it reads, in the call of the first half: the same body
  as the second half's, so its parts are that one's.
-/
module

public import proofs.«01_k».proof.Proof.OutTile
public import proofs.«01_k».proof.Proof.Gen.Kernel6Ideal.Frame

@[expose] public section

set_option maxRecDepth 16384

noncomputable section

namespace Cert.Proof.Outp

open Cert.Proof.Gmm Cert.Proof.Inp
open Cert.Kernel6Ideal Cert.Kernel6Ideal.Gen
open Idealize.ShloMosaic Idealize.ShloMosaic.TcCoe

variable (m : (ℓ : Loc nD τ sig) → Buf (Elt Ideal) ℓ) (c : Dev nD)

theorem firstT_at (t : Fin cfg0.N) (r k : Fin 1024) : (outsAt0 m c t.val t.isLt).1 (ix2 r k)
    = tileRow (iblk m c 0 t) (iblk m c 1 t) (iblk m c 2 t) (iblk m c 3 t) (iblk m c 4 t) (iblk m c 5 t) (iblk m c 6 t) r k := by
  by_cases h : t.val % 16 = 0
  on_goal 1 => rw [outsAt0_A m c t h]
  on_goal 2 => rw [outsAt0_B m c t h]
  all_goals
    generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10
    frame_out
    canon_tiles
    all_goals
      refine pieceT x0 x1 x2 x3 x4 x5 x6 _ _ _ _ _ r k x ?_ h1
      first | exact h0 | exact h0.trans (Nat.zero_add _).symm

theorem firstA_at (t : Fin cfg0.N) (r : Fin 1024) (k : Fin 512) : (outsAt0 m c t.val t.isLt).2.1 (ix2 r k)
    = Inp.norm (tileRow (iblk m c 0 t) (iblk m c 1 t) (iblk m c 2 t) (iblk m c 3 t) (iblk m c 4 t) (iblk m c 5 t) (iblk m c 6 t) r) (fun k => iblk m c 7 t (ix2 0 k)) (colA k) := by
  by_cases h : t.val % 16 = 0
  on_goal 1 => rw [outsAt0_A m c t h]
  on_goal 2 => rw [outsAt0_B m c t h]
  all_goals
    generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10
    frame_out
    canon_tiles
    all_goals
      refine pieceA x0 x1 x2 x3 x4 x5 x6 x7 _ _ _ _ _ r k x ?_ h1
      first | exact h0 | exact h0.trans (Nat.zero_add _).symm

theorem firstB_at (t : Fin cfg0.N) (r : Fin 1024) (k : Fin 512) : (outsAt0 m c t.val t.isLt).2.2.1 (ix2 r k)
    = Inp.norm (tileRow (iblk m c 0 t) (iblk m c 1 t) (iblk m c 2 t) (iblk m c 3 t) (iblk m c 4 t) (iblk m c 5 t) (iblk m c 6 t) r) (fun k => iblk m c 7 t (ix2 0 k)) (colB k) := by
  by_cases h : t.val % 16 = 0
  on_goal 1 => rw [outsAt0_A m c t h]
  on_goal 2 => rw [outsAt0_B m c t h]
  all_goals
    generalize iblk m c 0 t = x0, iblk m c 1 t = x1, iblk m c 2 t = x2, iblk m c 3 t = x3, iblk m c 4 t = x4, iblk m c 5 t = x5, iblk m c 6 t = x6, iblk m c 7 t = x7, iblk m c 8 t = x8, iblk m c 9 t = x9, iblk m c 10 t = x10
    frame_out
    canon_tiles
    all_goals
      refine pieceB x0 x1 x2 x3 x4 x5 x6 x7 _ _ _ _ _ r k x ?_ h1
      first | exact h0 | exact h0.trans (Nat.zero_add _).symm

end Cert.Proof.Outp

end
-- ==== Proof.FirstHost.lean ====
/-
  The blocks the points of the first half's call read: the host prepares the same operands, and the tiles start at the first row.
-/
module

public import proofs.«01_k».proof.Proof.FirstTile
public import proofs.«01_k».proof.Proof.OutHost

@[expose] public section

set_option maxRecDepth 16384

noncomputable section

namespace Cert.Proof.Outp

open Cert.Proof.Gmm Cert.Proof.Inp
open Cert.Kernel6Ideal Cert.Kernel6Ideal.Gen
open Idealize.ShloMosaic Idealize.ShloMosaic.TcCoe

variable (m : (ℓ : Loc nD τ sig) → Buf (Elt Ideal) ℓ) (c : Dev nD)

theorem first_in (t : Fin grid0.N) : cc0_transform_0 (grid0.coords t) = ![t.val, 0] := by
  revert t; decide +kernel
theorem first_out (t : Fin grid0.N) : cc0_transform_11 (grid0.coords t) = ![t.val, 0] := by
  revert t; decide +kernel
theorem first_whole (t : Fin grid0.N) : cc0_transform_4 (grid0.coords t) = ![0, 0] := by
  revert t; decide +kernel

variable (t : Fin 16) (r : Fin 1024) (i : Fin 32768) (hi : i.val = t.val * 1024 + r.val)

theorem first_x (hi : i.val = t.val * 1024 + r.val) (k : Fin 1024) : iblk m c 0 t (ix2 r k) = tok (aX m c) i k :=
  (congrArg (V m c main_v22) (at_key (((cfg0.win 0).blk t).view.emb (ix2 r k)) i k _ t.val (first_in t) r hi fun a => by fin_cases a <;> rfl)).trans (V_x m c i k)
theorem first_s (hi : i.val = t.val * 1024 + r.val) (k : Fin 512) : iblk m c 1 t (ix2 r k) = tok (aS m c) i k :=
  (congrArg (V m c main_v23) (at_key (((cfg0.win 1).blk t).view.emb (ix2 r k)) i k _ t.val (first_in t) r hi fun a => by fin_cases a <;> rfl)).trans (V_s m c i k)
theorem first_a (hi : i.val = t.val * 1024 + r.val) (k : Fin 512) : iblk m c 2 t (ix2 r k) = tok (aA m c) i k :=
  (congrArg (V m c main_v24) (at_key (((cfg0.win 2).blk t).view.emb (ix2 r k)) i k _ t.val (first_in t) r hi fun a => by fin_cases a <;> rfl)).trans (V_a m c i k)
theorem first_g (hi : i.val = t.val * 1024 + r.val) (k : Fin 2048) : iblk m c 3 t (ix2 r k) = aG m c (ix2 i k) :=
  (congrArg (V m c main_arg3) (at_key (((cfg0.win 3).blk t).view.emb (ix2 r k)) i k _ t.val (first_in t) r hi fun a => by fin_cases a <;> rfl)).trans (congrFun (V_g_eq m c) (ix2 i k))
theorem first_ws (k : Fin 512) (j : Fin 1024) : iblk m c 4 t (ix2 k j) = aWs m c (ix3 0 k j) :=
  (congrArg (V m c main_v14) (at_key (((cfg0.win 4).blk t).view.emb (ix2 k j)) k j _ 0 (first_whole t) k (by omega) fun a => by fin_cases a <;> rfl)).trans (V_ws m c k j)
theorem first_wa (k : Fin 512) (j : Fin 1024) : iblk m c 5 t (ix2 k j) = aWa m c (ix3 0 k j) :=
  (congrArg (V m c main_v16) (at_key (((cfg0.win 5).blk t).view.emb (ix2 k j)) k j _ 0 (first_whole t) k (by omega) fun a => by fin_cases a <;> rfl)).trans (V_wa m c k j)
theorem first_wo (k : Fin 1024) (j : Fin 1024) : iblk m c 6 t (ix2 k j) = aWo m c (ix3 0 k j) :=
  (congrArg (V m c main_v18) (at_key (((cfg0.win 6).blk t).view.emb (ix2 k j)) k j _ 0 (first_whole t) k (by omega) fun a => by fin_cases a <;> rfl)).trans (V_wo m c k j)
theorem first_n (k : Fin 1024) : iblk m c 7 t (ix2 0 k) = aN m c (ix2 0 k) :=
  (congrArg (V m c main_v20) (at_key (((cfg0.win 7).blk t).view.emb (ix2 0 k)) 0 k _ 0 (first_whole t) (0 : Fin 1) rfl fun a => by fin_cases a <;> rfl)).trans (V_n m c k)

/-- A tile's row is the token's. -/
theorem first_row (hi : i.val = t.val * 1024 + r.val) :
    tileRow (iblk m c 0 t) (iblk m c 1 t) (iblk m c 2 t) (iblk m c 3 t) (iblk m c 4 t) (iblk m c 5 t) (iblk m c 6 t) r = token (aX m c) (aS m c) (aA m c) (aG m c) (aWs m c) (aWa m c) (aWo m c) i := by
  funext k
  unfold tileRow token
  have e0 := funext fun k => first_x m c t r i hi k
  have e1 := funext fun k => first_s m c t r i hi k
  have e2 := funext fun k => first_a m c t r i hi k
  have e3 := funext fun k => first_g m c t r i hi k
  have e4 := funext fun k => funext fun j => first_ws m c t k j
  have e5 := funext fun k => funext fun j => first_wa m c t k j
  have e6 := funext fun k => funext fun j => first_wo m c t k j
  exact congr (congr (congr (congr (congr (congr (congr (congrArg after e0) e3) e2) e1) e5) e4) e6) rfl

end Cert.Proof.Outp

end
-- ==== Proof.FirstRun.lean ====
/-
  The output projection's launch over the first half of the tokens leaves the formula in the three arrays it returns.
-/
module

public import proofs.«01_k».proof.Proof.FirstForm
public import proofs.«01_k».proof.Proof.FirstHost
public import proofs.«01_k».proof.Proof.OutRun
public import proofs.«01_k».proof.Proof.Gen.Kernel6Ideal.Value

@[expose] public section

set_option maxRecDepth 16384

noncomputable section

namespace Cert.Proof.Outp

open Cert.Proof.Gmm Cert.Proof.Inp
open Cert.Kernel6Ideal Cert.Kernel6Ideal.Gen
open Idealize.ShloMosaic Idealize.ShloMosaic.TcCoe Idealize.SL.Sem

variable (m : (ℓ : Loc nD τ sig) → Buf (Elt Ideal) ℓ) (c : Dev nD)

theorem spot_first (t : Fin 16) (r : Fin 1024) : (firstRow (spot t r)).val = t.val * 1024 + r.val := rfl

theorem first_leaveT (t : Fin 16) (r : Fin 1024) (k : Fin 1024) :
    (outsAt0 m c t.val t.isLt).1 (ix2 r k) = gT (aX m c) (aS m c) (aA m c) (aG m c) (aWs m c) (aWa m c) (aWo m c) (ix2 (spot t r) k) :=
  (firstT_at m c t r k).trans (congrFun (first_row m c t r (firstRow (spot t r)) (spot_first t r)) k)
theorem first_leaveA (t : Fin 16) (r : Fin 1024) (k : Fin 512) :
    (outsAt0 m c t.val t.isLt).2.1 (ix2 r k) = gA (aX m c) (aS m c) (aA m c) (aG m c) (aWs m c) (aWa m c) (aWo m c) (aN m c) (ix2 (spot t r) k) :=
  (firstA_at m c t r k).trans (congrFun (congr (congrArg Inp.norm (first_row m c t r (firstRow (spot t r)) (spot_first t r))) (funext fun k => first_n m c t k)) (colA k))
theorem first_leaveB (t : Fin 16) (r : Fin 1024) (k : Fin 512) :
    (outsAt0 m c t.val t.isLt).2.2.1 (ix2 r k) = gB (aX m c) (aS m c) (aA m c) (aG m c) (aWs m c) (aWa m c) (aWo m c) (aN m c) (ix2 (spot t r) k) :=
  (firstB_at m c t r k).trans (congrFun (congr (congrArg Inp.norm (first_row m c t r (firstRow (spot t r)) (spot_first t r))) (funext fun k => first_n m c t k)) (colB k))

theorem first_finalT : (dats m 0 c).arrAt 11 cfg0.N = (gT (aX m c) (aS m c) (aA m c) (aG m c) (aWs m c) (aWa m c) (aWo m c) : S16384x1024.Idx → EReal) := by
  refine (dats m 0 c).arrAt_eq_of_covers 11 (gT (aX m c) (aS m c) (aA m c) (aG m c) (aWs m c) (aWa m c) (aWo m c)) (by decide +kernel) fun t _ y => ?_
  have key : ∀ (j : S1024x1024.Idx) (i : S16384x1024.Idx), (∀ a : Fin 2, (i a).val = cc0_transform_11 (grid0.coords t) a * S1024x1024.size a + 1 * (j a).val) →
      (dats m 0 c).after 11 t j = gT (aX m c) (aS m c) (aA m c) (aG m c) (aWs m c) (aWa m c) (aWo m c) i := fun j i h => by
    obtain ⟨r, k, rfl⟩ : ∃ (r : Fin 1024) (k : Fin 1024), j = ix2 r k := ⟨j 0, j 1, eq_ix2 j⟩
    obtain rfl := at_key i (spot t r) k _ t.val (first_out t) r rfl h
    rw [after0_11]
    exact first_leaveT m c t r k
  exact key y (((cfg0.win 11).blk t).view.emb y) fun a => by fin_cases a <;> rfl

theorem first_finalA : (dats m 0 c).arrAt 12 cfg0.N = (gA (aX m c) (aS m c) (aA m c) (aG m c) (aWs m c) (aWa m c) (aWo m c) (aN m c) : S16384x512.Idx → EReal) := by
  refine (dats m 0 c).arrAt_eq_of_covers 12 (gA (aX m c) (aS m c) (aA m c) (aG m c) (aWs m c) (aWa m c) (aWo m c) (aN m c)) (by decide +kernel) fun t _ y => ?_
  have key : ∀ (j : S1024x512.Idx) (i : S16384x512.Idx), (∀ a : Fin 2, (i a).val = cc0_transform_12 (grid0.coords t) a * S1024x512.size a + 1 * (j a).val) →
      (dats m 0 c).after 12 t j = gA (aX m c) (aS m c) (aA m c) (aG m c) (aWs m c) (aWa m c) (aWo m c) (aN m c) i := fun j i h => by
    obtain ⟨r, k, rfl⟩ : ∃ (r : Fin 1024) (k : Fin 512), j = ix2 r k := ⟨j 0, j 1, eq_ix2 j⟩
    obtain rfl := at_key i (spot t r) k _ t.val (first_out t) r rfl h
    rw [after0_12]
    exact first_leaveA m c t r k
  exact key y (((cfg0.win 12).blk t).view.emb y) fun a => by fin_cases a <;> rfl

theorem first_finalB : (dats m 0 c).arrAt 13 cfg0.N = (gB (aX m c) (aS m c) (aA m c) (aG m c) (aWs m c) (aWa m c) (aWo m c) (aN m c) : S16384x512.Idx → EReal) := by
  refine (dats m 0 c).arrAt_eq_of_covers 13 (gB (aX m c) (aS m c) (aA m c) (aG m c) (aWs m c) (aWa m c) (aWo m c) (aN m c)) (by decide +kernel) fun t _ y => ?_
  have key : ∀ (j : S1024x512.Idx) (i : S16384x512.Idx), (∀ a : Fin 2, (i a).val = cc0_transform_13 (grid0.coords t) a * S1024x512.size a + 1 * (j a).val) →
      (dats m 0 c).after 13 t j = gB (aX m c) (aS m c) (aA m c) (aG m c) (aWs m c) (aWa m c) (aWo m c) (aN m c) i := fun j i h => by
    obtain ⟨r, k, rfl⟩ : ∃ (r : Fin 1024) (k : Fin 512), j = ix2 r k := ⟨j 0, j 1, eq_ix2 j⟩
    obtain rfl := at_key i (spot t r) k _ t.val (first_out t) r rfl h
    rw [after0_13]
    exact first_leaveB m c t r k
  exact key y (((cfg0.win 13).blk t).view.emb y) fun a => by fin_cases a <;> rfl

/-- The arguments as launched. -/
abbrev bX : FVec Ideal S8x4096x1024 .f32 := m ((c : Thread nD τ).loc main_arg0)
abbrev bS : FVec Ideal S8x4096x512 .bf16 := m ((c : Thread nD τ).loc main_arg1)
abbrev bA : FVec Ideal S8x4096x512 .bf16 := m ((c : Thread nD τ).loc main_arg2)
abbrev bG : FVec Ideal S32768x2048 .bf16 := m ((c : Thread nD τ).loc main_arg3)
abbrev bWs : FVec Ideal S1x512x1024 .f32 := m ((c : Thread nD τ).loc main_arg4)
abbrev bWa : FVec Ideal S1x512x1024 .f32 := m ((c : Thread nD τ).loc main_arg5)
abbrev bWo : FVec Ideal S1x1024x1024 .f32 := m ((c : Thread nD τ).loc main_arg6)
abbrev bN : FVec Ideal S1x1024 .f32 := m ((c : Thread nD τ).loc main_arg7)

/-- What the run ends with. -/
theorem run_first (ρ : Dev nD → PrngReg) : θ_run defs (onTc (τ := τ) (main (F := Ideal))) ⟨m, fun _ => 0, ρ⟩ fun r => ∀ c : Dev nD,
      r.2.mem ((c : Thread nD τ).loc main_v27_0) = gT (bX m c) (bS m c) (bA m c) (bG m c) (bWs m c) (bWa m c) (bWo m c)
      ∧ r.2.mem ((c : Thread nD τ).loc main_v27_1) = gA (bX m c) (bS m c) (bA m c) (bG m c) (bWs m c) (bWa m c) (bWo m c) (bN m c)
      ∧ r.2.mem ((c : Thread nD τ).loc main_v27_2) = gB (bX m c) (bS m c) (bA m c) (bG m c) (bWs m c) (bWa m c) (bWo m c) (bN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r h c => ?_) (Cert.Kernel6Ideal.Value.run_blocks m ρ)
  obtain ⟨h0, h1, h2, _, _, _, ha⟩ := h c
  exact ⟨h0.trans (first_finalT m c), h1.trans (first_finalA m c), h2.trans (first_finalB m c), ha⟩

end Cert.Proof.Outp

end
-- ==== Proof.First.lean ====
/-
  The output projection of the first half of the tokens: the four statements about it.
-/
module

public import proofs.«01_k».proof.Defs
public import proofs.«01_k».proof.Proof.FirstRef
public import proofs.«01_k».proof.Proof.FirstRun
public import proofs.«01_k».proof.Proof.Gen.Kernel6
public import proofs.«01_k».proof.Proof.Gen.Kernel6.Skeleton

@[expose] public section

noncomputable section

namespace Cert.Proof

open Idealize.ShloMosaic Idealize.SL.Sem

/-- The printed program is the ideal one's text, so its runs are that one's, read over the bits. -/
theorem same_text_output_first : Cert.quiescent_Kernel6 = ∀ (m : (ℓ : Loc Cert.Kernel6Ideal.nD Cert.Kernel6Ideal.τ Cert.Kernel6Ideal.sig) → Buf (Elt Bits) ℓ) (ρ : Dev Cert.Kernel6Ideal.nD → PrngReg), True →
    θ_run (Cert.Kernel6Ideal.defs (F := Bits)) (onTc (τ := Cert.Kernel6Ideal.τ) (Cert.Kernel6Ideal.main (F := Bits))) ⟨m, fun _ => 0, ρ⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0) := by
  sl_kernel_rfl

theorem frame_output_first : Cert.quiescent_Kernel6 := same_text_output_first ▸ fun m ρ _ => Cert.Kernel6Ideal.Gen.frame (F := Bits) m ρ

theorem frame_output_first_ideal : Cert.quiescent_Kernel6Ideal := fun m ρ _ => Cert.Kernel6Ideal.Gen.frame m ρ

theorem frame_output_first_reference : Cert.quiescent_Reference6Ideal := fun m ρ _ =>
  (θ_run Cert.Reference6Ideal.defs _ _).mono (fun r h => ⟨fun c => (h c).2.2.2, Idealize.ShloMosaic.sem_eq_zero_of_no_sems (by decide) r.2⟩)
    (Outp.ref_run_first m ρ)

theorem algebraic_output_first : Cert.algebraic_Kernel6Ideal_Reference6Ideal := by
  intro m ρ m' ρ' _ hagree
  refine ⟨fun c => Outp.gT (Outp.bX m c) (Outp.bS m c) (Outp.bA m c) (Outp.bG m c) (Outp.bWs m c) (Outp.bWa m c) (Outp.bWo m c),
    fun c => Outp.gA (Outp.bX m c) (Outp.bS m c) (Outp.bA m c) (Outp.bG m c) (Outp.bWs m c) (Outp.bWa m c) (Outp.bWo m c) (Outp.bN m c),
    fun c => Outp.gB (Outp.bX m c) (Outp.bS m c) (Outp.bA m c) (Outp.bG m c) (Outp.bWs m c) (Outp.bWa m c) (Outp.bWo m c) (Outp.bN m c), Outp.run_first m ρ, ?_⟩
  refine (θ_run Cert.Reference6Ideal.defs _ _).mono (fun r h c => ?_) (Outp.ref_run_first m' ρ')
  obtain ⟨h0, h1, h2, ha⟩ := h c
  obtain ⟨e0, e1, e2, e3, e4, e5, e6, e7, _⟩ := hagree c
  rw [e0, e1, e2, e3, e4, e5, e6] at h0
  rw [e0, e1, e2, e3, e4, e5, e6, e7] at h1 h2
  exact ⟨h0, h1, h2, ha⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Pre_idx_in_rows
public import proofs.«01_k».proof.Proof.Gen.Pre_tiles_in_range
public import proofs.«01_k».proof.Proof.Gen.On_rows_in_use
public import proofs.«01_k».proof.Proof.Gen.Kernel2
public import proofs.«01_k».proof.Proof.Gen.Kernel2.Skeleton
public import proofs.«01_k».proof.Proof.Gen.Kernel2Ideal
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4Ideal
public import proofs.«01_k».proof.Proof.Gen.Kernel4Ideal.Skeleton
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5Ideal
public import proofs.«01_k».proof.Proof.Gen.Kernel5Ideal.Skeleton
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6Ideal
public import proofs.«01_k».proof.Proof.Gen.Kernel6Ideal.Skeleton
public import proofs.«01_k».proof.Proof.Gen.Kernel6Ideal.Value
public import proofs.«01_k».proof.Proof.Gen.Reference6Ideal
public import proofs.«01_k».proof.Proof.Gen.Reference6Ideal.Run
public import proofs.«01_k».proof.Proof.Launch
public import proofs.«01_k».proof.Proof.Ref
public import proofs.«01_k».proof.Proof.GmmMatch
public import proofs.«01_k».proof.Proof.GmmPre
public import proofs.«01_k».proof.Proof.Comb
public import proofs.«01_k».proof.Proof.Inp
public import proofs.«01_k».proof.Proof.Outp
public import proofs.«01_k».proof.Proof.First

@[expose] public section

noncomputable section

namespace Cert.Proof

open Idealize.ShloMosaic Idealize.SL.Sem
open Cert.Proof.Gather (InRows QC run_main ref_value)

/-- The precondition, all ones, puts every position in range: non-negative as a signed word, it is its own value. -/
theorem in_rows {F : FTy → Type} [FloatOps F] {tb : IVec ⟨2, ![40960, 256]⟩ 32} {ix : IVec ⟨1, ![32768]⟩ 32}
    (h : Pre_idx_in_rows.fn (F := F) tb ix = fun _ => 1#1) : ∀ j, (ix j).toNat < 40960 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 40960#32) = 1#1 → v.toNat < 40960 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  intro j
  have e := congrFun h j
  simp only [Pre_idx_in_rows.fn, andi, cmpi, broadcastInDim, constantI] at e
  exact key _ e

theorem frame_kernel_ideal : Cert.quiescent_KernelIdeal := fun m ρ hpre =>
  (θ_run Cert.KernelIdeal.defs _ _).mono (fun _ h => ⟨fun c => (h.1 c).2, h.2⟩) (run_main (F := Ideal) m ρ fun d => in_rows (hpre d))

theorem frame_kernel : Cert.quiescent_Kernel := fun m ρ hpre =>
  (θ_run Cert.KernelIdeal.defs _ _).mono (fun _ h => ⟨fun c => (h.1 c).2, h.2⟩) (run_main (F := Bits) m ρ fun d => in_rows (hpre d))

theorem frame_reference : Cert.quiescent_Reference := fun m ρ _ =>
  (θ_run Cert.Reference.defs _ _).mono (fun r h => ⟨fun c => (h c).2, Idealize.ShloMosaic.sem_eq_zero_of_no_sems (by decide) r.2⟩)
    (Cert.Reference.Value.run (F := Bits) m ρ)

theorem frame_reference_ideal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal := by
  intro m ρ m' ρ' hpre hagree
  refine ⟨fun c => Gather.resOf m c, (θ_run Cert.KernelIdeal.defs _ _).mono (fun _ h c => h.1 c) (run_main (F := Ideal) m ρ fun d => in_rows (hpre d)), ?_⟩
  refine (θ_run Cert.ReferenceIdeal.defs _ _).mono (fun _ h c => ⟨(h c).1.trans ?_, (h c).2⟩) (Cert.ReferenceIdeal.Value.run (F := Ideal) m' ρ')
  rw [(hagree c).1, (hagree c).2]
  exact ref_value _ rfl rfl rfl rfl rfl _ _ (in_rows (hpre c)) _ _ _

theorem bitexact : Cert.bitexact_Kernel_Reference := by
  intro m ρ m' ρ' hpre hagree
  refine ⟨fun c => Gather.resOf m c, (θ_run Cert.KernelIdeal.defs _ _).mono (fun _ h c => h.1 c) (run_main (F := Bits) m ρ fun d => in_rows (hpre d)), ?_⟩
  refine (θ_run Cert.Reference.defs _ _).mono (fun _ h c => ⟨(h c).1.trans ?_, (h c).2⟩) (Cert.Reference.Value.run (F := Bits) m' ρ')
  rw [(hagree c).1, (hagree c).2]
  exact ref_value _ rfl rfl rfl rfl rfl _ _ (in_rows (hpre c)) _ _ _

/-! ## The grouped projections of the experts -/

section
variable {F : FTy → Type} [FloatOps F] {m : (ℓ : Loc Cert.Kernel2Ideal.nD Cert.Kernel2Ideal.τ Cert.Kernel2Ideal.sig) → Buf (Elt F) ℓ}

/-- The tile count's one word. -/
theorem tile_count : Gmm.ntW (Gmm.ntT m) = Gmm.ntT m (ix1 0) :=
  congrArg (Gmm.ntT m) (by funext a; fin_cases a; rfl)

/-- The precondition, all ones, puts both tables in range. -/
theorem tiles_in_range {xa xb : IVec ⟨2, ![40960, 256]⟩ 32} {w1 w3 : FVec F ⟨3, ![16, 1024, 512]⟩ .f32} {w2 : FVec F ⟨3, ![16, 512, 1024]⟩ .f32}
    (h : Pre_tiles_in_range.fn (F := F) (Gmm.teT m) (Gmm.ntT m) xa xb w1 w3 w2 = fun _ => 1#1) : Gmm.InRange m := by
  obtain ⟨h1, h2, h3⟩ := Gmm.tables_in_range h
  exact ⟨by rw [Gmm.nN, tile_count]; exact h2, by rw [Gmm.nN, tile_count]; exact h3, h1⟩

/-- A row the mask selects lies in a tile in use. -/
theorem selected {xa xb : IVec ⟨2, ![40960, 256]⟩ 32} {w1 w3 : FVec F ⟨3, ![16, 1024, 512]⟩ .f32} {w2 : FVec F ⟨3, ![16, 512, 1024]⟩ .f32}
    (hR : Gmm.InRange m) (i : (⟨2, ![40960, 512]⟩ : Shape).Idx)
    (h : (On_rows_in_use.fn (F := F) (Gmm.teT m) (Gmm.ntT m) xa xb w1 w3 w2).1 i = 1#1
      ∨ (On_rows_in_use.fn (F := F) (Gmm.teT m) (Gmm.ntT m) xa xb w1 w3 w2).2 i = 1#1) : (i 0).val / 512 < Gmm.nN m := by
  have hn := hR.hi
  rw [Gmm.nN, tile_count] at hn ⊢
  exact Gmm.row_in_use hn i (h.elim id id)

end

theorem frame_experts_ideal : Cert.quiescent_Kernel2Ideal := fun m ρ hpre =>
  (θ_run Cert.Kernel2Ideal.defs _ _).mono (fun _ h => ⟨fun c => (h.1 c).2, h.2⟩) (Gmm.run_main (F := Ideal) (tiles_in_range (hpre 0)) ρ)

/-- The printed program is the ideal one's text, so its runs are that one's, read over the bits. -/
theorem same_text : Cert.quiescent_Kernel2 = ∀ (m : (ℓ : Loc Cert.Kernel2Ideal.nD Cert.Kernel2Ideal.τ Cert.Kernel2Ideal.sig) → Buf (Elt Bits) ℓ) (ρ : Dev Cert.Kernel2Ideal.nD → PrngReg),
    (∀ c : Dev Cert.Kernel2Ideal.nD, Pre_tiles_in_range.fn (F := Bits) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) = fun _ => 1#1) →
    θ_run (Cert.Kernel2Ideal.defs (F := Bits)) (onTc (τ := Cert.Kernel2Ideal.τ) (Cert.Kernel2Ideal.main (F := Bits))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0) := by
  sl_kernel_rfl

theorem frame_experts : Cert.quiescent_Kernel2 := same_text ▸ fun m ρ hpre =>
  (θ_run Cert.Kernel2Ideal.defs _ _).mono (fun _ h => ⟨fun c => (h.1 c).2, h.2⟩) (Gmm.run_main (F := Bits) (tiles_in_range (hpre 0)) ρ)

theorem frame_experts_reference : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

theorem algebraic_experts : Cert.algebraic_Kernel2Ideal_Reference2Ideal_on_rows_in_use := by
  intro m ρ m' ρ' hpre hagree
  have hR : Gmm.InRange m := tiles_in_range (hpre 0)
  have hA : ∀ c, Gmm.Agree m m' c := fun c =>
    ⟨(hagree c).1, (hagree c).2.2.1, (hagree c).2.2.2.1, (hagree c).2.2.2.2.1, (hagree c).2.2.2.2.2.1, (hagree c).2.2.2.2.2.2⟩
  refine ⟨fun c => Gmm.outResA hR c, fun c => Gmm.outResB hR c, (θ_run Cert.Kernel2Ideal.defs _ _).mono (fun r h c => ?_) (Gmm.run_main (F := Ideal) hR ρ),
    (θ_run Cert.Reference2Ideal.defs _ _).mono (fun r h c => ?_) (Cert.Reference2Ideal.Value.run (F := Ideal) m' ρ')⟩
  · obtain rfl : c = 0 := Subsingleton.elim _ _
    exact ⟨fun i hi => (h.1 0).1.1 i (selected hR i (.inl hi)), fun i hi => (h.1 0).1.2 i (selected hR i (.inr hi)), (h.1 0).2⟩
  · obtain rfl : c = 0 := Subsingleton.elim _ _
    exact ⟨fun i hi => (congrFun (h 0).1 i).trans (Gmm.results_agree hR 0 (hA 0) i (selected hR i (.inl hi))).1.symm,
      fun i hi => (congrFun (h 0).2.1 i).trans (Gmm.results_agree hR 0 (hA 0) i (selected hR i (.inr hi))).2.symm, (h 0).2.2⟩

/-- Every claim of the problem, from one run of each of the six calls. -/
theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    frame_kernel, frame_kernel_ideal, frame_reference_ideal, frame_reference, frame_experts, frame_experts_ideal, frame_experts_reference, frame_combine, frame_combine_ideal, frame_combine_reference,
    frame_project, frame_project_ideal, frame_project_reference, frame_output, frame_output_ideal, frame_output_reference,
    frame_output_first, frame_output_first_ideal, frame_output_first_reference,
    trivial, algebraic, bitexact, trivial, algebraic_experts, trivial, algebraic_combine, trivial, algebraic_project, trivial, algebraic_output, trivial, algebraic_output_first⟩

end Cert.Proof

end
